-- ==== Defs.lean ====
def Pre_C4 (m : (ℓ : Loc Cert.C4.nD Cert.C4.τ Cert.C4.sig) → Buf (Elt Bits) ℓ) : Prop :=
  True

def Pre_C4Ideal (m : (ℓ : Loc Cert.C4Ideal.nD Cert.C4Ideal.τ Cert.C4Ideal.sig) → Buf (Elt Ideal) ℓ) : Prop :=
  True

def Pre_R4Ideal (m : (ℓ : Loc Cert.R4Ideal.nD Cert.R4Ideal.τ Cert.R4Ideal.sig) → Buf (Elt Ideal) ℓ) : Prop :=
  True

def Pre_C3 (m : (ℓ : Loc Cert.C3.nD Cert.C3.τ Cert.C3.sig) → Buf (Elt Bits) ℓ) : Prop :=
  True

def Pre_C3Ideal (m : (ℓ : Loc Cert.C3Ideal.nD Cert.C3Ideal.τ Cert.C3Ideal.sig) → Buf (Elt Ideal) ℓ) : Prop :=
  True

def Pre_R3Ideal (m : (ℓ : Loc Cert.R3Ideal.nD Cert.R3Ideal.τ Cert.R3Ideal.sig) → Buf (Elt Ideal) ℓ) : Prop :=
  True

def Pre_C1 (m : (ℓ : Loc Cert.C1.nD Cert.C1.τ Cert.C1.sig) → Buf (Elt Bits) ℓ) : Prop :=
  True

def Pre_C1Ideal (m : (ℓ : Loc Cert.C1Ideal.nD Cert.C1Ideal.τ Cert.C1Ideal.sig) → Buf (Elt Ideal) ℓ) : Prop :=
  True

def Pre_R1Ideal (m : (ℓ : Loc Cert.R1Ideal.nD Cert.R1Ideal.τ Cert.R1Ideal.sig) → Buf (Elt Ideal) ℓ) : Prop :=
  True

def Pre_C2 (m : (ℓ : Loc Cert.C2.nD Cert.C2.τ Cert.C2.sig) → Buf (Elt Bits) ℓ) : Prop :=
  True

def Pre_C2Ideal (m : (ℓ : Loc Cert.C2Ideal.nD Cert.C2Ideal.τ Cert.C2Ideal.sig) → Buf (Elt Ideal) ℓ) : Prop :=
  True

def Pre_R2Ideal (m : (ℓ : Loc Cert.R2Ideal.nD Cert.R2Ideal.τ Cert.R2Ideal.sig) → Buf (Elt Ideal) ℓ) : Prop :=
  True

def quiescent_C4 [hC4 : Cert.C4.Facts] : Prop :=
  ∀ (m : (ℓ : Loc Cert.C4.nD Cert.C4.τ Cert.C4.sig) → Buf (Elt Bits) ℓ) (g : Dev Cert.C4.nD → PrngReg), Pre_C4 m →
    θ_run (Cert.C4.defs (F := Bits)) (onTc (τ := Cert.C4.τ) (Cert.C4.main (F := Bits))) ⟨m, fun _ => 0, g⟩ (fun r => (∀ c : Dev Cert.C4.nD,
      r.2.mem ((c.tc : Thread Cert.C4.nD Cert.C4.τ).loc Cert.C4.main_arg0) = m ((c.tc : Thread Cert.C4.nD Cert.C4.τ).loc Cert.C4.main_arg0)
      ∧ r.2.mem ((c.tc : Thread Cert.C4.nD Cert.C4.τ).loc Cert.C4.main_arg1) = m ((c.tc : Thread Cert.C4.nD Cert.C4.τ).loc Cert.C4.main_arg1)
      ∧ r.2.mem ((c.tc : Thread Cert.C4.nD Cert.C4.τ).loc Cert.C4.main_arg2) = m ((c.tc : Thread Cert.C4.nD Cert.C4.τ).loc Cert.C4.main_arg2)
      ∧ r.2.mem ((c.tc : Thread Cert.C4.nD Cert.C4.τ).loc Cert.C4.main_arg3) = m ((c.tc : Thread Cert.C4.nD Cert.C4.τ).loc Cert.C4.main_arg3)
      ∧ r.2.mem ((c.tc : Thread Cert.C4.nD Cert.C4.τ).loc Cert.C4.main_arg4) = m ((c.tc : Thread Cert.C4.nD Cert.C4.τ).loc Cert.C4.main_arg4)
      ∧ r.2.mem ((c.tc : Thread Cert.C4.nD Cert.C4.τ).loc Cert.C4.main_arg5) = m ((c.tc : Thread Cert.C4.nD Cert.C4.τ).loc Cert.C4.main_arg5)
      ∧ r.2.mem ((c.tc : Thread Cert.C4.nD Cert.C4.τ).loc Cert.C4.main_arg6) = m ((c.tc : Thread Cert.C4.nD Cert.C4.τ).loc Cert.C4.main_arg6)
      ∧ r.2.mem ((c.tc : Thread Cert.C4.nD Cert.C4.τ).loc Cert.C4.main_arg7) = m ((c.tc : Thread Cert.C4.nD Cert.C4.τ).loc Cert.C4.main_arg7)
      ∧ r.2.mem ((c.tc : Thread Cert.C4.nD Cert.C4.τ).loc Cert.C4.main_arg8) = m ((c.tc : Thread Cert.C4.nD Cert.C4.τ).loc Cert.C4.main_arg8))
      ∧ r.2.sem = fun _ => 0)

def quiescent_C4Ideal [hC4Ideal : Cert.C4Ideal.Facts] : Prop :=
  ∀ (m : (ℓ : Loc Cert.C4Ideal.nD Cert.C4Ideal.τ Cert.C4Ideal.sig) → Buf (Elt Ideal) ℓ) (g : Dev Cert.C4Ideal.nD → PrngReg), Pre_C4Ideal m →
    θ_run (Cert.C4Ideal.defs (F := Ideal)) (onTc (τ := Cert.C4Ideal.τ) (Cert.C4Ideal.main (F := Ideal))) ⟨m, fun _ => 0, g⟩ (fun r => (∀ c : Dev Cert.C4Ideal.nD,
      r.2.mem ((c.tc : Thread Cert.C4Ideal.nD Cert.C4Ideal.τ).loc Cert.C4Ideal.main_arg0) = m ((c.tc : Thread Cert.C4Ideal.nD Cert.C4Ideal.τ).loc Cert.C4Ideal.main_arg0)
      ∧ r.2.mem ((c.tc : Thread Cert.C4Ideal.nD Cert.C4Ideal.τ).loc Cert.C4Ideal.main_arg1) = m ((c.tc : Thread Cert.C4Ideal.nD Cert.C4Ideal.τ).loc Cert.C4Ideal.main_arg1)
      ∧ r.2.mem ((c.tc : Thread Cert.C4Ideal.nD Cert.C4Ideal.τ).loc Cert.C4Ideal.main_arg2) = m ((c.tc : Thread Cert.C4Ideal.nD Cert.C4Ideal.τ).loc Cert.C4Ideal.main_arg2)
      ∧ r.2.mem ((c.tc : Thread Cert.C4Ideal.nD Cert.C4Ideal.τ).loc Cert.C4Ideal.main_arg3) = m ((c.tc : Thread Cert.C4Ideal.nD Cert.C4Ideal.τ).loc Cert.C4Ideal.main_arg3)
      ∧ r.2.mem ((c.tc : Thread Cert.C4Ideal.nD Cert.C4Ideal.τ).loc Cert.C4Ideal.main_arg4) = m ((c.tc : Thread Cert.C4Ideal.nD Cert.C4Ideal.τ).loc Cert.C4Ideal.main_arg4)
      ∧ r.2.mem ((c.tc : Thread Cert.C4Ideal.nD Cert.C4Ideal.τ).loc Cert.C4Ideal.main_arg5) = m ((c.tc : Thread Cert.C4Ideal.nD Cert.C4Ideal.τ).loc Cert.C4Ideal.main_arg5)
      ∧ r.2.mem ((c.tc : Thread Cert.C4Ideal.nD Cert.C4Ideal.τ).loc Cert.C4Ideal.main_arg6) = m ((c.tc : Thread Cert.C4Ideal.nD Cert.C4Ideal.τ).loc Cert.C4Ideal.main_arg6)
      ∧ r.2.mem ((c.tc : Thread Cert.C4Ideal.nD Cert.C4Ideal.τ).loc Cert.C4Ideal.main_arg7) = m ((c.tc : Thread Cert.C4Ideal.nD Cert.C4Ideal.τ).loc Cert.C4Ideal.main_arg7)
      ∧ r.2.mem ((c.tc : Thread Cert.C4Ideal.nD Cert.C4Ideal.τ).loc Cert.C4Ideal.main_arg8) = m ((c.tc : Thread Cert.C4Ideal.nD Cert.C4Ideal.τ).loc Cert.C4Ideal.main_arg8))
      ∧ r.2.sem = fun _ => 0)

def quiescent_R4Ideal [hR4Ideal : Cert.R4Ideal.Facts] : Prop :=
  ∀ (m : (ℓ : Loc Cert.R4Ideal.nD Cert.R4Ideal.τ Cert.R4Ideal.sig) → Buf (Elt Ideal) ℓ) (g : Dev Cert.R4Ideal.nD → PrngReg), Pre_R4Ideal m →
    θ_run (Cert.R4Ideal.defs (F := Ideal)) (onTc (τ := Cert.R4Ideal.τ) (Cert.R4Ideal.main (F := Ideal))) ⟨m, fun _ => 0, g⟩ (fun r => (∀ c : Dev Cert.R4Ideal.nD,
      r.2.mem ((c.tc : Thread Cert.R4Ideal.nD Cert.R4Ideal.τ).loc Cert.R4Ideal.main_arg0) = m ((c.tc : Thread Cert.R4Ideal.nD Cert.R4Ideal.τ).loc Cert.R4Ideal.main_arg0)
      ∧ r.2.mem ((c.tc : Thread Cert.R4Ideal.nD Cert.R4Ideal.τ).loc Cert.R4Ideal.main_arg1) = m ((c.tc : Thread Cert.R4Ideal.nD Cert.R4Ideal.τ).loc Cert.R4Ideal.main_arg1)
      ∧ r.2.mem ((c.tc : Thread Cert.R4Ideal.nD Cert.R4Ideal.τ).loc Cert.R4Ideal.main_arg2) = m ((c.tc : Thread Cert.R4Ideal.nD Cert.R4Ideal.τ).loc Cert.R4Ideal.main_arg2)
      ∧ r.2.mem ((c.tc : Thread Cert.R4Ideal.nD Cert.R4Ideal.τ).loc Cert.R4Ideal.main_arg3) = m ((c.tc : Thread Cert.R4Ideal.nD Cert.R4Ideal.τ).loc Cert.R4Ideal.main_arg3)
      ∧ r.2.mem ((c.tc : Thread Cert.R4Ideal.nD Cert.R4Ideal.τ).loc Cert.R4Ideal.main_arg4) = m ((c.tc : Thread Cert.R4Ideal.nD Cert.R4Ideal.τ).loc Cert.R4Ideal.main_arg4)
      ∧ r.2.mem ((c.tc : Thread Cert.R4Ideal.nD Cert.R4Ideal.τ).loc Cert.R4Ideal.main_arg5) = m ((c.tc : Thread Cert.R4Ideal.nD Cert.R4Ideal.τ).loc Cert.R4Ideal.main_arg5)
      ∧ r.2.mem ((c.tc : Thread Cert.R4Ideal.nD Cert.R4Ideal.τ).loc Cert.R4Ideal.main_arg6) = m ((c.tc : Thread Cert.R4Ideal.nD Cert.R4Ideal.τ).loc Cert.R4Ideal.main_arg6)
      ∧ r.2.mem ((c.tc : Thread Cert.R4Ideal.nD Cert.R4Ideal.τ).loc Cert.R4Ideal.main_arg7) = m ((c.tc : Thread Cert.R4Ideal.nD Cert.R4Ideal.τ).loc Cert.R4Ideal.main_arg7)
      ∧ r.2.mem ((c.tc : Thread Cert.R4Ideal.nD Cert.R4Ideal.τ).loc Cert.R4Ideal.main_arg8) = m ((c.tc : Thread Cert.R4Ideal.nD Cert.R4Ideal.τ).loc Cert.R4Ideal.main_arg8))
      ∧ r.2.sem = fun _ => 0)

def quiescent_C3 [hC3 : Cert.C3.Facts] : Prop :=
  ∀ (m : (ℓ : Loc Cert.C3.nD Cert.C3.τ Cert.C3.sig) → Buf (Elt Bits) ℓ) (g : Dev Cert.C3.nD → PrngReg), Pre_C3 m →
    θ_run (Cert.C3.defs (F := Bits)) (onTc (τ := Cert.C3.τ) (Cert.C3.main (F := Bits))) ⟨m, fun _ => 0, g⟩ (fun r => (∀ c : Dev Cert.C3.nD,
      r.2.mem ((c.tc : Thread Cert.C3.nD Cert.C3.τ).loc Cert.C3.main_arg0) = m ((c.tc : Thread Cert.C3.nD Cert.C3.τ).loc Cert.C3.main_arg0)
      ∧ r.2.mem ((c.tc : Thread Cert.C3.nD Cert.C3.τ).loc Cert.C3.main_arg1) = m ((c.tc : Thread Cert.C3.nD Cert.C3.τ).loc Cert.C3.main_arg1)
      ∧ r.2.mem ((c.tc : Thread Cert.C3.nD Cert.C3.τ).loc Cert.C3.main_arg2) = m ((c.tc : Thread Cert.C3.nD Cert.C3.τ).loc Cert.C3.main_arg2)
      ∧ r.2.mem ((c.tc : Thread Cert.C3.nD Cert.C3.τ).loc Cert.C3.main_arg3) = m ((c.tc : Thread Cert.C3.nD Cert.C3.τ).loc Cert.C3.main_arg3)
      ∧ r.2.mem ((c.tc : Thread Cert.C3.nD Cert.C3.τ).loc Cert.C3.main_arg4) = m ((c.tc : Thread Cert.C3.nD Cert.C3.τ).loc Cert.C3.main_arg4)
      ∧ r.2.mem ((c.tc : Thread Cert.C3.nD Cert.C3.τ).loc Cert.C3.main_arg5) = m ((c.tc : Thread Cert.C3.nD Cert.C3.τ).loc Cert.C3.main_arg5))
      ∧ r.2.sem = fun _ => 0)

def quiescent_C3Ideal [hC3Ideal : Cert.C3Ideal.Facts] : Prop :=
  ∀ (m : (ℓ : Loc Cert.C3Ideal.nD Cert.C3Ideal.τ Cert.C3Ideal.sig) → Buf (Elt Ideal) ℓ) (g : Dev Cert.C3Ideal.nD → PrngReg), Pre_C3Ideal m →
    θ_run (Cert.C3Ideal.defs (F := Ideal)) (onTc (τ := Cert.C3Ideal.τ) (Cert.C3Ideal.main (F := Ideal))) ⟨m, fun _ => 0, g⟩ (fun r => (∀ c : Dev Cert.C3Ideal.nD,
      r.2.mem ((c.tc : Thread Cert.C3Ideal.nD Cert.C3Ideal.τ).loc Cert.C3Ideal.main_arg0) = m ((c.tc : Thread Cert.C3Ideal.nD Cert.C3Ideal.τ).loc Cert.C3Ideal.main_arg0)
      ∧ r.2.mem ((c.tc : Thread Cert.C3Ideal.nD Cert.C3Ideal.τ).loc Cert.C3Ideal.main_arg1) = m ((c.tc : Thread Cert.C3Ideal.nD Cert.C3Ideal.τ).loc Cert.C3Ideal.main_arg1)
      ∧ r.2.mem ((c.tc : Thread Cert.C3Ideal.nD Cert.C3Ideal.τ).loc Cert.C3Ideal.main_arg2) = m ((c.tc : Thread Cert.C3Ideal.nD Cert.C3Ideal.τ).loc Cert.C3Ideal.main_arg2)
      ∧ r.2.mem ((c.tc : Thread Cert.C3Ideal.nD Cert.C3Ideal.τ).loc Cert.C3Ideal.main_arg3) = m ((c.tc : Thread Cert.C3Ideal.nD Cert.C3Ideal.τ).loc Cert.C3Ideal.main_arg3)
      ∧ r.2.mem ((c.tc : Thread Cert.C3Ideal.nD Cert.C3Ideal.τ).loc Cert.C3Ideal.main_arg4) = m ((c.tc : Thread Cert.C3Ideal.nD Cert.C3Ideal.τ).loc Cert.C3Ideal.main_arg4)
      ∧ r.2.mem ((c.tc : Thread Cert.C3Ideal.nD Cert.C3Ideal.τ).loc Cert.C3Ideal.main_arg5) = m ((c.tc : Thread Cert.C3Ideal.nD Cert.C3Ideal.τ).loc Cert.C3Ideal.main_arg5))
      ∧ r.2.sem = fun _ => 0)

def quiescent_R3Ideal [hR3Ideal : Cert.R3Ideal.Facts] : Prop :=
  ∀ (m : (ℓ : Loc Cert.R3Ideal.nD Cert.R3Ideal.τ Cert.R3Ideal.sig) → Buf (Elt Ideal) ℓ) (g : Dev Cert.R3Ideal.nD → PrngReg), Pre_R3Ideal m →
    θ_run (Cert.R3Ideal.defs (F := Ideal)) (onTc (τ := Cert.R3Ideal.τ) (Cert.R3Ideal.main (F := Ideal))) ⟨m, fun _ => 0, g⟩ (fun r => (∀ c : Dev Cert.R3Ideal.nD,
      r.2.mem ((c.tc : Thread Cert.R3Ideal.nD Cert.R3Ideal.τ).loc Cert.R3Ideal.main_arg0) = m ((c.tc : Thread Cert.R3Ideal.nD Cert.R3Ideal.τ).loc Cert.R3Ideal.main_arg0)
      ∧ r.2.mem ((c.tc : Thread Cert.R3Ideal.nD Cert.R3Ideal.τ).loc Cert.R3Ideal.main_arg1) = m ((c.tc : Thread Cert.R3Ideal.nD Cert.R3Ideal.τ).loc Cert.R3Ideal.main_arg1)
      ∧ r.2.mem ((c.tc : Thread Cert.R3Ideal.nD Cert.R3Ideal.τ).loc Cert.R3Ideal.main_arg2) = m ((c.tc : Thread Cert.R3Ideal.nD Cert.R3Ideal.τ).loc Cert.R3Ideal.main_arg2)
      ∧ r.2.mem ((c.tc : Thread Cert.R3Ideal.nD Cert.R3Ideal.τ).loc Cert.R3Ideal.main_arg3) = m ((c.tc : Thread Cert.R3Ideal.nD Cert.R3Ideal.τ).loc Cert.R3Ideal.main_arg3)
      ∧ r.2.mem ((c.tc : Thread Cert.R3Ideal.nD Cert.R3Ideal.τ).loc Cert.R3Ideal.main_arg4) = m ((c.tc : Thread Cert.R3Ideal.nD Cert.R3Ideal.τ).loc Cert.R3Ideal.main_arg4)
      ∧ r.2.mem ((c.tc : Thread Cert.R3Ideal.nD Cert.R3Ideal.τ).loc Cert.R3Ideal.main_arg5) = m ((c.tc : Thread Cert.R3Ideal.nD Cert.R3Ideal.τ).loc Cert.R3Ideal.main_arg5))
      ∧ r.2.sem = fun _ => 0)

def quiescent_C1 [hC1 : Cert.C1.Facts] : Prop :=
  ∀ (m : (ℓ : Loc Cert.C1.nD Cert.C1.τ Cert.C1.sig) → Buf (Elt Bits) ℓ) (g : Dev Cert.C1.nD → PrngReg), Pre_C1 m →
    θ_run (Cert.C1.defs (F := Bits)) (onTc (τ := Cert.C1.τ) (Cert.C1.main (F := Bits))) ⟨m, fun _ => 0, g⟩ (fun r => (∀ c : Dev Cert.C1.nD,
      r.2.mem ((c.tc : Thread Cert.C1.nD Cert.C1.τ).loc Cert.C1.main_arg0) = m ((c.tc : Thread Cert.C1.nD Cert.C1.τ).loc Cert.C1.main_arg0)
      ∧ r.2.mem ((c.tc : Thread Cert.C1.nD Cert.C1.τ).loc Cert.C1.main_arg1) = m ((c.tc : Thread Cert.C1.nD Cert.C1.τ).loc Cert.C1.main_arg1)
      ∧ r.2.mem ((c.tc : Thread Cert.C1.nD Cert.C1.τ).loc Cert.C1.main_arg2) = m ((c.tc : Thread Cert.C1.nD Cert.C1.τ).loc Cert.C1.main_arg2)
      ∧ r.2.mem ((c.tc : Thread Cert.C1.nD Cert.C1.τ).loc Cert.C1.main_arg3) = m ((c.tc : Thread Cert.C1.nD Cert.C1.τ).loc Cert.C1.main_arg3)
      ∧ r.2.mem ((c.tc : Thread Cert.C1.nD Cert.C1.τ).loc Cert.C1.main_arg4) = m ((c.tc : Thread Cert.C1.nD Cert.C1.τ).loc Cert.C1.main_arg4)
      ∧ r.2.mem ((c.tc : Thread Cert.C1.nD Cert.C1.τ).loc Cert.C1.main_arg5) = m ((c.tc : Thread Cert.C1.nD Cert.C1.τ).loc Cert.C1.main_arg5))
      ∧ r.2.sem = fun _ => 0)

def quiescent_C1Ideal [hC1Ideal : Cert.C1Ideal.Facts] : Prop :=
  ∀ (m : (ℓ : Loc Cert.C1Ideal.nD Cert.C1Ideal.τ Cert.C1Ideal.sig) → Buf (Elt Ideal) ℓ) (g : Dev Cert.C1Ideal.nD → PrngReg), Pre_C1Ideal m →
    θ_run (Cert.C1Ideal.defs (F := Ideal)) (onTc (τ := Cert.C1Ideal.τ) (Cert.C1Ideal.main (F := Ideal))) ⟨m, fun _ => 0, g⟩ (fun r => (∀ c : Dev Cert.C1Ideal.nD,
      r.2.mem ((c.tc : Thread Cert.C1Ideal.nD Cert.C1Ideal.τ).loc Cert.C1Ideal.main_arg0) = m ((c.tc : Thread Cert.C1Ideal.nD Cert.C1Ideal.τ).loc Cert.C1Ideal.main_arg0)
      ∧ r.2.mem ((c.tc : Thread Cert.C1Ideal.nD Cert.C1Ideal.τ).loc Cert.C1Ideal.main_arg1) = m ((c.tc : Thread Cert.C1Ideal.nD Cert.C1Ideal.τ).loc Cert.C1Ideal.main_arg1)
      ∧ r.2.mem ((c.tc : Thread Cert.C1Ideal.nD Cert.C1Ideal.τ).loc Cert.C1Ideal.main_arg2) = m ((c.tc : Thread Cert.C1Ideal.nD Cert.C1Ideal.τ).loc Cert.C1Ideal.main_arg2)
      ∧ r.2.mem ((c.tc : Thread Cert.C1Ideal.nD Cert.C1Ideal.τ).loc Cert.C1Ideal.main_arg3) = m ((c.tc : Thread Cert.C1Ideal.nD Cert.C1Ideal.τ).loc Cert.C1Ideal.main_arg3)
      ∧ r.2.mem ((c.tc : Thread Cert.C1Ideal.nD Cert.C1Ideal.τ).loc Cert.C1Ideal.main_arg4) = m ((c.tc : Thread Cert.C1Ideal.nD Cert.C1Ideal.τ).loc Cert.C1Ideal.main_arg4)
      ∧ r.2.mem ((c.tc : Thread Cert.C1Ideal.nD Cert.C1Ideal.τ).loc Cert.C1Ideal.main_arg5) = m ((c.tc : Thread Cert.C1Ideal.nD Cert.C1Ideal.τ).loc Cert.C1Ideal.main_arg5))
      ∧ r.2.sem = fun _ => 0)

def quiescent_R1Ideal [hR1Ideal : Cert.R1Ideal.Facts] : Prop :=
  ∀ (m : (ℓ : Loc Cert.R1Ideal.nD Cert.R1Ideal.τ Cert.R1Ideal.sig) → Buf (Elt Ideal) ℓ) (g : Dev Cert.R1Ideal.nD → PrngReg), Pre_R1Ideal m →
    θ_run (Cert.R1Ideal.defs (F := Ideal)) (onTc (τ := Cert.R1Ideal.τ) (Cert.R1Ideal.main (F := Ideal))) ⟨m, fun _ => 0, g⟩ (fun r => (∀ c : Dev Cert.R1Ideal.nD,
      r.2.mem ((c.tc : Thread Cert.R1Ideal.nD Cert.R1Ideal.τ).loc Cert.R1Ideal.main_arg0) = m ((c.tc : Thread Cert.R1Ideal.nD Cert.R1Ideal.τ).loc Cert.R1Ideal.main_arg0)
      ∧ r.2.mem ((c.tc : Thread Cert.R1Ideal.nD Cert.R1Ideal.τ).loc Cert.R1Ideal.main_arg1) = m ((c.tc : Thread Cert.R1Ideal.nD Cert.R1Ideal.τ).loc Cert.R1Ideal.main_arg1)
      ∧ r.2.mem ((c.tc : Thread Cert.R1Ideal.nD Cert.R1Ideal.τ).loc Cert.R1Ideal.main_arg2) = m ((c.tc : Thread Cert.R1Ideal.nD Cert.R1Ideal.τ).loc Cert.R1Ideal.main_arg2)
      ∧ r.2.mem ((c.tc : Thread Cert.R1Ideal.nD Cert.R1Ideal.τ).loc Cert.R1Ideal.main_arg3) = m ((c.tc : Thread Cert.R1Ideal.nD Cert.R1Ideal.τ).loc Cert.R1Ideal.main_arg3)
      ∧ r.2.mem ((c.tc : Thread Cert.R1Ideal.nD Cert.R1Ideal.τ).loc Cert.R1Ideal.main_arg4) = m ((c.tc : Thread Cert.R1Ideal.nD Cert.R1Ideal.τ).loc Cert.R1Ideal.main_arg4)
      ∧ r.2.mem ((c.tc : Thread Cert.R1Ideal.nD Cert.R1Ideal.τ).loc Cert.R1Ideal.main_arg5) = m ((c.tc : Thread Cert.R1Ideal.nD Cert.R1Ideal.τ).loc Cert.R1Ideal.main_arg5))
      ∧ r.2.sem = fun _ => 0)

def quiescent_C2 [hC2 : Cert.C2.Facts] : Prop :=
  ∀ (m : (ℓ : Loc Cert.C2.nD Cert.C2.τ Cert.C2.sig) → Buf (Elt Bits) ℓ) (g : Dev Cert.C2.nD → PrngReg), Pre_C2 m →
    θ_run (Cert.C2.defs (F := Bits)) (onTc (τ := Cert.C2.τ) (Cert.C2.main (F := Bits))) ⟨m, fun _ => 0, g⟩ (fun r => (∀ c : Dev Cert.C2.nD,
      r.2.mem ((c.tc : Thread Cert.C2.nD Cert.C2.τ).loc Cert.C2.main_arg0) = m ((c.tc : Thread Cert.C2.nD Cert.C2.τ).loc Cert.C2.main_arg0)
      ∧ r.2.mem ((c.tc : Thread Cert.C2.nD Cert.C2.τ).loc Cert.C2.main_arg1) = m ((c.tc : Thread Cert.C2.nD Cert.C2.τ).loc Cert.C2.main_arg1)
      ∧ r.2.mem ((c.tc : Thread Cert.C2.nD Cert.C2.τ).loc Cert.C2.main_arg2) = m ((c.tc : Thread Cert.C2.nD Cert.C2.τ).loc Cert.C2.main_arg2))
      ∧ r.2.sem = fun _ => 0)

def quiescent_C2Ideal [hC2Ideal : Cert.C2Ideal.Facts] : Prop :=
  ∀ (m : (ℓ : Loc Cert.C2Ideal.nD Cert.C2Ideal.τ Cert.C2Ideal.sig) → Buf (Elt Ideal) ℓ) (g : Dev Cert.C2Ideal.nD → PrngReg), Pre_C2Ideal m →
    θ_run (Cert.C2Ideal.defs (F := Ideal)) (onTc (τ := Cert.C2Ideal.τ) (Cert.C2Ideal.main (F := Ideal))) ⟨m, fun _ => 0, g⟩ (fun r => (∀ c : Dev Cert.C2Ideal.nD,
      r.2.mem ((c.tc : Thread Cert.C2Ideal.nD Cert.C2Ideal.τ).loc Cert.C2Ideal.main_arg0) = m ((c.tc : Thread Cert.C2Ideal.nD Cert.C2Ideal.τ).loc Cert.C2Ideal.main_arg0)
      ∧ r.2.mem ((c.tc : Thread Cert.C2Ideal.nD Cert.C2Ideal.τ).loc Cert.C2Ideal.main_arg1) = m ((c.tc : Thread Cert.C2Ideal.nD Cert.C2Ideal.τ).loc Cert.C2Ideal.main_arg1)
      ∧ r.2.mem ((c.tc : Thread Cert.C2Ideal.nD Cert.C2Ideal.τ).loc Cert.C2Ideal.main_arg2) = m ((c.tc : Thread Cert.C2Ideal.nD Cert.C2Ideal.τ).loc Cert.C2Ideal.main_arg2))
      ∧ r.2.sem = fun _ => 0)

def quiescent_R2Ideal [hR2Ideal : Cert.R2Ideal.Facts] : Prop :=
  ∀ (m : (ℓ : Loc Cert.R2Ideal.nD Cert.R2Ideal.τ Cert.R2Ideal.sig) → Buf (Elt Ideal) ℓ) (g : Dev Cert.R2Ideal.nD → PrngReg), Pre_R2Ideal m →
    θ_run (Cert.R2Ideal.defs (F := Ideal)) (onTc (τ := Cert.R2Ideal.τ) (Cert.R2Ideal.main (F := Ideal))) ⟨m, fun _ => 0, g⟩ (fun r => (∀ c : Dev Cert.R2Ideal.nD,
      r.2.mem ((c.tc : Thread Cert.R2Ideal.nD Cert.R2Ideal.τ).loc Cert.R2Ideal.main_arg0) = m ((c.tc : Thread Cert.R2Ideal.nD Cert.R2Ideal.τ).loc Cert.R2Ideal.main_arg0)
      ∧ r.2.mem ((c.tc : Thread Cert.R2Ideal.nD Cert.R2Ideal.τ).loc Cert.R2Ideal.main_arg1) = m ((c.tc : Thread Cert.R2Ideal.nD Cert.R2Ideal.τ).loc Cert.R2Ideal.main_arg1)
      ∧ r.2.mem ((c.tc : Thread Cert.R2Ideal.nD Cert.R2Ideal.τ).loc Cert.R2Ideal.main_arg2) = m ((c.tc : Thread Cert.R2Ideal.nD Cert.R2Ideal.τ).loc Cert.R2Ideal.main_arg2))
      ∧ r.2.sem = fun _ => 0)

def preserves_C4_C4Ideal : Prop :=
  True

def algebraic_C4Ideal_R4Ideal [hC4Ideal : Cert.C4Ideal.Facts] [hR4Ideal : Cert.R4Ideal.Facts] : Prop :=
  ∀ (m : (ℓ : Loc Cert.C4Ideal.nD Cert.C4Ideal.τ Cert.C4Ideal.sig) → Buf (Elt Ideal) ℓ) (g : Dev Cert.C4Ideal.nD → PrngReg)
    (m' : (ℓ : Loc Cert.R4Ideal.nD Cert.R4Ideal.τ Cert.R4Ideal.sig) → Buf (Elt Ideal) ℓ) (g' : Dev Cert.R4Ideal.nD → PrngReg), Pre_C4Ideal m →
    (∀ c : Dev Cert.C4Ideal.nD,
      m' ((c.tc : Thread Cert.R4Ideal.nD Cert.R4Ideal.τ).loc Cert.R4Ideal.main_arg0) = m ((c.tc : Thread Cert.C4Ideal.nD Cert.C4Ideal.τ).loc Cert.C4Ideal.main_arg0)
      ∧ m' ((c.tc : Thread Cert.R4Ideal.nD Cert.R4Ideal.τ).loc Cert.R4Ideal.main_arg1) = m ((c.tc : Thread Cert.C4Ideal.nD Cert.C4Ideal.τ).loc Cert.C4Ideal.main_arg1)
      ∧ m' ((c.tc : Thread Cert.R4Ideal.nD Cert.R4Ideal.τ).loc Cert.R4Ideal.main_arg2) = m ((c.tc : Thread Cert.C4Ideal.nD Cert.C4Ideal.τ).loc Cert.C4Ideal.main_arg2)
      ∧ m' ((c.tc : Thread Cert.R4Ideal.nD Cert.R4Ideal.τ).loc Cert.R4Ideal.main_arg3) = m ((c.tc : Thread Cert.C4Ideal.nD Cert.C4Ideal.τ).loc Cert.C4Ideal.main_arg3)
      ∧ m' ((c.tc : Thread Cert.R4Ideal.nD Cert.R4Ideal.τ).loc Cert.R4Ideal.main_arg4) = m ((c.tc : Thread Cert.C4Ideal.nD Cert.C4Ideal.τ).loc Cert.C4Ideal.main_arg4)
      ∧ m' ((c.tc : Thread Cert.R4Ideal.nD Cert.R4Ideal.τ).loc Cert.R4Ideal.main_arg5) = m ((c.tc : Thread Cert.C4Ideal.nD Cert.C4Ideal.τ).loc Cert.C4Ideal.main_arg5)
      ∧ m' ((c.tc : Thread Cert.R4Ideal.nD Cert.R4Ideal.τ).loc Cert.R4Ideal.main_arg6) = m ((c.tc : Thread Cert.C4Ideal.nD Cert.C4Ideal.τ).loc Cert.C4Ideal.main_arg6)
      ∧ m' ((c.tc : Thread Cert.R4Ideal.nD Cert.R4Ideal.τ).loc Cert.R4Ideal.main_arg7) = m ((c.tc : Thread Cert.C4Ideal.nD Cert.C4Ideal.τ).loc Cert.C4Ideal.main_arg7)
      ∧ m' ((c.tc : Thread Cert.R4Ideal.nD Cert.R4Ideal.τ).loc Cert.R4Ideal.main_arg8) = m ((c.tc : Thread Cert.C4Ideal.nD Cert.C4Ideal.τ).loc Cert.C4Ideal.main_arg8)) →
    ∃ (v0 : (c : Dev Cert.C4Ideal.nD) → Buf (Elt Ideal) ((c.tc : Thread Cert.C4Ideal.nD Cert.C4Ideal.τ).loc Cert.C4Ideal.main_v0)),
      θ_run (Cert.C4Ideal.defs (F := Ideal)) (onTc (τ := Cert.C4Ideal.τ) (Cert.C4Ideal.main (F := Ideal))) ⟨m, fun _ => 0, g⟩ (fun r => ∀ c : Dev Cert.C4Ideal.nD,
          r.2.mem ((c.tc : Thread Cert.C4Ideal.nD Cert.C4Ideal.τ).loc Cert.C4Ideal.main_v0) = v0 c
          ∧ r.2.mem ((c.tc : Thread Cert.C4Ideal.nD Cert.C4Ideal.τ).loc Cert.C4Ideal.main_arg0) = m ((c.tc : Thread Cert.C4Ideal.nD Cert.C4Ideal.τ).loc Cert.C4Ideal.main_arg0)
          ∧ r.2.mem ((c.tc : Thread Cert.C4Ideal.nD Cert.C4Ideal.τ).loc Cert.C4Ideal.main_arg1) = m ((c.tc : Thread Cert.C4Ideal.nD Cert.C4Ideal.τ).loc Cert.C4Ideal.main_arg1)
          ∧ r.2.mem ((c.tc : Thread Cert.C4Ideal.nD Cert.C4Ideal.τ).loc Cert.C4Ideal.main_arg2) = m ((c.tc : Thread Cert.C4Ideal.nD Cert.C4Ideal.τ).loc Cert.C4Ideal.main_arg2)
          ∧ r.2.mem ((c.tc : Thread Cert.C4Ideal.nD Cert.C4Ideal.τ).loc Cert.C4Ideal.main_arg3) = m ((c.tc : Thread Cert.C4Ideal.nD Cert.C4Ideal.τ).loc Cert.C4Ideal.main_arg3)
          ∧ r.2.mem ((c.tc : Thread Cert.C4Ideal.nD Cert.C4Ideal.τ).loc Cert.C4Ideal.main_arg4) = m ((c.tc : Thread Cert.C4Ideal.nD Cert.C4Ideal.τ).loc Cert.C4Ideal.main_arg4)
          ∧ r.2.mem ((c.tc : Thread Cert.C4Ideal.nD Cert.C4Ideal.τ).loc Cert.C4Ideal.main_arg5) = m ((c.tc : Thread Cert.C4Ideal.nD Cert.C4Ideal.τ).loc Cert.C4Ideal.main_arg5)
          ∧ r.2.mem ((c.tc : Thread Cert.C4Ideal.nD Cert.C4Ideal.τ).loc Cert.C4Ideal.main_arg6) = m ((c.tc : Thread Cert.C4Ideal.nD Cert.C4Ideal.τ).loc Cert.C4Ideal.main_arg6)
          ∧ r.2.mem ((c.tc : Thread Cert.C4Ideal.nD Cert.C4Ideal.τ).loc Cert.C4Ideal.main_arg7) = m ((c.tc : Thread Cert.C4Ideal.nD Cert.C4Ideal.τ).loc Cert.C4Ideal.main_arg7)
          ∧ r.2.mem ((c.tc : Thread Cert.C4Ideal.nD Cert.C4Ideal.τ).loc Cert.C4Ideal.main_arg8) = m ((c.tc : Thread Cert.C4Ideal.nD Cert.C4Ideal.τ).loc Cert.C4Ideal.main_arg8))
      ∧ θ_run (Cert.R4Ideal.defs (F := Ideal)) (onTc (τ := Cert.R4Ideal.τ) (Cert.R4Ideal.main (F := Ideal))) ⟨m', fun _ => 0, g'⟩ (fun r => ∀ c : Dev Cert.R4Ideal.nD,
          r.2.mem ((c.tc : Thread Cert.R4Ideal.nD Cert.R4Ideal.τ).loc Cert.R4Ideal.main_v26) = v0 c
          ∧ r.2.mem ((c.tc : Thread Cert.R4Ideal.nD Cert.R4Ideal.τ).loc Cert.R4Ideal.main_arg0) = m' ((c.tc : Thread Cert.R4Ideal.nD Cert.R4Ideal.τ).loc Cert.R4Ideal.main_arg0)
          ∧ r.2.mem ((c.tc : Thread Cert.R4Ideal.nD Cert.R4Ideal.τ).loc Cert.R4Ideal.main_arg1) = m' ((c.tc : Thread Cert.R4Ideal.nD Cert.R4Ideal.τ).loc Cert.R4Ideal.main_arg1)
          ∧ r.2.mem ((c.tc : Thread Cert.R4Ideal.nD Cert.R4Ideal.τ).loc Cert.R4Ideal.main_arg2) = m' ((c.tc : Thread Cert.R4Ideal.nD Cert.R4Ideal.τ).loc Cert.R4Ideal.main_arg2)
          ∧ r.2.mem ((c.tc : Thread Cert.R4Ideal.nD Cert.R4Ideal.τ).loc Cert.R4Ideal.main_arg3) = m' ((c.tc : Thread Cert.R4Ideal.nD Cert.R4Ideal.τ).loc Cert.R4Ideal.main_arg3)
          ∧ r.2.mem ((c.tc : Thread Cert.R4Ideal.nD Cert.R4Ideal.τ).loc Cert.R4Ideal.main_arg4) = m' ((c.tc : Thread Cert.R4Ideal.nD Cert.R4Ideal.τ).loc Cert.R4Ideal.main_arg4)
          ∧ r.2.mem ((c.tc : Thread Cert.R4Ideal.nD Cert.R4Ideal.τ).loc Cert.R4Ideal.main_arg5) = m' ((c.tc : Thread Cert.R4Ideal.nD Cert.R4Ideal.τ).loc Cert.R4Ideal.main_arg5)
          ∧ r.2.mem ((c.tc : Thread Cert.R4Ideal.nD Cert.R4Ideal.τ).loc Cert.R4Ideal.main_arg6) = m' ((c.tc : Thread Cert.R4Ideal.nD Cert.R4Ideal.τ).loc Cert.R4Ideal.main_arg6)
          ∧ r.2.mem ((c.tc : Thread Cert.R4Ideal.nD Cert.R4Ideal.τ).loc Cert.R4Ideal.main_arg7) = m' ((c.tc : Thread Cert.R4Ideal.nD Cert.R4Ideal.τ).loc Cert.R4Ideal.main_arg7)
          ∧ r.2.mem ((c.tc : Thread Cert.R4Ideal.nD Cert.R4Ideal.τ).loc Cert.R4Ideal.main_arg8) = m' ((c.tc : Thread Cert.R4Ideal.nD Cert.R4Ideal.τ).loc Cert.R4Ideal.main_arg8))

def preserves_C3_C3Ideal : Prop :=
  IdealRules.named_const.Statement Cert.C3Ideal.κ "scale" .f32 0x3DB504F3#32 (((Real.sqrt 128)⁻¹ : ℝ) : EReal)

def algebraic_C3Ideal_R3Ideal [hC3Ideal : Cert.C3Ideal.Facts] [hR3Ideal : Cert.R3Ideal.Facts] : Prop :=
  ∀ (m : (ℓ : Loc Cert.C3Ideal.nD Cert.C3Ideal.τ Cert.C3Ideal.sig) → Buf (Elt Ideal) ℓ) (g : Dev Cert.C3Ideal.nD → PrngReg)
    (m' : (ℓ : Loc Cert.R3Ideal.nD Cert.R3Ideal.τ Cert.R3Ideal.sig) → Buf (Elt Ideal) ℓ) (g' : Dev Cert.R3Ideal.nD → PrngReg), Pre_C3Ideal m →
    (∀ c : Dev Cert.C3Ideal.nD,
      m' ((c.tc : Thread Cert.R3Ideal.nD Cert.R3Ideal.τ).loc Cert.R3Ideal.main_arg0) = m ((c.tc : Thread Cert.C3Ideal.nD Cert.C3Ideal.τ).loc Cert.C3Ideal.main_arg0)
      ∧ m' ((c.tc : Thread Cert.R3Ideal.nD Cert.R3Ideal.τ).loc Cert.R3Ideal.main_arg1) = m ((c.tc : Thread Cert.C3Ideal.nD Cert.C3Ideal.τ).loc Cert.C3Ideal.main_arg1)
      ∧ m' ((c.tc : Thread Cert.R3Ideal.nD Cert.R3Ideal.τ).loc Cert.R3Ideal.main_arg2) = m ((c.tc : Thread Cert.C3Ideal.nD Cert.C3Ideal.τ).loc Cert.C3Ideal.main_arg2)
      ∧ m' ((c.tc : Thread Cert.R3Ideal.nD Cert.R3Ideal.τ).loc Cert.R3Ideal.main_arg3) = m ((c.tc : Thread Cert.C3Ideal.nD Cert.C3Ideal.τ).loc Cert.C3Ideal.main_arg3)
      ∧ m' ((c.tc : Thread Cert.R3Ideal.nD Cert.R3Ideal.τ).loc Cert.R3Ideal.main_arg4) = m ((c.tc : Thread Cert.C3Ideal.nD Cert.C3Ideal.τ).loc Cert.C3Ideal.main_arg4)
      ∧ m' ((c.tc : Thread Cert.R3Ideal.nD Cert.R3Ideal.τ).loc Cert.R3Ideal.main_arg5) = m ((c.tc : Thread Cert.C3Ideal.nD Cert.C3Ideal.τ).loc Cert.C3Ideal.main_arg5)) →
    ∃ (v0 : (c : Dev Cert.C3Ideal.nD) → Buf (Elt Ideal) ((c.tc : Thread Cert.C3Ideal.nD Cert.C3Ideal.τ).loc Cert.C3Ideal.main_v0)),
      θ_run (Cert.C3Ideal.defs (F := Ideal)) (onTc (τ := Cert.C3Ideal.τ) (Cert.C3Ideal.main (F := Ideal))) ⟨m, fun _ => 0, g⟩ (fun r => ∀ c : Dev Cert.C3Ideal.nD,
          r.2.mem ((c.tc : Thread Cert.C3Ideal.nD Cert.C3Ideal.τ).loc Cert.C3Ideal.main_v0) = v0 c
          ∧ r.2.mem ((c.tc : Thread Cert.C3Ideal.nD Cert.C3Ideal.τ).loc Cert.C3Ideal.main_arg0) = m ((c.tc : Thread Cert.C3Ideal.nD Cert.C3Ideal.τ).loc Cert.C3Ideal.main_arg0)
          ∧ r.2.mem ((c.tc : Thread Cert.C3Ideal.nD Cert.C3Ideal.τ).loc Cert.C3Ideal.main_arg1) = m ((c.tc : Thread Cert.C3Ideal.nD Cert.C3Ideal.τ).loc Cert.C3Ideal.main_arg1)
          ∧ r.2.mem ((c.tc : Thread Cert.C3Ideal.nD Cert.C3Ideal.τ).loc Cert.C3Ideal.main_arg2) = m ((c.tc : Thread Cert.C3Ideal.nD Cert.C3Ideal.τ).loc Cert.C3Ideal.main_arg2)
          ∧ r.2.mem ((c.tc : Thread Cert.C3Ideal.nD Cert.C3Ideal.τ).loc Cert.C3Ideal.main_arg3) = m ((c.tc : Thread Cert.C3Ideal.nD Cert.C3Ideal.τ).loc Cert.C3Ideal.main_arg3)
          ∧ r.2.mem ((c.tc : Thread Cert.C3Ideal.nD Cert.C3Ideal.τ).loc Cert.C3Ideal.main_arg4) = m ((c.tc : Thread Cert.C3Ideal.nD Cert.C3Ideal.τ).loc Cert.C3Ideal.main_arg4)
          ∧ r.2.mem ((c.tc : Thread Cert.C3Ideal.nD Cert.C3Ideal.τ).loc Cert.C3Ideal.main_arg5) = m ((c.tc : Thread Cert.C3Ideal.nD Cert.C3Ideal.τ).loc Cert.C3Ideal.main_arg5))
      ∧ θ_run (Cert.R3Ideal.defs (F := Ideal)) (onTc (τ := Cert.R3Ideal.τ) (Cert.R3Ideal.main (F := Ideal))) ⟨m', fun _ => 0, g'⟩ (fun r => ∀ c : Dev Cert.R3Ideal.nD,
          r.2.mem ((c.tc : Thread Cert.R3Ideal.nD Cert.R3Ideal.τ).loc Cert.R3Ideal.main_v48) = v0 c
          ∧ r.2.mem ((c.tc : Thread Cert.R3Ideal.nD Cert.R3Ideal.τ).loc Cert.R3Ideal.main_arg0) = m' ((c.tc : Thread Cert.R3Ideal.nD Cert.R3Ideal.τ).loc Cert.R3Ideal.main_arg0)
          ∧ r.2.mem ((c.tc : Thread Cert.R3Ideal.nD Cert.R3Ideal.τ).loc Cert.R3Ideal.main_arg1) = m' ((c.tc : Thread Cert.R3Ideal.nD Cert.R3Ideal.τ).loc Cert.R3Ideal.main_arg1)
          ∧ r.2.mem ((c.tc : Thread Cert.R3Ideal.nD Cert.R3Ideal.τ).loc Cert.R3Ideal.main_arg2) = m' ((c.tc : Thread Cert.R3Ideal.nD Cert.R3Ideal.τ).loc Cert.R3Ideal.main_arg2)
          ∧ r.2.mem ((c.tc : Thread Cert.R3Ideal.nD Cert.R3Ideal.τ).loc Cert.R3Ideal.main_arg3) = m' ((c.tc : Thread Cert.R3Ideal.nD Cert.R3Ideal.τ).loc Cert.R3Ideal.main_arg3)
          ∧ r.2.mem ((c.tc : Thread Cert.R3Ideal.nD Cert.R3Ideal.τ).loc Cert.R3Ideal.main_arg4) = m' ((c.tc : Thread Cert.R3Ideal.nD Cert.R3Ideal.τ).loc Cert.R3Ideal.main_arg4)
          ∧ r.2.mem ((c.tc : Thread Cert.R3Ideal.nD Cert.R3Ideal.τ).loc Cert.R3Ideal.main_arg5) = m' ((c.tc : Thread Cert.R3Ideal.nD Cert.R3Ideal.τ).loc Cert.R3Ideal.main_arg5))

def preserves_C1_C1Ideal : Prop :=
  True

def algebraic_C1Ideal_R1Ideal [hC1Ideal : Cert.C1Ideal.Facts] [hR1Ideal : Cert.R1Ideal.Facts] : Prop :=
  ∀ (m : (ℓ : Loc Cert.C1Ideal.nD Cert.C1Ideal.τ Cert.C1Ideal.sig) → Buf (Elt Ideal) ℓ) (g : Dev Cert.C1Ideal.nD → PrngReg)
    (m' : (ℓ : Loc Cert.R1Ideal.nD Cert.R1Ideal.τ Cert.R1Ideal.sig) → Buf (Elt Ideal) ℓ) (g' : Dev Cert.R1Ideal.nD → PrngReg), Pre_C1Ideal m →
    (∀ c : Dev Cert.C1Ideal.nD,
      m' ((c.tc : Thread Cert.R1Ideal.nD Cert.R1Ideal.τ).loc Cert.R1Ideal.main_arg0) = m ((c.tc : Thread Cert.C1Ideal.nD Cert.C1Ideal.τ).loc Cert.C1Ideal.main_arg0)
      ∧ m' ((c.tc : Thread Cert.R1Ideal.nD Cert.R1Ideal.τ).loc Cert.R1Ideal.main_arg1) = m ((c.tc : Thread Cert.C1Ideal.nD Cert.C1Ideal.τ).loc Cert.C1Ideal.main_arg1)
      ∧ m' ((c.tc : Thread Cert.R1Ideal.nD Cert.R1Ideal.τ).loc Cert.R1Ideal.main_arg2) = m ((c.tc : Thread Cert.C1Ideal.nD Cert.C1Ideal.τ).loc Cert.C1Ideal.main_arg2)
      ∧ m' ((c.tc : Thread Cert.R1Ideal.nD Cert.R1Ideal.τ).loc Cert.R1Ideal.main_arg3) = m ((c.tc : Thread Cert.C1Ideal.nD Cert.C1Ideal.τ).loc Cert.C1Ideal.main_arg3)
      ∧ m' ((c.tc : Thread Cert.R1Ideal.nD Cert.R1Ideal.τ).loc Cert.R1Ideal.main_arg4) = m ((c.tc : Thread Cert.C1Ideal.nD Cert.C1Ideal.τ).loc Cert.C1Ideal.main_arg4)
      ∧ m' ((c.tc : Thread Cert.R1Ideal.nD Cert.R1Ideal.τ).loc Cert.R1Ideal.main_arg5) = m ((c.tc : Thread Cert.C1Ideal.nD Cert.C1Ideal.τ).loc Cert.C1Ideal.main_arg5)) →
    ∃ (v0 : (c : Dev Cert.C1Ideal.nD) → Buf (Elt Ideal) ((c.tc : Thread Cert.C1Ideal.nD Cert.C1Ideal.τ).loc Cert.C1Ideal.main_v0_0)) (v1 : (c : Dev Cert.C1Ideal.nD) → Buf (Elt Ideal) ((c.tc : Thread Cert.C1Ideal.nD Cert.C1Ideal.τ).loc Cert.C1Ideal.main_v0_1)) (v2 : (c : Dev Cert.C1Ideal.nD) → Buf (Elt Ideal) ((c.tc : Thread Cert.C1Ideal.nD Cert.C1Ideal.τ).loc Cert.C1Ideal.main_v0_2)),
      θ_run (Cert.C1Ideal.defs (F := Ideal)) (onTc (τ := Cert.C1Ideal.τ) (Cert.C1Ideal.main (F := Ideal))) ⟨m, fun _ => 0, g⟩ (fun r => ∀ c : Dev Cert.C1Ideal.nD,
          r.2.mem ((c.tc : Thread Cert.C1Ideal.nD Cert.C1Ideal.τ).loc Cert.C1Ideal.main_v0_0) = v0 c
          ∧ r.2.mem ((c.tc : Thread Cert.C1Ideal.nD Cert.C1Ideal.τ).loc Cert.C1Ideal.main_v0_1) = v1 c
          ∧ r.2.mem ((c.tc : Thread Cert.C1Ideal.nD Cert.C1Ideal.τ).loc Cert.C1Ideal.main_v0_2) = v2 c
          ∧ r.2.mem ((c.tc : Thread Cert.C1Ideal.nD Cert.C1Ideal.τ).loc Cert.C1Ideal.main_arg0) = m ((c.tc : Thread Cert.C1Ideal.nD Cert.C1Ideal.τ).loc Cert.C1Ideal.main_arg0)
          ∧ r.2.mem ((c.tc : Thread Cert.C1Ideal.nD Cert.C1Ideal.τ).loc Cert.C1Ideal.main_arg1) = m ((c.tc : Thread Cert.C1Ideal.nD Cert.C1Ideal.τ).loc Cert.C1Ideal.main_arg1)
          ∧ r.2.mem ((c.tc : Thread Cert.C1Ideal.nD Cert.C1Ideal.τ).loc Cert.C1Ideal.main_arg2) = m ((c.tc : Thread Cert.C1Ideal.nD Cert.C1Ideal.τ).loc Cert.C1Ideal.main_arg2)
          ∧ r.2.mem ((c.tc : Thread Cert.C1Ideal.nD Cert.C1Ideal.τ).loc Cert.C1Ideal.main_arg3) = m ((c.tc : Thread Cert.C1Ideal.nD Cert.C1Ideal.τ).loc Cert.C1Ideal.main_arg3)
          ∧ r.2.mem ((c.tc : Thread Cert.C1Ideal.nD Cert.C1Ideal.τ).loc Cert.C1Ideal.main_arg4) = m ((c.tc : Thread Cert.C1Ideal.nD Cert.C1Ideal.τ).loc Cert.C1Ideal.main_arg4)
          ∧ r.2.mem ((c.tc : Thread Cert.C1Ideal.nD Cert.C1Ideal.τ).loc Cert.C1Ideal.main_arg5) = m ((c.tc : Thread Cert.C1Ideal.nD Cert.C1Ideal.τ).loc Cert.C1Ideal.main_arg5))
      ∧ θ_run (Cert.R1Ideal.defs (F := Ideal)) (onTc (τ := Cert.R1Ideal.τ) (Cert.R1Ideal.main (F := Ideal))) ⟨m', fun _ => 0, g'⟩ (fun r => ∀ c : Dev Cert.R1Ideal.nD,
          r.2.mem ((c.tc : Thread Cert.R1Ideal.nD Cert.R1Ideal.τ).loc Cert.R1Ideal.main_v0) = v0 c
          ∧ r.2.mem ((c.tc : Thread Cert.R1Ideal.nD Cert.R1Ideal.τ).loc Cert.R1Ideal.main_v14) = v1 c
          ∧ r.2.mem ((c.tc : Thread Cert.R1Ideal.nD Cert.R1Ideal.τ).loc Cert.R1Ideal.main_v15) = v2 c
          ∧ r.2.mem ((c.tc : Thread Cert.R1Ideal.nD Cert.R1Ideal.τ).loc Cert.R1Ideal.main_arg0) = m' ((c.tc : Thread Cert.R1Ideal.nD Cert.R1Ideal.τ).loc Cert.R1Ideal.main_arg0)
          ∧ r.2.mem ((c.tc : Thread Cert.R1Ideal.nD Cert.R1Ideal.τ).loc Cert.R1Ideal.main_arg1) = m' ((c.tc : Thread Cert.R1Ideal.nD Cert.R1Ideal.τ).loc Cert.R1Ideal.main_arg1)
          ∧ r.2.mem ((c.tc : Thread Cert.R1Ideal.nD Cert.R1Ideal.τ).loc Cert.R1Ideal.main_arg2) = m' ((c.tc : Thread Cert.R1Ideal.nD Cert.R1Ideal.τ).loc Cert.R1Ideal.main_arg2)
          ∧ r.2.mem ((c.tc : Thread Cert.R1Ideal.nD Cert.R1Ideal.τ).loc Cert.R1Ideal.main_arg3) = m' ((c.tc : Thread Cert.R1Ideal.nD Cert.R1Ideal.τ).loc Cert.R1Ideal.main_arg3)
          ∧ r.2.mem ((c.tc : Thread Cert.R1Ideal.nD Cert.R1Ideal.τ).loc Cert.R1Ideal.main_arg4) = m' ((c.tc : Thread Cert.R1Ideal.nD Cert.R1Ideal.τ).loc Cert.R1Ideal.main_arg4)
          ∧ r.2.mem ((c.tc : Thread Cert.R1Ideal.nD Cert.R1Ideal.τ).loc Cert.R1Ideal.main_arg5) = m' ((c.tc : Thread Cert.R1Ideal.nD Cert.R1Ideal.τ).loc Cert.R1Ideal.main_arg5))

def preserves_C2_C2Ideal : Prop :=
  True

def algebraic_C2Ideal_R2Ideal [hC2Ideal : Cert.C2Ideal.Facts] [hR2Ideal : Cert.R2Ideal.Facts] : Prop :=
  ∀ (m : (ℓ : Loc Cert.C2Ideal.nD Cert.C2Ideal.τ Cert.C2Ideal.sig) → Buf (Elt Ideal) ℓ) (g : Dev Cert.C2Ideal.nD → PrngReg)
    (m' : (ℓ : Loc Cert.R2Ideal.nD Cert.R2Ideal.τ Cert.R2Ideal.sig) → Buf (Elt Ideal) ℓ) (g' : Dev Cert.R2Ideal.nD → PrngReg), Pre_C2Ideal m →
    (∀ c : Dev Cert.C2Ideal.nD,
      m' ((c.tc : Thread Cert.R2Ideal.nD Cert.R2Ideal.τ).loc Cert.R2Ideal.main_arg0) = m ((c.tc : Thread Cert.C2Ideal.nD Cert.C2Ideal.τ).loc Cert.C2Ideal.main_arg0)
      ∧ m' ((c.tc : Thread Cert.R2Ideal.nD Cert.R2Ideal.τ).loc Cert.R2Ideal.main_arg1) = m ((c.tc : Thread Cert.C2Ideal.nD Cert.C2Ideal.τ).loc Cert.C2Ideal.main_arg1)
      ∧ m' ((c.tc : Thread Cert.R2Ideal.nD Cert.R2Ideal.τ).loc Cert.R2Ideal.main_arg2) = m ((c.tc : Thread Cert.C2Ideal.nD Cert.C2Ideal.τ).loc Cert.C2Ideal.main_arg2)) →
    ∃ (v0 : (c : Dev Cert.C2Ideal.nD) → Buf (Elt Ideal) ((c.tc : Thread Cert.C2Ideal.nD Cert.C2Ideal.τ).loc Cert.C2Ideal.main_v0_0)) (v1 : (c : Dev Cert.C2Ideal.nD) → Buf (Elt Ideal) ((c.tc : Thread Cert.C2Ideal.nD Cert.C2Ideal.τ).loc Cert.C2Ideal.main_v0_1)) (v2 : (c : Dev Cert.C2Ideal.nD) → Buf (Elt Ideal) ((c.tc : Thread Cert.C2Ideal.nD Cert.C2Ideal.τ).loc Cert.C2Ideal.main_v0_2)) (v3 : (c : Dev Cert.C2Ideal.nD) → Buf (Elt Ideal) ((c.tc : Thread Cert.C2Ideal.nD Cert.C2Ideal.τ).loc Cert.C2Ideal.main_v0_3)) (v4 : (c : Dev Cert.C2Ideal.nD) → Buf (Elt Ideal) ((c.tc : Thread Cert.C2Ideal.nD Cert.C2Ideal.τ).loc Cert.C2Ideal.main_v0_4)) (v5 : (c : Dev Cert.C2Ideal.nD) → Buf (Elt Ideal) ((c.tc : Thread Cert.C2Ideal.nD Cert.C2Ideal.τ).loc Cert.C2Ideal.main_v0_5)) (v6 : (c : Dev Cert.C2Ideal.nD) → Buf (Elt Ideal) ((c.tc : Thread Cert.C2Ideal.nD Cert.C2Ideal.τ).loc Cert.C2Ideal.main_v0_6)),
      θ_run (Cert.C2Ideal.defs (F := Ideal)) (onTc (τ := Cert.C2Ideal.τ) (Cert.C2Ideal.main (F := Ideal))) ⟨m, fun _ => 0, g⟩ (fun r => ∀ c : Dev Cert.C2Ideal.nD,
          r.2.mem ((c.tc : Thread Cert.C2Ideal.nD Cert.C2Ideal.τ).loc Cert.C2Ideal.main_v0_0) = v0 c
          ∧ r.2.mem ((c.tc : Thread Cert.C2Ideal.nD Cert.C2Ideal.τ).loc Cert.C2Ideal.main_v0_1) = v1 c
          ∧ r.2.mem ((c.tc : Thread Cert.C2Ideal.nD Cert.C2Ideal.τ).loc Cert.C2Ideal.main_v0_2) = v2 c
          ∧ r.2.mem ((c.tc : Thread Cert.C2Ideal.nD Cert.C2Ideal.τ).loc Cert.C2Ideal.main_v0_3) = v3 c
          ∧ r.2.mem ((c.tc : Thread Cert.C2Ideal.nD Cert.C2Ideal.τ).loc Cert.C2Ideal.main_v0_4) = v4 c
          ∧ r.2.mem ((c.tc : Thread Cert.C2Ideal.nD Cert.C2Ideal.τ).loc Cert.C2Ideal.main_v0_5) = v5 c
          ∧ r.2.mem ((c.tc : Thread Cert.C2Ideal.nD Cert.C2Ideal.τ).loc Cert.C2Ideal.main_v0_6) = v6 c
          ∧ r.2.mem ((c.tc : Thread Cert.C2Ideal.nD Cert.C2Ideal.τ).loc Cert.C2Ideal.main_arg0) = m ((c.tc : Thread Cert.C2Ideal.nD Cert.C2Ideal.τ).loc Cert.C2Ideal.main_arg0)
          ∧ r.2.mem ((c.tc : Thread Cert.C2Ideal.nD Cert.C2Ideal.τ).loc Cert.C2Ideal.main_arg1) = m ((c.tc : Thread Cert.C2Ideal.nD Cert.C2Ideal.τ).loc Cert.C2Ideal.main_arg1)
          ∧ r.2.mem ((c.tc : Thread Cert.C2Ideal.nD Cert.C2Ideal.τ).loc Cert.C2Ideal.main_arg2) = m ((c.tc : Thread Cert.C2Ideal.nD Cert.C2Ideal.τ).loc Cert.C2Ideal.main_arg2))
      ∧ θ_run (Cert.R2Ideal.defs (F := Ideal)) (onTc (τ := Cert.R2Ideal.τ) (Cert.R2Ideal.main (F := Ideal))) ⟨m', fun _ => 0, g'⟩ (fun r => ∀ c : Dev Cert.R2Ideal.nD,
          r.2.mem ((c.tc : Thread Cert.R2Ideal.nD Cert.R2Ideal.τ).loc Cert.R2Ideal.main_v85) = v0 c
          ∧ r.2.mem ((c.tc : Thread Cert.R2Ideal.nD Cert.R2Ideal.τ).loc Cert.R2Ideal.main_v48) = v1 c
          ∧ r.2.mem ((c.tc : Thread Cert.R2Ideal.nD Cert.R2Ideal.τ).loc Cert.R2Ideal.main_v56) = v2 c
          ∧ r.2.mem ((c.tc : Thread Cert.R2Ideal.nD Cert.R2Ideal.τ).loc Cert.R2Ideal.main_v86) = v3 c
          ∧ r.2.mem ((c.tc : Thread Cert.R2Ideal.nD Cert.R2Ideal.τ).loc Cert.R2Ideal.main_v87) = v4 c
          ∧ r.2.mem ((c.tc : Thread Cert.R2Ideal.nD Cert.R2Ideal.τ).loc Cert.R2Ideal.main_v88) = v5 c
          ∧ r.2.mem ((c.tc : Thread Cert.R2Ideal.nD Cert.R2Ideal.τ).loc Cert.R2Ideal.main_v89) = v6 c
          ∧ r.2.mem ((c.tc : Thread Cert.R2Ideal.nD Cert.R2Ideal.τ).loc Cert.R2Ideal.main_arg0) = m' ((c.tc : Thread Cert.R2Ideal.nD Cert.R2Ideal.τ).loc Cert.R2Ideal.main_arg0)
          ∧ r.2.mem ((c.tc : Thread Cert.R2Ideal.nD Cert.R2Ideal.τ).loc Cert.R2Ideal.main_arg1) = m' ((c.tc : Thread Cert.R2Ideal.nD Cert.R2Ideal.τ).loc Cert.R2Ideal.main_arg1)
          ∧ r.2.mem ((c.tc : Thread Cert.R2Ideal.nD Cert.R2Ideal.τ).loc Cert.R2Ideal.main_arg2) = m' ((c.tc : Thread Cert.R2Ideal.nD Cert.R2Ideal.τ).loc Cert.R2Ideal.main_arg2))

def Claim : Prop :=
  ∃ (hC4 : Cert.C4.Facts) (hC4Ideal : Cert.C4Ideal.Facts) (hR4Ideal : Cert.R4Ideal.Facts) (hC3 : Cert.C3.Facts) (hC3Ideal : Cert.C3Ideal.Facts) (hR3Ideal : Cert.R3Ideal.Facts) (hC1 : Cert.C1.Facts) (hC1Ideal : Cert.C1Ideal.Facts) (hR1Ideal : Cert.R1Ideal.Facts) (hC2 : Cert.C2.Facts) (hC2Ideal : Cert.C2Ideal.Facts) (hR2Ideal : Cert.R2Ideal.Facts),
    quiescent_C4 (hC4 := hC4)
    ∧ quiescent_C4Ideal (hC4Ideal := hC4Ideal)
    ∧ quiescent_R4Ideal (hR4Ideal := hR4Ideal)
    ∧ quiescent_C3 (hC3 := hC3)
    ∧ quiescent_C3Ideal (hC3Ideal := hC3Ideal)
    ∧ quiescent_R3Ideal (hR3Ideal := hR3Ideal)
    ∧ quiescent_C1 (hC1 := hC1)
    ∧ quiescent_C1Ideal (hC1Ideal := hC1Ideal)
    ∧ quiescent_R1Ideal (hR1Ideal := hR1Ideal)
    ∧ quiescent_C2 (hC2 := hC2)
    ∧ quiescent_C2Ideal (hC2Ideal := hC2Ideal)
    ∧ quiescent_R2Ideal (hR2Ideal := hR2Ideal)
    ∧ preserves_C4_C4Ideal
    ∧ algebraic_C4Ideal_R4Ideal (hC4Ideal := hC4Ideal) (hR4Ideal := hR4Ideal)
    ∧ preserves_C3_C3Ideal
    ∧ algebraic_C3Ideal_R3Ideal (hC3Ideal := hC3Ideal) (hR3Ideal := hR3Ideal)
    ∧ preserves_C1_C1Ideal
    ∧ algebraic_C1Ideal_R1Ideal (hC1Ideal := hC1Ideal) (hR1Ideal := hR1Ideal)
    ∧ preserves_C2_C2Ideal
    ∧ algebraic_C2Ideal_R2Ideal (hC2Ideal := hC2Ideal) (hR2Ideal := hR2Ideal)
-- ==== C4.lean ====
abbrev S512x2048 : Shape := ⟨2, ![512, 2048]⟩
abbrev S1x2048 : Shape := ⟨2, ![1, 2048]⟩
abbrev S2048x5504 : Shape := ⟨2, ![2048, 5504]⟩
abbrev S5504x2048 : Shape := ⟨2, ![5504, 2048]⟩
abbrev S512x1 : Shape := ⟨2, ![512, 1]⟩
abbrev S2x256x2048 : Shape := ⟨3, ![2, 256, 2048]⟩
abbrev S2x2048x2048 : Shape := ⟨3, ![2, 2048, 2048]⟩
abbrev S2048x512 : Shape := ⟨2, ![2048, 512]⟩
abbrev S5504x256 : Shape := ⟨2, ![5504, 256]⟩
abbrev S512x256 : Shape := ⟨2, ![512, 256]⟩
abbrev S1x256x2048 : Shape := ⟨3, ![1, 256, 2048]⟩
abbrev S1x2048x256 : Shape := ⟨3, ![1, 2048, 256]⟩
abbrev S11x512x512 : Shape := ⟨3, ![11, 512, 512]⟩
abbrev S8x512x256 : Shape := ⟨3, ![8, 512, 256]⟩
abbrev S2048x256 : Shape := ⟨2, ![2048, 256]⟩
abbrev S512 : Shape := ⟨1, ![512]⟩
abbrev S512x512 : Shape := ⟨2, ![512, 512]⟩
abbrev S1x512x512 : Shape := ⟨3, ![1, 512, 512]⟩
abbrev S512x384 : Shape := ⟨2, ![512, 384]⟩
abbrev S384x256 : Shape := ⟨2, ![384, 256]⟩
abbrev S1x512x256 : Shape := ⟨3, ![1, 512, 256]⟩
abbrev S256x2048 : Shape := ⟨2, ![256, 2048]⟩
abbrev S1x256x256 : Shape := ⟨3, ![1, 256, 256]⟩
abbrev S256x256 : Shape := ⟨2, ![256, 256]⟩

abbrev nBuf : Space → Nat
  | .hbm => 10
  | .vmem => 23
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S512x2048, .f32⟩
  | .hbm, ⟨6, _⟩ => ⟨S512x1, .f32⟩
  | .hbm, ⟨7, _⟩ => ⟨S2x256x2048, .bf16⟩
  | .hbm, ⟨8, _⟩ => ⟨S2x2048x2048, .f32⟩
  | .hbm, ⟨9, _⟩ => ⟨S2x2048x2048, .f32⟩
  | .local _ .vmem, ⟨0, _⟩ => ⟨S512x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S5504x256, .f32⟩
  | .local _ .vmem, ⟨7, _⟩ => ⟨S5504x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x1, .f32⟩
  | .local _ .vmem, ⟨13, _⟩ => ⟨S1x256x2048, .bf16⟩
  | .local _ .vmem, ⟨14, _⟩ => ⟨S1x256x2048, .bf16⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x2048x256, .f32⟩
  | .local _ .vmem, ⟨19, _⟩ => ⟨S512x2048, .bf16⟩
  | .local _ .vmem, ⟨20, _⟩ => ⟨S11x512x512, .bf16⟩
  | .local _ .vmem, ⟨21, _⟩ => ⟨S8x512x256, .bf16⟩
  | .local _ .vmem, ⟨22, _⟩ => ⟨S2048x256, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![35], ![false]⟩

def k0_cond2 (i : grid0.Coords) : BitVec 1 :=
  let arg0 : BitVec 32 := BitVec.ofNat 32 (i 0).val
  let c11_i32 : BitVec 32 := 11#32
  let v3 : BitVec 1 := Scalar.cmpi .slt arg0 c11_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v31 : Index := Scalar.indexCast arg0
  let c0_15 : Index := 0#32
  let c0_16 : Index := 0#32
  ![v31.toNat, 0, 0]
def k0_cond3 (i : grid0.Coords) : BitVec 1 :=
  let arg0 : BitVec 32 := BitVec.ofNat 32 (i 0).val
  let c11_i32_2 : BitVec 32 := 11#32
  let v6 : BitVec 1 := Scalar.cmpi .sge arg0 c11_i32_2
  let c19_i32 : BitVec 32 := 19#32
  let v7 : BitVec 1 := Scalar.cmpi .slt arg0 c19_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 3 → Nat :=
  let arg0 : BitVec 32 := BitVec.ofNat 32 (i 0).val
  let c11_i32_57 : BitVec 32 := 11#32
  let v90 : BitVec 32 := Scalar.subi arg0 c11_i32_57
  let v91 : Index := Scalar.indexCast v90
  let c0_58 : Index := 0#32
  let c0_59 : Index := 0#32
  ![v91.toNat, 0, 0]
def k0_cond4 (i : grid0.Coords) : BitVec 1 :=
  let arg0 : BitVec 32 := BitVec.ofNat 32 (i 0).val
  let c19_i32_4 : BitVec 32 := 19#32
  let v11 : BitVec 1 := Scalar.cmpi .sge arg0 c19_i32_4
  let v12 : BitVec 32 := Scalar.extui v11
  let c0_i32_5 : BitVec 32 := 0#32
  let v13 : BitVec 1 := Scalar.cmpi .ne v12 c0_i32_5
  v13

def k0_off3 (i : grid0.Coords) : Fin 3 → Nat :=
  let arg0 : BitVec 32 := BitVec.ofNat 32 (i 0).val
  let c11_i32_6 : BitVec 32 := 11#32
  let v14 : BitVec 32 := Scalar.subi arg0 c11_i32_6
  let c8_i32 : BitVec 32 := 8#32
  let v15 : BitVec 32 := Scalar.subi v14 c8_i32
  let c8_i32_7 : BitVec 32 := 8#32
  let c0_i32_8 : BitVec 32 := 0#32
  let v16 : BitVec 1 := Scalar.cmpi .eq c8_i32_7 c0_i32_8
  let c1_i32 : BitVec 32 := 1#32
  let v17 : BitVec 32 := Scalar.select v16 c1_i32 c8_i32_7
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let v48 : Index := Scalar.indexCast v25
  let c0_i32_15 : BitVec 32 := 0#32
  let v30 : BitVec 1 := Scalar.cmpi .sgt v15 c0_i32_15
  let v31 : BitVec 32 := Scalar.extui v30
  let c0_i32_16 : BitVec 32 := 0#32
  let v32 : BitVec 1 := Scalar.cmpi .slt v15 c0_i32_16
  let v33 : BitVec 32 := Scalar.extui v32
  let v34 : BitVec 32 := Scalar.subi v31 v33
  let c8_i32_14 : BitVec 32 := 8#32
  let c0_i32_17 : BitVec 32 := 0#32
  let v35 : BitVec 1 := Scalar.cmpi .sgt c8_i32_14 c0_i32_17
  let v36 : BitVec 32 := Scalar.extui v35
  let c0_i32_18 : BitVec 32 := 0#32
  let v37 : BitVec 1 := Scalar.cmpi .slt c8_i32_14 c0_i32_18
  let v38 : BitVec 32 := Scalar.extui v37
  let v39 : BitVec 32 := Scalar.subi v36 v38
  let v40 : BitVec 1 := Scalar.cmpi .ne v34 v39
  let v41 : BitVec 32 := Scalar.remsi v15 c8_i32_14
  let c0_i32_19 : BitVec 32 := 0#32
  let v42 : BitVec 1 := Scalar.cmpi .ne v41 c0_i32_19
  let v43 : BitVec 1 := Scalar.andi v40 v42
  let v29 : BitVec 32 := Scalar.divsi v15 c8_i32_14
  let c1_i32_20 : BitVec 32 := 1#32
  let v44 : BitVec 32 := Scalar.subi v29 c1_i32_20
  let v45 : BitVec 32 := Scalar.select v43 v44 v29
  let c256_i32 : BitVec 32 := 256#32
  let v47 : BitVec 32 := Scalar.muli v45 c256_i32
  let v49 : Index := Scalar.indexCast v47
  let c0_22 : Index := 0#32
  ![v48.toNat, v49.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c11_i32 : BitVec 32 := 11#32
  let v0 : BitVec 32 := Scalar.subi arg0 c11_i32
  let c8_i32 : BitVec 32 := 8#32
  let v1 : BitVec 32 := Scalar.subi v0 c8_i32
  let c0_i32 : BitVec 32 := 0#32
  let v2 : BitVec 32 := Scalar.maxsi v1 c0_i32
  let c8_i32_0 : BitVec 32 := 8#32
  let v3 : BitVec 32 := Scalar.divsi v2 c8_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32_0 c0_i32_3
  let v10 : BitVec 32 := Scalar.extui v9
  let c0_i32_4 : BitVec 32 := 0#32
  let v11 : BitVec 1 := Scalar.cmpi .slt c8_i32_0 c0_i32_4
  let v12 : BitVec 32 := Scalar.extui v11
  let v13 : BitVec 32 := Scalar.subi v10 v12
  let v14 : BitVec 1 := Scalar.cmpi .ne v8 v13
  let v15 : BitVec 32 := Scalar.remsi v2 c8_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let c0_i32_7 : BitVec 32 := 0#32
  let c0_i32_8 : BitVec 32 := 0#32
  ![v19.toNat, c0_i32_6.toNat, c0_i32_7.toNat]

def cc0_transform_9 (i : grid0.Coords) : Fin 3 → Nat :=
  let arg0 : BitVec 32 := BitVec.ofNat 32 (i 0).val
  let c11_i32 : BitVec 32 := 11#32
  let v0 : BitVec 32 := Scalar.subi arg0 c11_i32
  let c8_i32 : BitVec 32 := 8#32
  let v1 : BitVec 32 := Scalar.subi v0 c8_i32
  let c0_i32 : BitVec 32 := 0#32
  let v2 : BitVec 32 := Scalar.maxsi v1 c0_i32
  let c8_i32_0 : BitVec 32 := 8#32
  let v3 : BitVec 32 := Scalar.divsi v2 c8_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32_0 c0_i32_3
  let v10 : BitVec 32 := Scalar.extui v9
  let c0_i32_4 : BitVec 32 := 0#32
  let v11 : BitVec 1 := Scalar.cmpi .slt c8_i32_0 c0_i32_4
  let v12 : BitVec 32 := Scalar.extui v11
  let v13 : BitVec 32 := Scalar.subi v10 v12
  let v14 : BitVec 1 := Scalar.cmpi .ne v8 v13
  let v15 : BitVec 32 := Scalar.remsi v2 c8_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c11_i32_6 : BitVec 32 := 11#32
  let v20 : BitVec 32 := Scalar.subi arg0 c11_i32_6
  let c8_i32_7 : BitVec 32 := 8#32
  let v21 : BitVec 32 := Scalar.subi v20 c8_i32_7
  let c0_i32_8 : BitVec 32 := 0#32
  let v22 : BitVec 32 := Scalar.maxsi v21 c0_i32_8
  let c8_i32_9 : BitVec 32 := 8#32
  let c0_i32_10 : BitVec 32 := 0#32
  let v23 : BitVec 1 := Scalar.cmpi .eq c8_i32_9 c0_i32_10
  let c1_i32_11 : BitVec 32 := 1#32
  let v24 : BitVec 32 := Scalar.select v23 c1_i32_11 c8_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  let c0_i32_16 : BitVec 32 := 0#32
  ![v19.toNat, c0_i32_15.toNat, v32.toNat]

def cc0_transform_10 (i : grid0.Coords) : Fin 3 → Nat :=
  let arg0 : BitVec 32 := BitVec.ofNat 32 (i 0).val
  let c11_i32 : BitVec 32 := 11#32
  let v0 : BitVec 32 := Scalar.subi arg0 c11_i32
  let c8_i32 : BitVec 32 := 8#32
  let v1 : BitVec 32 := Scalar.subi v0 c8_i32
  let c0_i32 : BitVec 32 := 0#32
  let v2 : BitVec 32 := Scalar.maxsi v1 c0_i32
  let c8_i32_0 : BitVec 32 := 8#32
  let v3 : BitVec 32 := Scalar.divsi v2 c8_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32_0 c0_i32_3
  let v10 : BitVec 32 := Scalar.extui v9
  let c0_i32_4 : BitVec 32 := 0#32
  let v11 : BitVec 1 := Scalar.cmpi .slt c8_i32_0 c0_i32_4
  let v12 : BitVec 32 := Scalar.extui v11
  let v13 : BitVec 32 := Scalar.subi v10 v12
  let v14 : BitVec 1 := Scalar.cmpi .ne v8 v13
  let v15 : BitVec 32 := Scalar.remsi v2 c8_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c11_i32_6 : BitVec 32 := 11#32
  let v20 : BitVec 32 := Scalar.subi arg0 c11_i32_6
  let c8_i32_7 : BitVec 32 := 8#32
  let v21 : BitVec 32 := Scalar.subi v20 c8_i32_7
  let c0_i32_8 : BitVec 32 := 0#32
  let v22 : BitVec 32 := Scalar.maxsi v21 c0_i32_8
  let c8_i32_9 : BitVec 32 := 8#32
  let c0_i32_10 : BitVec 32 := 0#32
  let v23 : BitVec 1 := Scalar.cmpi .eq c8_i32_9 c0_i32_10
  let c1_i32_11 : BitVec 32 := 1#32
  let v24 : BitVec 32 := Scalar.select v23 c1_i32_11 c8_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  let c0_i32_16 : BitVec 32 := 0#32
  ![v19.toNat, c0_i32_15.toNat, v32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5504x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== R4Ideal.lean ====
abbrev S512x2048 : Shape := ⟨2, ![512, 2048]⟩
abbrev S1x2048 : Shape := ⟨2, ![1, 2048]⟩
abbrev S2048x5504 : Shape := ⟨2, ![2048, 5504]⟩
abbrev S5504x2048 : Shape := ⟨2, ![5504, 2048]⟩
abbrev S512x1 : Shape := ⟨2, ![512, 1]⟩
abbrev S2x256x2048 : Shape := ⟨3, ![2, 256, 2048]⟩
abbrev S2x2048x2048 : Shape := ⟨3, ![2, 2048, 2048]⟩
abbrev S2048 : Shape := ⟨1, ![2048]⟩
abbrev S_ : Shape := ⟨0, ![]⟩
abbrev S512 : Shape := ⟨1, ![512]⟩
abbrev S512x5504 : Shape := ⟨2, ![512, 5504]⟩

abbrev nBuf : Space → Nat
  | .hbm => 47
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S512x2048, .f32⟩
  | .hbm, ⟨6, _⟩ => ⟨S512x1, .f32⟩
  | .hbm, ⟨7, _⟩ => ⟨S2x256x2048, .bf16⟩
  | .hbm, ⟨8, _⟩ => ⟨S2x2048x2048, .f32⟩
  | .hbm, ⟨9, _⟩ => ⟨S2048, .f32⟩
  | .hbm, ⟨10, _⟩ => ⟨S512x2048, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x1, .f32⟩
  | .hbm, ⟨21, _⟩ => ⟨S512x2048, .f32⟩
  | .hbm, ⟨22, _⟩ => ⟨S512x2048, .f32⟩
  | .hbm, ⟨23, _⟩ => ⟨S1x2048, .f32⟩
  | .hbm, ⟨24, _⟩ => ⟨S512x2048, .f32⟩
  | .hbm, ⟨25, _⟩ => ⟨S512x2048, .f32⟩
  | .hbm, ⟨26, _⟩ => ⟨S512x5504, .f32⟩
  | .hbm, ⟨27, _⟩ => ⟨S512x5504, .f32⟩
  | .hbm, ⟨28, _⟩ => ⟨S512x5504, .f32⟩
  | .hbm, ⟨29, _⟩ => ⟨S_, .f32⟩
  | .hbm, ⟨30, _⟩ => ⟨S512x5504, .f32⟩
  | .hbm, ⟨31, _⟩ => ⟨S512x5504, .f32⟩
  | .hbm, ⟨32, _⟩ => ⟨S_, .f32⟩
  | .hbm, ⟨33, _⟩ => ⟨S512x5504, .f32⟩
  | .hbm, ⟨34, _⟩ => ⟨S512x5504, .f32⟩
  | .hbm, ⟨35, _⟩ => ⟨S512x5504, .f32⟩
  | .hbm, ⟨36, _⟩ => ⟨S512x5504, .f32⟩
  | .hbm, ⟨37, _⟩ => ⟨S512x5504, .f32⟩
  | .hbm, ⟨38, _⟩ => ⟨S512x2048, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S512x2048, .f32⟩
  | .hbm, ⟨43, _⟩ => ⟨S2x256x2048, .f32⟩
  | .hbm, ⟨44, _⟩ => ⟨S2x256x2048, .f32⟩
  | .hbm, ⟨45, _⟩ => ⟨S2x2048x2048, .f32⟩
  | .hbm, ⟨46, _⟩ => ⟨S2x2048x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== C3.lean ====
abbrev S512x2048 : Shape := ⟨2, ![512, 2048]⟩
abbrev S1x2048 : Shape := ⟨2, ![1, 2048]⟩
abbrev S2048x2048 : Shape := ⟨2, ![2048, 2048]⟩
abbrev S2048x512 : Shape := ⟨2, ![2048, 512]⟩
abbrev S512x512 : Shape := ⟨2, ![512, 512]⟩
abbrev S4x512x512 : Shape := ⟨3, ![4, 512, 512]⟩
abbrev S512 : Shape := ⟨1, ![512]⟩
abbrev S512x1 : Shape := ⟨2, ![512, 1]⟩
abbrev S1x512x512 : Shape := ⟨3, ![1, 512, 512]⟩
abbrev S256x256 : Shape := ⟨2, ![256, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 7
  | .vmem => 19
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x2048, .bf16⟩
  | .local _ .vmem, ⟨15, _⟩ => ⟨S4x512x512, .bf16⟩
  | .local _ .vmem, ⟨16, _⟩ => ⟨S4x512x512, .bf16⟩
  | .local _ .vmem, ⟨17, _⟩ => ⟨S4x512x512, .bf16⟩
  | .local _ .vmem, ⟨18, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v19 : Index := Scalar.indexCast arg0
  let c0_9 : Index := 0#32
  let c0_10 : Index := 0#32
  ![v19.toNat, 0, 0]
def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let c6_i32 : BitVec 32 := 6#32
  let v7 : BitVec 1 := Scalar.cmpi .slt arg0 c6_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 3 → Nat :=
  let c0 : Index := 0#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v19 : Index := Scalar.indexCast v15
  let c0_7 : Index := 0#32
  ![0, v19.toNat, 0]
def k0_off3 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v45 : Index := Scalar.indexCast v15
  let c0_17 : Index := 0#32
  ![v45.toNat, 0]
def k0_off4 (i : grid0.Coords) : Fin 3 → Nat :=
  let c0_18 : Index := 0#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v49 : Index := Scalar.indexCast v15
  let c128 : Index := 128#32
  ![0, v49.toNat, 128]
def k0_off5 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v75 : Index := Scalar.indexCast v15
  let c128_29 : Index := 128#32
  ![v75.toNat, 128]
def k0_off6 (i : grid0.Coords) : Fin 3 → Nat :=
  let c0_30 : Index := 0#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v79 : Index := Scalar.indexCast v15
  let c256 : Index := 256#32
  ![0, v79.toNat, 256]
def k0_off7 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v105 : Index := Scalar.indexCast v15
  let c256_41 : Index := 256#32
  ![v105.toNat, 256]
def k0_off8 (i : grid0.Coords) : Fin 3 → Nat :=
  let c0_42 : Index := 0#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v109 : Index := Scalar.indexCast v15
  let c384 : Index := 384#32
  ![0, v109.toNat, 384]
def k0_off9 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v135 : Index := Scalar.indexCast v15
  let c384_53 : Index := 384#32
  ![v135.toNat, 384]
def k0_off10 (i : grid0.Coords) : Fin 3 → Nat :=
  let c1 : Index := 1#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v139 : Index := Scalar.indexCast v15
  let c0_54 : Index := 0#32
  ![1, v139.toNat, 0]
def k0_off11 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v165 : Index := Scalar.indexCast v15
  let c512 : Index := 512#32
  ![v165.toNat, 512]
def k0_off12 (i : grid0.Coords) : Fin 3 → Nat :=
  let c1_65 : Index := 1#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v169 : Index := Scalar.indexCast v15
  let c128_66 : Index := 128#32
  ![1, v169.toNat, 128]
def k0_off13 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v195 : Index := Scalar.indexCast v15
  let c640 : Index := 640#32
  ![v195.toNat, 640]
def k0_off14 (i : grid0.Coords) : Fin 3 → Nat :=
  let c1_77 : Index := 1#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v199 : Index := Scalar.indexCast v15
  let c256_78 : Index := 256#32
  ![1, v199.toNat, 256]
def k0_off15 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v225 : Index := Scalar.indexCast v15
  let c768 : Index := 768#32
  ![v225.toNat, 768]
def k0_off16 (i : grid0.Coords) : Fin 3 → Nat :=
  let c1_89 : Index := 1#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v229 : Index := Scalar.indexCast v15
  let c384_90 : Index := 384#32
  ![1, v229.toNat, 384]
def k0_off17 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v255 : Index := Scalar.indexCast v15
  let c896 : Index := 896#32
  ![v255.toNat, 896]
def k0_off18 (i : grid0.Coords) : Fin 3 → Nat :=
  let c2 : Index := 2#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v259 : Index := Scalar.indexCast v15
  let c0_101 : Index := 0#32
  ![2, v259.toNat, 0]
def k0_off19 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v285 : Index := Scalar.indexCast v15
  let c1024 : Index := 1024#32
  ![v285.toNat, 1024]
def k0_off20 (i : grid0.Coords) : Fin 3 → Nat :=
  let c2_112 : Index := 2#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v289 : Index := Scalar.indexCast v15
  let c128_113 : Index := 128#32
  ![2, v289.toNat, 128]
def k0_off21 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v315 : Index := Scalar.indexCast v15
  let c1152 : Index := 1152#32
  ![v315.toNat, 1152]
def k0_off22 (i : grid0.Coords) : Fin 3 → Nat :=
  let c2_124 : Index := 2#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v319 : Index := Scalar.indexCast v15
  let c256_125 : Index := 256#32
  ![2, v319.toNat, 256]
def k0_off23 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v345 : Index := Scalar.indexCast v15
  let c1280 : Index := 1280#32
  ![v345.toNat, 1280]
def k0_off24 (i : grid0.Coords) : Fin 3 → Nat :=
  let c2_136 : Index := 2#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v349 : Index := Scalar.indexCast v15
  let c384_137 : Index := 384#32
  ![2, v349.toNat, 384]
def k0_off25 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v375 : Index := Scalar.indexCast v15
  let c1408 : Index := 1408#32
  ![v375.toNat, 1408]
def k0_off26 (i : grid0.Coords) : Fin 3 → Nat :=
  let c3 : Index := 3#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v379 : Index := Scalar.indexCast v15
  let c0_148 : Index := 0#32
  ![3, v379.toNat, 0]
def k0_off27 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v405 : Index := Scalar.indexCast v15
  let c1536 : Index := 1536#32
  ![v405.toNat, 1536]
def k0_off28 (i : grid0.Coords) : Fin 3 → Nat :=
  let c3_159 : Index := 3#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v409 : Index := Scalar.indexCast v15
  let c128_160 : Index := 128#32
  ![3, v409.toNat, 128]
def k0_off29 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v435 : Index := Scalar.indexCast v15
  let c1664 : Index := 1664#32
  ![v435.toNat, 1664]
def k0_off30 (i : grid0.Coords) : Fin 3 → Nat :=
  let c3_171 : Index := 3#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v439 : Index := Scalar.indexCast v15
  let c256_172 : Index := 256#32
  ![3, v439.toNat, 256]
def k0_off31 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v465 : Index := Scalar.indexCast v15
  let c1792 : Index := 1792#32
  ![v465.toNat, 1792]
def k0_off32 (i : grid0.Coords) : Fin 3 → Nat :=
  let c3_183 : Index := 3#32
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v469 : Index := Scalar.indexCast v15
  let c384_184 : Index := 384#32
  ![3, v469.toNat, 384]
def k0_off33 (i : grid0.Coords) : Fin 2 → Nat :=
  let arg0 : BitVec 32 := BitVec.ofNat 32 (i 0).val
  let c4_i32_6 : BitVec 32 := 4#32
  let v14 : BitVec 32 := Scalar.subi arg0 c4_i32_6
  let c256_i32 : BitVec 32 := 256#32
  let v15 : BitVec 32 := Scalar.muli v14 c256_i32
  let v495 : Index := Scalar.indexCast v15
  let c1920 : Index := 1920#32
  ![v495.toNat, 1920]
def k0_cond4 (i : grid0.Coords) : BitVec 1 :=
  let arg0 : BitVec 32 := BitVec.ofNat 32 (i 0).val
  let c6_i32_4 : BitVec 32 := 6#32
  let v11 : BitVec 1 := Scalar.cmpi .sge arg0 c6_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.subi v0 c2_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![c0_i32_0.toNat, v3.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.subi v0 c2_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![c0_i32_0.toNat, v3.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.subi v0 c2_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![c0_i32_0.toNat, v3.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== C3Ideal.lean ====
variable {F : FTy → Type} [FloatOps F] [Named F]
def κ : String → Option EReal := fun
  | "scale" => some (((Real.sqrt 128)⁻¹ : ℝ) : EReal)
  | _ => none
-- ==== R3Ideal.lean ====
abbrev S512x2048 : Shape := ⟨2, ![512, 2048]⟩
abbrev S1x2048 : Shape := ⟨2, ![1, 2048]⟩
abbrev S2048x2048 : Shape := ⟨2, ![2048, 2048]⟩
abbrev S2x256x2048 : Shape := ⟨3, ![2, 256, 2048]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x16x128 : Shape := ⟨4, ![2, 256, 16, 128]⟩
abbrev S2x16x256x128 : Shape := ⟨4, ![2, 16, 256, 128]⟩
abbrev S2x16x128x256 : Shape := ⟨4, ![2, 16, 128, 256]⟩
abbrev S2x16x256x256 : Shape := ⟨4, ![2, 16, 256, 256]⟩
abbrev S256x256 : Shape := ⟨2, ![256, 256]⟩
abbrev S2x16x256 : Shape := ⟨3, ![2, 16, 256]⟩
abbrev S2x16x256x1 : Shape := ⟨4, ![2, 16, 256, 1]⟩

abbrev nBuf : Space → Nat
  | .hbm => 74
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2x256x2048, .f32⟩
  | .hbm, ⟨7, _⟩ => ⟨S2048, .f32⟩
  | .hbm, ⟨8, _⟩ => ⟨S2x256x2048, .f32⟩
  | .hbm, ⟨9, _⟩ => ⟨S_, .f32⟩
  | .hbm, ⟨10, _⟩ => ⟨S2x256, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S_, .f32⟩
  | .hbm, ⟨16, _⟩ => ⟨S2x256x1, .f32⟩
  | .hbm, ⟨17, _⟩ => ⟨S2x256x1, .f32⟩
  | .hbm, ⟨18, _⟩ => ⟨S2x256x1, .f32⟩
  | .hbm, ⟨19, _⟩ => ⟨S2x256x2048, .f32⟩
  | .hbm, ⟨20, _⟩ => ⟨S2x256x2048, .f32⟩
  | .hbm, ⟨21, _⟩ => ⟨S1x1x2048, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S2x256x16x128, .f32⟩
  | .hbm, ⟨26, _⟩ => ⟨S2x16x256x128, .f32⟩
  | .hbm, ⟨27, _⟩ => ⟨S2x256x2048, .f32⟩
  | .hbm, ⟨28, _⟩ => ⟨S2x256x16x128, .f32⟩
  | .hbm, ⟨29, _⟩ => ⟨S2x16x256x128, .f32⟩
  | .hbm, ⟨30, _⟩ => ⟨S2x256x2048, .f32⟩
  | .hbm, ⟨31, _⟩ => ⟨S2x256x16x128, .f32⟩
  | .hbm, ⟨32, _⟩ => ⟨S2x16x256x128, .f32⟩
  | .hbm, ⟨33, _⟩ => ⟨S2x16x128x256, .f32⟩
  | .hbm, ⟨34, _⟩ => ⟨S2x16x256x256, .f32⟩
  | .hbm, ⟨35, _⟩ => ⟨S_, .f32⟩
  | .hbm, ⟨36, _⟩ => ⟨S_, .f32⟩
  | .hbm, ⟨37, _⟩ => ⟨S2x16x256x256, .f32⟩
  | .hbm, ⟨38, _⟩ => ⟨S2x16x256x256, .f32⟩
  | .hbm, ⟨39, _⟩ => ⟨S_, .i1⟩
  | .hbm, ⟨40, _⟩ => ⟨S256x256, .i1⟩
  | .hbm, ⟨41, _⟩ => ⟨S256x256, .i32⟩
  | .hbm, ⟨42, _⟩ => ⟨S_, .i32⟩
  | .hbm, ⟨43, _⟩ => ⟨S256x256, .i32⟩
  | .hbm, ⟨44, _⟩ => ⟨S256x256, .i32⟩
  | .hbm, ⟨45, _⟩ => ⟨S256x256, .i32⟩
  | .hbm, ⟨46, _⟩ => ⟨S256x256, .i1⟩
  | .hbm, ⟨47, _⟩ => ⟨S_, .i1⟩
  | .hbm, ⟨48, _⟩ => ⟨S256x256, .i1⟩
  | .hbm, ⟨49, _⟩ => ⟨S256x256, .i1⟩
  | .hbm, ⟨50, _⟩ => ⟨S_, .f32⟩
  | .hbm, ⟨51, _⟩ => ⟨S2x16x256x256, .i1⟩
  | .hbm, ⟨52, _⟩ => ⟨S2x16x256x256, .f32⟩
  | .hbm, ⟨53, _⟩ => ⟨S2x16x256x256, .f32⟩
  | .hbm, ⟨54, _⟩ => ⟨S_, .f32⟩
  | .hbm, ⟨55, _⟩ => ⟨S2x16x256, .f32⟩
  | .hbm, ⟨56, _⟩ => ⟨S_, .f32⟩
  | .hbm, ⟨57, _⟩ => ⟨S2x16x256, .f32⟩
  | .hbm, ⟨58, _⟩ => ⟨S2x16x256, .f32⟩
  | .hbm, ⟨59, _⟩ => ⟨S2x16x256x1, .f32⟩
  | .hbm, ⟨60, _⟩ => ⟨S2x16x256x256, .f32⟩
  | .hbm, ⟨61, _⟩ => ⟨S2x16x256x256, .f32⟩
  | .hbm, ⟨62, _⟩ => ⟨S2x16x256x256, .f32⟩
  | .hbm, ⟨63, _⟩ => ⟨S_, .f32⟩
  | .hbm, ⟨64, _⟩ => ⟨S2x16x256, .f32⟩
  | .hbm, ⟨65, _⟩ => ⟨S2x16x256x1, .f32⟩
  | .hbm, ⟨66, _⟩ => ⟨S2x16x256x256, .f32⟩
  | .hbm, ⟨67, _⟩ => ⟨S2x16x256x256, .f32⟩
  | .hbm, ⟨68, _⟩ => ⟨S2x16x256x128, .f32⟩
  | .hbm, ⟨69, _⟩ => ⟨S2x256x16x128, .f32⟩
  | .hbm, ⟨70, _⟩ => ⟨S2x256x2048, .f32⟩
  | .hbm, ⟨71, _⟩ => ⟨S2x256x2048, .f32⟩
  | .hbm, ⟨72, _⟩ => ⟨S2x256x2048, .f32⟩
  | .hbm, ⟨73, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_0 : Ref sig .tc := ⟨.hbm, 47, rfl⟩
abbrev main_call0_v5 : Ref sig .tc := ⟨.hbm, 48, rfl⟩
abbrev main_v30 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== C1.lean ====
abbrev S4096x2048 : Shape := ⟨2, ![4096, 2048]⟩
abbrev S2048x1 : Shape := ⟨2, ![2048, 1]⟩
abbrev S2048x512 : Shape := ⟨2, ![2048, 512]⟩
abbrev S1x512 : Shape := ⟨2, ![1, 512]⟩
abbrev S512x1 : Shape := ⟨2, ![512, 1]⟩
abbrev S1x1 : Shape := ⟨2, ![1, 1]⟩
abbrev S4096x1 : Shape := ⟨2, ![4096, 1]⟩
abbrev S512x2048 : Shape := ⟨2, ![512, 2048]⟩
abbrev S512x512 : Shape := ⟨2, ![512, 512]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x1, .f32⟩
  | .hbm, ⟨2, _⟩ => ⟨S2048x512, .f32⟩
  | .hbm, ⟨3, _⟩ => ⟨S1x512, .f32⟩
  | .hbm, ⟨4, _⟩ => ⟨S512x1, .f32⟩
  | .hbm, ⟨5, _⟩ => ⟨S1x1, .f32⟩
  | .hbm, ⟨6, _⟩ => ⟨S4096x1, .f32⟩
  | .hbm, ⟨7, _⟩ => ⟨S4096x1, .f32⟩
  | .hbm, ⟨8, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S2048x1, .f32⟩
  | .local _ .vmem, ⟨3, _⟩ => ⟨S2048x512, .f32⟩
  | .local _ .vmem, ⟨4, _⟩ => ⟨S1x512, .f32⟩
  | .local _ .vmem, ⟨5, _⟩ => ⟨S512x1, .f32⟩
  | .local _ .vmem, ⟨6, _⟩ => ⟨S1x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x2048, .bf16⟩
  | .local _ .vmem, ⟨12, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== R1Ideal.lean ====
abbrev S4096x2048 : Shape := ⟨2, ![4096, 2048]⟩
abbrev S2048x1 : Shape := ⟨2, ![2048, 1]⟩
abbrev S2048x512 : Shape := ⟨2, ![2048, 512]⟩
abbrev S1x512 : Shape := ⟨2, ![1, 512]⟩
abbrev S512x1 : Shape := ⟨2, ![512, 1]⟩
abbrev S1x1 : Shape := ⟨2, ![1, 1]⟩
abbrev S4096x1 : Shape := ⟨2, ![4096, 1]⟩
abbrev S4096x512 : Shape := ⟨2, ![4096, 512]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1, .f32⟩
  | .hbm, ⟨2, _⟩ => ⟨S2048x512, .f32⟩
  | .hbm, ⟨3, _⟩ => ⟨S1x512, .f32⟩
  | .hbm, ⟨4, _⟩ => ⟨S512x1, .f32⟩
  | .hbm, ⟨5, _⟩ => ⟨S1x1, .f32⟩
  | .hbm, ⟨6, _⟩ => ⟨S4096x1, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== C2.lean ====
abbrev S2x2048 : Shape := ⟨2, ![2, 2048]⟩
abbrev S2x2048x2048 : Shape := ⟨3, ![2, 2048, 2048]⟩
abbrev S2x256x2048 : Shape := ⟨3, ![2, 256, 2048]⟩
abbrev S2x256 : Shape := ⟨2, ![2, 256]⟩
abbrev S1x1 : Shape := ⟨2, ![1, 1]⟩
abbrev S512x2048 : Shape := ⟨2, ![512, 2048]⟩
abbrev S1x2048x1024 : Shape := ⟨3, ![1, 2048, 1024]⟩
abbrev S256x1024 : Shape := ⟨2, ![256, 1024]⟩
abbrev S2 : Shape := ⟨1, ![2]⟩
abbrev S2x1 : Shape := ⟨2, ![2, 1]⟩
abbrev S2x2047 : Shape := ⟨2, ![2, 2047]⟩
abbrev S2x2 : Shape := ⟨2, ![2, 2]⟩
abbrev S2x2046 : Shape := ⟨2, ![2, 2046]⟩
abbrev S2x4 : Shape := ⟨2, ![2, 4]⟩
abbrev S2x2044 : Shape := ⟨2, ![2, 2044]⟩
abbrev S2x8 : Shape := ⟨2, ![2, 8]⟩
abbrev S2x2040 : Shape := ⟨2, ![2, 2040]⟩
abbrev S2x16 : Shape := ⟨2, ![2, 16]⟩
abbrev S2x2032 : Shape := ⟨2, ![2, 2032]⟩
abbrev S2x32 : Shape := ⟨2, ![2, 32]⟩
abbrev S2x2016 : Shape := ⟨2, ![2, 2016]⟩
abbrev S2x64 : Shape := ⟨2, ![2, 64]⟩
abbrev S2x1984 : Shape := ⟨2, ![2, 1984]⟩
abbrev S2x128 : Shape := ⟨2, ![2, 128]⟩
abbrev S2x1920 : Shape := ⟨2, ![2, 1920]⟩
abbrev S2x1792 : Shape := ⟨2, ![2, 1792]⟩
abbrev S2x512 : Shape := ⟨2, ![2, 512]⟩
abbrev S2x1536 : Shape := ⟨2, ![2, 1536]⟩
abbrev S2x1024 : Shape := ⟨2, ![2, 1024]⟩
abbrev S256x2048 : Shape := ⟨2, ![256, 2048]⟩
abbrev S1x2048 : Shape := ⟨2, ![1, 2048]⟩
abbrev S2048 : Shape := ⟨1, ![2048]⟩
abbrev S1x256x2048 : Shape := ⟨3, ![1, 256, 2048]⟩
abbrev S256 : Shape := ⟨1, ![256]⟩
abbrev S1x256 : Shape := ⟨2, ![1, 256]⟩
abbrev S1x2x2048 : Shape := ⟨3, ![1, 2, 2048]⟩
abbrev S1 : Shape := ⟨1, ![1]⟩
abbrev S1x1x1 : Shape := ⟨3, ![1, 1, 1]⟩
abbrev S2048x1024 : Shape := ⟨2, ![2048, 1024]⟩

abbrev nBuf : Space → Nat
  | .hbm => 10
  | .vmem => 12
  | .smem => 0
  | _ => 0

abbrev bufTy : (tb : Table) → Fin (tcTables nBuf tb) → BufTy
  | .hbm, ⟨0, _⟩ => ⟨S2x2048, .i32⟩
  | .hbm, ⟨1, _⟩ => ⟨S2x2048, .f32⟩
  | .hbm, ⟨2, _⟩ => ⟨S2x2048x2048, .bf16⟩
  | .hbm, ⟨3, _⟩ => ⟨S2x256x2048, .bf16⟩
  | .hbm, ⟨4, _⟩ => ⟨S2x2048, .f32⟩
  | .hbm, ⟨5, _⟩ => ⟨S2x256, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S512x2048, .f32⟩
  | .local _ .vmem, ⟨0, _⟩ => ⟨S2x2048, .i32⟩
  | .local _ .vmem, ⟨1, _⟩ => ⟨S2x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S2x256x2048, .bf16⟩
  | .local _ .vmem, ⟨5, _⟩ => ⟨S2x2048, .f32⟩
  | .local _ .vmem, ⟨6, _⟩ => ⟨S2x256, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S256x1024, .f32⟩
  | .local _ .vmem, ⟨11, _⟩ => ⟨S256x1024, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c31_i32 : BitVec 32 := 31#32
  let v23 : BitVec 32 := Scalar.addi c0_i32_7 c31_i32
  let c1_i32 : BitVec 32 := 1#32
  ⟨c0_i32_7, v23, c1_i32⟩
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg0 : BitVec 32 := BitVec.ofNat 32 (i 0).val
  let c1_i32 : BitVec 32 := 1#32
  let v6 : BitVec 32 := Scalar.subi arg0 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c2_i32 : BitVec 32 := 2#32
  let c0_i32_5 : BitVec 32 := 0#32
  let v13 : BitVec 1 := Scalar.cmpi .sgt c2_i32 c0_i32_5
  let v14 : BitVec 32 := Scalar.extui v13
  let c0_i32_6 : BitVec 32 := 0#32
  let v15 : BitVec 1 := Scalar.cmpi .slt c2_i32 c0_i32_6
  let v16 : BitVec 32 := Scalar.extui v15
  let v17 : BitVec 32 := Scalar.subi v14 v16
  let v18 : BitVec 1 := Scalar.cmpi .ne v12 v17
  let v19 : BitVec 32 := Scalar.remsi v6 c2_i32
  let c0_i32_7 : BitVec 32 := 0#32
  let v20 : BitVec 1 := Scalar.cmpi .ne v19 c0_i32_7
  let v21 : BitVec 1 := Scalar.andi v18 v20
  let v7 : BitVec 32 := Scalar.divsi v6 c2_i32
  let c1_i32_8 : BitVec 32 := 1#32
  let v22 : BitVec 32 := Scalar.subi v7 c1_i32_8
  let v23 : BitVec 32 := Scalar.select v21 v22 v7
  let v24 : Index := Scalar.indexCast v23
  let c0 : Index := 0#32
  let c0_9 : Index := 0#32
  ![v24.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 1 → Memref sig .tc .vmem S2x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== R2Ideal.lean ====
abbrev S2x2048 : Shape := ⟨2, ![2, 2048]⟩
abbrev S2x2048x2048 : Shape := ⟨3, ![2, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x1x2048 : Shape := ⟨3, ![2, 1, 2048]⟩
abbrev S2x2048x1 : Shape := ⟨3, ![2, 2048, 1]⟩
abbrev S1x2048x2048 : Shape := ⟨3, ![1, 2048, 2048]⟩
abbrev S256 : Shape := ⟨1, ![256]⟩
abbrev S1x256x1 : Shape := ⟨3, ![1, 256, 1]⟩
abbrev S2x256x2048 : Shape := ⟨3, ![2, 256, 2048]⟩
abbrev S2x256 : Shape := ⟨2, ![2, 256]⟩
abbrev S1x1 : Shape := ⟨2, ![1, 1]⟩
abbrev S512x2048 : Shape := ⟨2, ![512, 2048]⟩

abbrev nBuf : Space → Nat
  | .hbm => 110
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S2x2048, .f32⟩
  | .hbm, ⟨2, _⟩ => ⟨S2x2048x2048, .bf16⟩
  | .hbm, ⟨3, _⟩ => ⟨S2x2048, .f32⟩
  | .hbm, ⟨4, _⟩ => ⟨S_, .i32⟩
  | .hbm, ⟨5, _⟩ => ⟨S2x2048, .i32⟩
  | .hbm, ⟨6, _⟩ => ⟨S2x2048, .i1⟩
  | .hbm, ⟨7, _⟩ => ⟨S_, .i32⟩
  | .hbm, ⟨8, _⟩ => ⟨S2x2048, .i32⟩
  | .hbm, ⟨9, _⟩ => ⟨S2x2048, .i32⟩
  | .hbm, ⟨10, _⟩ => ⟨S_, .i32⟩
  | .hbm, ⟨11, _⟩ => ⟨S2x2048, .i32⟩
  | .hbm, ⟨12, _⟩ => ⟨S2x2048, .i32⟩
  | .hbm, ⟨13, _⟩ => ⟨S2x2048, .i32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S2x1x2048, .i32⟩
  | .hbm, ⟨21, _⟩ => ⟨S2x2048x1, .i32⟩
  | .hbm, ⟨22, _⟩ => ⟨S2x2048x2048, .i32⟩
  | .hbm, ⟨23, _⟩ => ⟨S2x2048x2048, .i32⟩
  | .hbm, ⟨24, _⟩ => ⟨S2x2048x2048, .i1⟩
  | .hbm, ⟨25, _⟩ => ⟨S2x1x2048, .i32⟩
  | .hbm, ⟨26, _⟩ => ⟨S2x2048x1, .i32⟩
  | .hbm, ⟨27, _⟩ => ⟨S2x2048x2048, .i32⟩
  | .hbm, ⟨28, _⟩ => ⟨S2x2048x2048, .i32⟩
  | .hbm, ⟨29, _⟩ => ⟨S2x2048x2048, .i1⟩
  | .hbm, ⟨30, _⟩ => ⟨S1x2048x2048, .i1⟩
  | .hbm, ⟨31, _⟩ => ⟨S2x2048x2048, .i1⟩
  | .hbm, ⟨32, _⟩ => ⟨S2x2048x2048, .i1⟩
  | .hbm, ⟨33, _⟩ => ⟨S2x2048x2048, .i1⟩
  | .hbm, ⟨34, _⟩ => ⟨S2x2048x2048, .i32⟩
  | .hbm, ⟨35, _⟩ => ⟨S_, .i32⟩
  | .hbm, ⟨36, _⟩ => ⟨S2x2048, .i32⟩
  | .hbm, ⟨37, _⟩ => ⟨S_, .i32⟩
  | .hbm, ⟨38, _⟩ => ⟨S2x2048, .i32⟩
  | .hbm, ⟨39, _⟩ => ⟨S2x2048, .i1⟩
  | .hbm, ⟨40, _⟩ => ⟨S2x1x2048, .i1⟩
  | .hbm, ⟨41, _⟩ => ⟨S1x2048x2048, .i1⟩
  | .hbm, ⟨42, _⟩ => ⟨S2x2048x2048, .i1⟩
  | .hbm, ⟨43, _⟩ => ⟨S2x2048x2048, .i1⟩
  | .hbm, ⟨44, _⟩ => ⟨S2x2048x2048, .i1⟩
  | .hbm, ⟨45, _⟩ => ⟨S2x2048x2048, .i32⟩
  | .hbm, ⟨46, _⟩ => ⟨S_, .i32⟩
  | .hbm, ⟨47, _⟩ => ⟨S2x2048, .i32⟩
  | .hbm, ⟨48, _⟩ => ⟨S2x1x2048, .i1⟩
  | .hbm, ⟨49, _⟩ => ⟨S2x1x2048, .i32⟩
  | .hbm, ⟨50, _⟩ => ⟨S256, .i32⟩
  | .hbm, ⟨51, _⟩ => ⟨S1x256x1, .i32⟩
  | .hbm, ⟨52, _⟩ => ⟨S2x256x2048, .i32⟩
  | .hbm, ⟨53, _⟩ => ⟨S2x256x2048, .i32⟩
  | .hbm, ⟨54, _⟩ => ⟨S2x256x2048, .i1⟩
  | .hbm, ⟨55, _⟩ => ⟨S2x256x2048, .i1⟩
  | .hbm, ⟨56, _⟩ => ⟨S2x256x2048, .i1⟩
  | .hbm, ⟨57, _⟩ => ⟨S2x2048, .f32⟩
  | .hbm, ⟨58, _⟩ => ⟨S2x256x2048, .f32⟩
  | .hbm, ⟨59, _⟩ => ⟨S2x2048, .f32⟩
  | .hbm, ⟨60, _⟩ => ⟨S2x2048, .f32⟩
  | .hbm, ⟨61, _⟩ => ⟨S_, .f32⟩
  | .hbm, ⟨62, _⟩ => ⟨S2x2048, .f32⟩
  | .hbm, ⟨63, _⟩ => ⟨S2x2048, .f32⟩
  | .hbm, ⟨64, _⟩ => ⟨S_, .f32⟩
  | .hbm, ⟨65, _⟩ => ⟨S2x2048, .f32⟩
  | .hbm, ⟨66, _⟩ => ⟨S2x2048, .f32⟩
  | .hbm, ⟨67, _⟩ => ⟨S2x256, .f32⟩
  | .hbm, ⟨68, _⟩ => ⟨S2x2048x2048, .f32⟩
  | .hbm, ⟨69, _⟩ => ⟨S2x256x2048, .f32⟩
  | .hbm, ⟨70, _⟩ => ⟨S_, .f32⟩
  | .hbm, ⟨71, _⟩ => ⟨S2x2048, .f32⟩
  | .hbm, ⟨72, _⟩ => ⟨S2x2048, .f32⟩
  | .hbm, ⟨73, _⟩ => ⟨S2x2048, .f32⟩
  | .hbm, ⟨74, _⟩ => ⟨S2x2048, .f32⟩
  | .hbm, ⟨75, _⟩ => ⟨S2x2048, .f32⟩
  | .hbm, ⟨76, _⟩ => ⟨S2x2048, .f32⟩
  | .hbm, ⟨77, _⟩ => ⟨S2x2048, .f32⟩
  | .hbm, ⟨78, _⟩ => ⟨S2x2048, .f32⟩
  | .hbm, ⟨79, _⟩ => ⟨S2x2048, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S2x2048, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S2x2048, .f32⟩
  | .hbm, ⟨93, _⟩ => ⟨S2x2048, .f32⟩
  | .hbm, ⟨94, _⟩ => ⟨S2x2048, .f32⟩
  | .hbm, ⟨95, _⟩ => ⟨S2x2048, .f32⟩
  | .hbm, ⟨96, _⟩ => ⟨S2x2048, .f32⟩
  | .hbm, ⟨97, _⟩ => ⟨S2x2048, .f32⟩
  | .hbm, ⟨98, _⟩ => ⟨S2x2048, .f32⟩
  | .hbm, ⟨99, _⟩ => ⟨S2x2048, .f32⟩
  | .hbm, ⟨100, _⟩ => ⟨S2x2048, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S2x256x2048, .bf16⟩
  | .hbm, ⟨106, _⟩ => ⟨S1x1, .f32⟩
  | .hbm, ⟨107, _⟩ => ⟨S1x1, .f32⟩
  | .hbm, ⟨108, _⟩ => ⟨S1x1, .f32⟩
  | .hbm, ⟨109, _⟩ => ⟨S512x2048, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_cst_9 : Ref sig .tc := ⟨.hbm, 85, rfl⟩
abbrev main_v71 : Ref sig .tc := ⟨.hbm, 86, rfl⟩
abbrev main_cst_10 : Ref sig .tc := ⟨.hbm, 87, rfl⟩
abbrev main_v72 : Ref sig .tc := ⟨.hbm, 88, rfl⟩
abbrev main_cst_11 : Ref sig .tc := ⟨.hbm, 89, rfl⟩
abbrev main_v73 : Ref sig .tc := ⟨.hbm, 90, rfl⟩
abbrev main_cst_12 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_13 : Ref sig .tc := ⟨.hbm, 101, rfl⟩
abbrev main_v83 : Ref sig .tc := ⟨.hbm, 102, rfl⟩
abbrev main_cst_14 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩

abbrev nD : Nat := 1
abbrev τ : Topo := Topo.v7x

variable {F : FTy → Type} [FloatOps F]
-- ==== Proof.C4Frame.lean ====
/-
  The kernel leaves its arguments unchanged: every execution ends, with every argument array as launched and every
  semaphore counter at zero. Nothing is said here of the result's contents (that is the value run's).
-/
module

public import proofs.«01_k».proof.Proof.C4Step
public import Idealize.ShloMosaic.Lib.Claim

@[expose] public section

set_option maxRecDepth 16384

noncomputable section

namespace Cert.C4.Run

open Cert.C4 Cert.C4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's contents are not followed. -/
def fgt : Fin 11 → Bool := fun w => w.val == 10

/-- A weight tile as the fetch leaves it, filled out past the array's end with some value. -/
def padded (c : Dev nD) (w : Fin cfg0.W) (t : Fin cfg0.N) : (cfg0.win w).block.Idx → Elt F (cfg0.win w).elt :=
  (cfg0.win w).fill (grid0.coords t) (fun _ => Classical.arbitrary _) (iblk m c w t)

/-- What the buffers and arrays hold: the inputs their blocks, the output not followed, the scratch anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => padded m c 2 t
    | ⟨3, _⟩ => padded m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = padded m c 2 t := by dsimp only [dats]
theorem before_2 (c : Dev nD) (t : Fin cfg0.N) (d) : (dats m 0 c).before 2 t d = win0_2.fill (grid0.coords t) d (iblk m c 2 t) :=
  ((dats m 0 c).before_in_eq_fetched 2 rfl (fun _ => rfl)
    (fun t t' h => by
      funext a
      show Pipeline.Window.clip win0_2 (grid0.coords t) a = Pipeline.Window.clip win0_2 (grid0.coords t') a
      have h' : cc0_transform_2 (grid0.coords t) = cc0_transform_2 (grid0.coords t') := h
      simp only [Pipeline.Window.ofSpecClip, h'])
    (fun t => by rw [after_2]; exact (cfg0.win 2).cut_fill _ _ _) t d).trans rfl
theorem after_3 (c : Dev nD) (t : Fin cfg0.N) : (dats m 0 c).after 3 t = padded m c 3 t := by dsimp only [dats]
theorem before_3 (c : Dev nD) (t : Fin cfg0.N) (d) : (dats m 0 c).before 3 t d = win0_3.fill (grid0.coords t) d (iblk m c 3 t) :=
  ((dats m 0 c).before_in_eq_fetched 3 rfl (fun _ => rfl)
    (fun t t' h => by
      funext a
      show Pipeline.Window.clip win0_3 (grid0.coords t) a = Pipeline.Window.clip win0_3 (grid0.coords t') a
      have h' : cc0_transform_3 (grid0.coords t) = cc0_transform_3 (grid0.coords t') := h
      simp only [Pipeline.Window.ofSpecClip, h'])
    (fun t => by rw [after_3]; exact (cfg0.win 3).cut_fill _ _ _) t d).trans rfl
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d

/-- What the body is called with at point `t`, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X))
/-- and what it returns. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (grid0.coords t) d ((cfg0.win 2).cut (grid0.coords t) ((dats m 0 c).after 2 t))))
    ∗ (∃ d, owns (c : Thread nD τ) (st0_3 t) fullShare ((cfg0.win 3).fill (grid0.coords t) d ((cfg0.win 3).cut (grid0.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X))

/-- A whole buffer at some contents. -/
theorem owns_exists (c : Dev nD) (b : Ref sig .tc) :
    (iprop(∃ f : Buf (Elt F) ((c : Thread nD τ).loc b), ((c : Thread nD τ).loc b) ↦{fullShare} f) : sProp 𝕄)
      = iprop(∃ f, owns (c : Thread nD τ) (Memref.whole b) fullShare f) :=
  congrArg BIBase.sExists (Set.ext fun P => ⟨fun ⟨f, h⟩ => ⟨f, (owns_whole (c : Thread nD τ) b fullShare f).trans h⟩, fun ⟨f, h⟩ => ⟨f, (owns_whole (c : Thread nD τ) b fullShare f).symm.trans h⟩⟩)

/-- The scratch buffers at some contents, and the generator register. -/
theorem scratch_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f))
      ∗ ∃ r, prngReg c r) := by
  unfold Pipeline.ΦA; rw [scopedRest0_eq]; rw [owns_exists, owns_exists, owns_exists, owns_exists]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, after_0, before_1, after_1, before_2, after_2, before_3, after_3, before_4, after_4, before_5, after_5, before_6, after_6, before_7, after_7, before_8, after_8, before_9, after_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, scratch_eq]
  iintro ⟨⟨⟨⟨%f0, S0⟩, ⟨%f1, S1⟩, ⟨%f2, S2⟩, ⟨%f3, S3⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_any (F := F) c (grid0.coords t) _ _ _ _ _ _ _ _ _ _ _ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) d10 f0 f1 f2 f3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hp]
  · isplitl [S0 S1 S2 S3]
    · isplitl [S0]; · iexists _; iexact S0
      isplitl [S1]; · iexists _; iexact S1
      isplitl [S2]; · iexists _; iexact S2
      iexists _; iexact S3
    · iexact Hp
  isplitl [Ho]; · iexact Ho
  isplitl [H0]; · iexact H0
  isplitl [H1]; · iexact H1
  isplitl [H2]
  · iexists d2
    rw [show (cfg0.win 2).cut (grid0.coords t) (padded m c 2 t) = iblk m c 2 t from (cfg0.win 2).cut_fill _ _ _]
    iexact H2
  isplitl [H3]
  · iexists d3
    rw [show (cfg0.win 3).cut (grid0.coords t) (padded m c 3 t) = iblk m c 3 t from (cfg0.win 3).cut_fill _ _ _]
    iexact H3
  isplitl [H4]; · iexact H4
  isplitl [H5]; · iexact H5
  isplitl [H6]; · iexact H6
  isplitl [H7]; · iexact H7
  isplitl [H8]; · iexact H8
  isplitl [H9]; · iexact H9
  iexists _; iexact H10

/-- The body table's row at point `t`. -/
theorem row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : Pipeline.BodyObligationLoose (dats (F := F) m 0 c) (defs₀ (F := F)) Variants.none () Set.univ fgt := fun t => by
  rw [bigSep_W0, bigSep_W0, row]
  exact triple_restated (sound_body m c t) rfl .rfl fun _ => .rfl

set_option backward.isDefEq.respectTransparency.types false in
/-- The launch: every input array as found, every counter at zero. -/
theorem run_quiescent : θ_run defs (onTc (τ := τ) (main (F := F))) (s₀ m ρ)
    (fun r => (Pipeline.RDat.FramePost (cfgs 0) (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m) (hΦ := fun _ _ => rfl)

/-- The arguments end as launched. -/
theorem unchanged : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1.arr_in c 5 rfl).trans ((A_eq m c 5).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 6 rfl).trans ((A_eq m c 6).trans (V_main_arg5 m c)),
      (h.1.arr_in c 7 rfl).trans ((A_eq m c 7).trans (V_main_arg6 m c)),
      (h.1.arr_in c 8 rfl).trans ((A_eq m c 8).trans (V_main_arg7 m c)),
      (h.1.arr_in c 9 rfl).trans ((A_eq m c 9).trans (V_main_arg8 m c))⟩, h.2⟩) (run_quiescent m ρ)

end Cert.C4.Run

end
-- ==== Proof.C4IdealBody.lean ====
/-
  One run of the kernel's body at each kind of grid point (generic in the float values): what each store leaves, the
  rest unchanged. The grid has 35 points: 0..10 the gate and up products tile by tile (point 0 first normalises the rows),
  11..18 the down products column tile by column tile, 19..34 the scatter of each batch's column tiles (points 19 and 27
  first transpose the batch's selection matrix).
-/
module

public import proofs.«01_k».proof.Proof.Gen.C4Ideal.Frame
public import proofs.«01_k».proof.Proof.Gen.C4Ideal.Skeleton
public import Idealize.ShloMosaic.Lib.WritesUnit
public import Idealize.ShloMosaic.Lib.VecWindow
public import Idealize.ShloMosaic.Lib.Tactic.Stretches

@[expose] public section

set_option maxRecDepth 16384

noncomputable section

namespace Cert.C4Ideal.Run

open Cert.C4Ideal Cert.C4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions and offsets in closed form -/

/-- The first branch: point 0 alone. -/
def first (i : grid0.Coords) : BitVec 1 :=
  Scalar.cmpi .ne (Scalar.extui (Scalar.cmpi .eq (BitVec.ofNat 32 (i 0).val) 0#32) : BitVec 32) 0#32
theorem first_iff : ∀ i : grid0.Coords, first i = 1#1 ↔ (i 0).val = 0 := by decide +kernel
theorem cond2_iff : ∀ i : grid0.Coords, k0_cond2 i = 1#1 ↔ (i 0).val < 11 := by decide +kernel
theorem cond3_iff : ∀ i : grid0.Coords, k0_cond3 i = 1#1 ↔ 11 ≤ (i 0).val ∧ (i 0).val < 19 := by decide +kernel
theorem cond4_iff : ∀ i : grid0.Coords, k0_cond4 i = 1#1 ↔ 19 ≤ (i 0).val := by decide +kernel

/-- The innermost branch: the first scatter point of each batch. -/
def turn (i : grid0.Coords) : BitVec 1 :=
  let arg0 : BitVec 32 := BitVec.ofNat 32 (i 0).val
  let v14 : BitVec 32 := Scalar.subi arg0 11#32
  let v15 : BitVec 32 := Scalar.subi v14 8#32
  let v16 : BitVec 1 := Scalar.cmpi .eq (8#32 : BitVec 32) 0#32
  let v17 : BitVec 32 := Scalar.select v16 1#32 8#32
  let v18 : BitVec 32 := Scalar.remsi v15 v17
  let v19 : BitVec 1 := Scalar.cmpi .ne v18 0#32
  let v20 : BitVec 1 := Scalar.cmpi .slt v18 0#32
  let v21 : BitVec 1 := Scalar.cmpi .slt v17 0#32
  let v22 : BitVec 1 := Scalar.xori v20 v21
  let v23 : BitVec 1 := Scalar.andi v22 v19
  let v24 : BitVec 32 := Scalar.addi v18 v17
  let v25 : BitVec 32 := Scalar.select v23 v24 v18
  let v26 : BitVec 1 := Scalar.cmpi .eq v25 0#32
  let v27 : BitVec 32 := Scalar.extui v26
  Scalar.cmpi .ne v27 0#32
theorem turn_iff : ∀ i : grid0.Coords, k0_cond4 i = 1#1 → (turn i = 1#1 ↔ (i 0).val = 19 ∨ (i 0).val = 27) := by decide +kernel

theorem off2_eq : ∀ i : grid0.Coords, k0_cond3 i = 1#1 → k0_off2 i = ![(i 0).val - 11, 0, 0] := by decide +kernel
theorem off3_eq : ∀ i : grid0.Coords, k0_cond4 i = 1#1 → k0_off3 i = ![((i 0).val - 19) % 8, ((i 0).val - 19) / 8 * 256, 0] := by decide +kernel

/-! ## The runs -/

/-- Tile `t` of the products kept for the down product. -/
def tile (x13 : Vec F S11x512x512 .bf16) (t : ℕ) (h : t < 11) : Vec F S1x512x512 .bf16 :=
  VecWindow.window x13 ![t, 0, 0] S1x512x512.size (by
    intro a; fin_cases a
    · show t + 1 ≤ 11; omega
    · show 0 + 512 ≤ 512; omega
    · show 0 + 512 ≤ 512; omega)
/-- Rows `t * 512 ..` of the down weight's column tile. -/
def wrows (x5 : Vec F S5504x256 .f32) (t : ℕ) (h : t < 10) : Vec F S512x256 .f32 :=
  VecWindow.window x5 ![t * 512, 0] S512x256.size (by
    intro a; fin_cases a
    · show t * 512 + 512 ≤ 5504; omega
    · show 0 + 256 ≤ 256; omega)
/-- Its last 384 rows. -/
def wlast (x5 : Vec F S5504x256 .f32) : Vec F S384x256 .f32 :=
  VecWindow.window x5 ![5120, 0] S384x256.size (by
    intro a; fin_cases a
    · show 5120 + 384 ≤ 5504; omega
    · show 0 + 256 ≤ 256; omega)

/-- What a down point stores: the gated difference of one column tile. -/
def down (x13 : Vec F S11x512x512 .bf16) (x5 : Vec F S5504x256 .f32) (x6 x7 : Vec F S512x256 .f32) (x8 : Vec F S512x1 .f32) :
    FVec F S1x512x256 .bf16 :=
  k0_pay3
    (k0_pay8
      (k0_pay5 (tile x13 0 (by omega)) (wrows x5 0 (by omega)) (tile x13 1 (by omega)) (wrows x5 1 (by omega))
        (tile x13 2 (by omega)) (wrows x5 2 (by omega)) (tile x13 3 (by omega)) (wrows x5 3 (by omega)))
      (k0_pay6 (tile x13 4 (by omega))) (k0_pay7 (wrows x5 4 (by omega))) (constant S512x256 .f32 0x00000000#32)
      (tile x13 5 (by omega)) (wrows x5 5 (by omega)) (tile x13 6 (by omega)) (wrows x5 6 (by omega))
      (tile x13 7 (by omega)) (wrows x5 7 (by omega)) (tile x13 8 (by omega)) (wrows x5 8 (by omega)))
    (k0_pay9 (tile x13 9 (by omega))) (k0_pay10 (wrows x5 9 (by omega))) (constant S512x256 .f32 0x00000000#32)
    (tile x13 10 (by omega)) (wlast x5) x6 x7 x8

/-- The 256 rows of batch `b` in column tile `d` of the gated differences. -/
def slab (x14 : Vec F S8x512x256 .bf16) (n : ℕ) (h : n < 16) : Vec F S1x256x256 .bf16 :=
  VecWindow.window x14 ![n % 8, n / 8 * 256, 0] S1x256x256.size (by
    intro a; fin_cases a
    · show n % 8 + 1 ≤ 8; omega
    · show n / 8 * 256 + 256 ≤ 512; omega
    · show 0 + 256 ≤ 256; omega)
/-- What a scatter point stores: the old block plus the selection's product with the batch's rows. -/
def scat (x15 : Vec F S2048x256 .bf16) (x14 : Vec F S8x512x256 .bf16) (x10 : Vec F S1x2048x256 .f32) (n : ℕ) (h : n < 16) :
    FVec F S1x2048x256 .f32 := k0_pay4 x15 (k0_pay12 (slab x14 n h)) x10

/-- A load at a unit-stride rectangle reads a window of what the view reads. -/
theorem rd {sp : Space} {s : Shape} {e : EltTy} (v : View sig .tc sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl
/-- A window at equal offsets. -/
theorem window_congr {α : Type} {s : Shape} (x : s.Idx → α) {off off' size : Fin s.rank → ℕ} (h : off = off')
    (inb : ∀ a, off a + size a ≤ s.size a) (inb' : ∀ a, off' a + size a ≤ s.size a) :
    VecWindow.window x off size inb = VecWindow.window x off' size inb' := by subst h; rfl

/-- A scatter block at equal operands. -/
theorem pay4_congr {a a' : Vec F S2048x256 .bf16} {b b' : Vec F S1x256x256 .bf16} {c c' : Vec F S1x2048x256 .f32} (ha : a = a') (hb : b = b')
    (hc : c = c') : k0_pay4 a (shapeCast S256x256 b shapeCasts_S1x256x256_S256x256) c = k0_pay4 a' (shapeCast S256x256 b' shapeCasts_S1x256x256_S256x256) c' := by rw [ha, hb, hc]

/-- The whole window of a column tile. -/
theorem whole_tile (x : Vec F S512x256 .f32) (inb) : VecWindow.window (s := S512x256) x ![0, 0] ![512, 256] inb = x := by
  funext j; exact congrArg x (funext fun a => Fin.ext (by fin_cases a <;> (show 0 + 1 * _ = _; omega)))
/-- The whole window of a column. -/
theorem whole_col (x : Vec F S512x1 .f32) (inb) : VecWindow.window (s := S512x1) x ![0, 0] ![512, 1] inb = x := by
  funext j; exact congrArg x (funext fun a => Fin.ext (by fin_cases a <;> (show 0 + 1 * _ = _; omega)))

/-- The first tile at equal operands. -/
theorem pay2_congr {a a' : Vec F S512x2048 .bf16} {b b' c c' : Vec F S2048x512 .f32} (ha : a = a') (hb : b = b') (hc : c = c') :
    k0_pay2 a b c = k0_pay2 a' b' c' := by rw [ha, hb, hc]
/-- The normalised rows at equal operands. -/
theorem pay1_congr {a a' : Vec F S512x2048 .f32} {b b' : Vec F S1x2048 .f32} (ha : a = a') (hb : b = b') :
    k0_pay1 a b = k0_pay1 a' b' := by rw [ha, hb]
/-- The down block at equal residual, selected rows and gate. -/
theorem pay3_congr (a : FVec F S512x256 .f32) (b : FVec F S512x512 .bf16) (c : FVec F S512x256 .bf16) (d : FVec F S512x256 .f32)
    (e : Vec F S1x512x512 .bf16) (f : Vec F S384x256 .f32) {p p' q q' : Vec F S512x256 .f32} {r r' : Vec F S512x1 .f32}
    (hp : p = p') (hq : q = q') (hr : r = r') : k0_pay3 a b c d e f p q r = k0_pay3 a b c d e f p' q' r' := by rw [hp, hq, hr]

theorem hi (i : grid0.Coords) : (i 0).val < 35 := (i 0).isLt

end Cert.C4Ideal.Run

end
-- ==== Proof.C4IdealBodyFirst.lean ====
module

public import proofs.«01_k».proof.Proof.C4IdealBody

@[expose] public section

set_option maxRecDepth 16384

noncomputable section

namespace Cert.C4Ideal.Run

open Cert.C4Ideal Cert.C4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Point 0: the rows are normalised and the first gate and up tile is formed from them. -/
theorem run_first (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S5504x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S1x256x2048 .bf16) (harg9 : arg9.IsWhole) (arg10 : Memref sig .tc .vmem S1x2048x256 .f32) (harg10 : arg10.IsWhole) (arg11 : Memref sig .tc .vmem S1x2048x256 .f32) (harg11 : arg11.IsWhole) (arg12 : Memref sig .tc .vmem S512x2048 .bf16) (harg12 : arg12.IsWhole) (arg13 : Memref sig .tc .vmem S11x512x512 .bf16) (harg13 : arg13.IsWhole) (arg14 : Memref sig .tc .vmem S8x512x256 .bf16) (harg14 : arg14.IsWhole) (arg15 : Memref sig .tc .vmem S2048x256 .bf16) (harg15 : arg15.IsWhole)
    (h1 : first i = 1#1) (h2 : k0_cond2 i = 1#1) (h3 : ¬ k0_cond3 i = 1#1) (h4 : ¬ k0_cond4 i = 1#1)
    (x1 : Vec F S512x2048 .f32) (x2 : Vec F S1x2048 .f32) (x3 : Vec F S2048x512 .f32) (x4 : Vec F S2048x512 .f32) (x5 : Vec F S5504x256 .f32) (x6 : Vec F S512x256 .f32) (x7 : Vec F S512x256 .f32) (x8 : Vec F S512x1 .f32) (x9 : Vec F S1x256x2048 .bf16) (x10 : Vec F S1x2048x256 .f32) (x11 : Vec F S1x2048x256 .f32) (x12 : Vec F S512x2048 .bf16) (x13 : Vec F S11x512x512 .bf16) (x14 : Vec F S8x512x256 .bf16) (x15 : Vec F S2048x256 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (k0_pay1 x1 x2) ∗ owns (c : Thread nD τ) arg13 fullShare (VecWindow.put x13 ![(i 0).val, 0, 0] S1x512x512.size (k0_pay2 (k0_pay1 x1 x2) x3 x4)) ∗ owns (c : Thread nD τ) arg14 fullShare x14 ∗ owns (c : Thread nD τ) arg15 fullShare x15) -∗ K ⟨⟩))
          ⊢ wp frame (wpE (defs₀ (F := F)) Variants.none c none) E (cc0__c4_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0__c4_body_eq_skeleton]; unfold cc0__c4_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    unfold run_first.sl.H12_1
    exact (View.read_writes_full _ _ _ _ _).trans (pay1_congr (F := F) ((View.readAt_full _ _ _).trans (harg1.read_unread _)) ((View.readAt_full _ _ _).trans (harg2.read_unread _)))
  isplitl [H13]
  · iexists _; isplitr; swap; · iexact H13
    ipureintro
    rw [View.read_writes_cons_put _ _ _ _ _ (k0_off1_eq i), View.writes_nil, harg13.read_unread]
    unfold run_first.sl.v14 run_first.sl.H12_1
    exact congrArg (VecWindow.put x13 _ _) (pay2_congr (F := F) ((View.readCov_full _ _ _ _ _).trans (pay1_congr (F := F) ((View.readAt_full _ _ _).trans (harg1.read_unread _)) ((View.readAt_full _ _ _).trans (harg2.read_unread _)))) ((View.readAt_full _ _ _).trans (harg3.read_unread _)) ((View.readAt_full _ _ _).trans (harg4.read_unread _)))
  isplitl [H14]
  · iexists _; isplitr; · ipureintro; exact harg14.read_unread _
    iexact H14
  iexists _; isplitr; · ipureintro; exact harg15.read_unread _
  iexact H15

end Cert.C4Ideal.Run

end
-- ==== Proof.C4IdealBodyGlu.lean ====
module

public import proofs.«01_k».proof.Proof.C4IdealBody

@[expose] public section

set_option maxRecDepth 16384

noncomputable section

namespace Cert.C4Ideal.Run

open Cert.C4Ideal Cert.C4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Points 1..10: one gate and up tile. -/
theorem run_glu (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S5504x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S1x256x2048 .bf16) (harg9 : arg9.IsWhole) (arg10 : Memref sig .tc .vmem S1x2048x256 .f32) (harg10 : arg10.IsWhole) (arg11 : Memref sig .tc .vmem S1x2048x256 .f32) (harg11 : arg11.IsWhole) (arg12 : Memref sig .tc .vmem S512x2048 .bf16) (harg12 : arg12.IsWhole) (arg13 : Memref sig .tc .vmem S11x512x512 .bf16) (harg13 : arg13.IsWhole) (arg14 : Memref sig .tc .vmem S8x512x256 .bf16) (harg14 : arg14.IsWhole) (arg15 : Memref sig .tc .vmem S2048x256 .bf16) (harg15 : arg15.IsWhole)
    (h1 : ¬ first i = 1#1) (h2 : k0_cond2 i = 1#1) (h3 : ¬ k0_cond3 i = 1#1) (h4 : ¬ k0_cond4 i = 1#1)
    (x1 : Vec F S512x2048 .f32) (x2 : Vec F S1x2048 .f32) (x3 : Vec F S2048x512 .f32) (x4 : Vec F S2048x512 .f32) (x5 : Vec F S5504x256 .f32) (x6 : Vec F S512x256 .f32) (x7 : Vec F S512x256 .f32) (x8 : Vec F S512x1 .f32) (x9 : Vec F S1x256x2048 .bf16) (x10 : Vec F S1x2048x256 .f32) (x11 : Vec F S1x2048x256 .f32) (x12 : Vec F S512x2048 .bf16) (x13 : Vec F S11x512x512 .bf16) (x14 : Vec F S8x512x256 .bf16) (x15 : Vec F S2048x256 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (VecWindow.put x13 ![(i 0).val, 0, 0] S1x512x512.size (k0_pay2 x12 x3 x4)) ∗ owns (c : Thread nD τ) arg14 fullShare x14 ∗ owns (c : Thread nD τ) arg15 fullShare x15) -∗ K ⟨⟩))
          ⊢ wp frame (wpE (defs₀ (F := F)) Variants.none c none) E (cc0__c4_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0__c4_body_eq_skeleton]; unfold cc0__c4_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    rw [View.read_writes_cons_put _ _ _ _ _ (k0_off1_eq i), View.writes_nil, harg13.read_unread]
    exact congrArg (VecWindow.put x13 _ _) (pay2_congr (F := F) ((View.readAt_full _ _ _).trans (harg12.read_unread _)) ((View.readAt_full _ _ _).trans (harg3.read_unread _)) ((View.readAt_full _ _ _).trans (harg4.read_unread _)))
  isplitl [H14]
  · iexists _; isplitr; · ipureintro; exact harg14.read_unread _
    iexact H14
  iexists _; isplitr; · ipureintro; exact harg15.read_unread _
  iexact H15

end Cert.C4Ideal.Run

end
-- ==== Proof.C4IdealBodyDown.lean ====
module

public import proofs.«01_k».proof.Proof.C4IdealBody

@[expose] public section

set_option maxRecDepth 16384

noncomputable section

namespace Cert.C4Ideal.Run

open Cert.C4Ideal Cert.C4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Points 11..18: one column tile of the down product, its residual and gate. -/
theorem run_down (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S5504x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S1x256x2048 .bf16) (harg9 : arg9.IsWhole) (arg10 : Memref sig .tc .vmem S1x2048x256 .f32) (harg10 : arg10.IsWhole) (arg11 : Memref sig .tc .vmem S1x2048x256 .f32) (harg11 : arg11.IsWhole) (arg12 : Memref sig .tc .vmem S512x2048 .bf16) (harg12 : arg12.IsWhole) (arg13 : Memref sig .tc .vmem S11x512x512 .bf16) (harg13 : arg13.IsWhole) (arg14 : Memref sig .tc .vmem S8x512x256 .bf16) (harg14 : arg14.IsWhole) (arg15 : Memref sig .tc .vmem S2048x256 .bf16) (harg15 : arg15.IsWhole)
    (h1 : ¬ first i = 1#1) (h2 : ¬ k0_cond2 i = 1#1) (h3 : k0_cond3 i = 1#1) (h4 : ¬ k0_cond4 i = 1#1)
    (x1 : Vec F S512x2048 .f32) (x2 : Vec F S1x2048 .f32) (x3 : Vec F S2048x512 .f32) (x4 : Vec F S2048x512 .f32) (x5 : Vec F S5504x256 .f32) (x6 : Vec F S512x256 .f32) (x7 : Vec F S512x256 .f32) (x8 : Vec F S512x1 .f32) (x9 : Vec F S1x256x2048 .bf16) (x10 : Vec F S1x2048x256 .f32) (x11 : Vec F S1x2048x256 .f32) (x12 : Vec F S512x2048 .bf16) (x13 : Vec F S11x512x512 .bf16) (x14 : Vec F S8x512x256 .bf16) (x15 : Vec F S2048x256 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (VecWindow.put x14 ![(i 0).val - 11, 0, 0] S1x512x256.size (down x13 x5 x6 x7 x8)) ∗ owns (c : Thread nD τ) arg15 fullShare x15) -∗ K ⟨⟩))
          ⊢ wp frame (wpE (defs₀ (F := F)) Variants.none c none) E (cc0__c4_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0__c4_body_eq_skeleton]; unfold cc0__c4_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    rw [View.read_writes_cons_put _ _ _ _ _ (off2_eq i h3), View.writes_nil, harg14.read_unread]
    sl_open_run
    simp only [View.readAt_full, View.readCov_full, View.read_writes_full, Memref.IsWhole.read_unread]
    simp only [rd, Memref.IsWhole.read_unread, whole_tile, whole_col]
    exact congrArg (VecWindow.put x14 _ _) (pay3_congr (F := F) _ _ _ _ _ _ (whole_tile x6 _) (whole_tile x7 _) (whole_col x8 _))
  iexists _; isplitr; · ipureintro; exact harg15.read_unread _
  iexact H15

end Cert.C4Ideal.Run

end
-- ==== Proof.C4IdealBodyTurn.lean ====
module

public import proofs.«01_k».proof.Proof.C4IdealBody

@[expose] public section

set_option maxRecDepth 16384

noncomputable section

namespace Cert.C4Ideal.Run

open Cert.C4Ideal Cert.C4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Points 19 and 27: the batch's selection matrix is transposed and its first column tile scattered. -/
theorem run_turn (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S5504x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S1x256x2048 .bf16) (harg9 : arg9.IsWhole) (arg10 : Memref sig .tc .vmem S1x2048x256 .f32) (harg10 : arg10.IsWhole) (arg11 : Memref sig .tc .vmem S1x2048x256 .f32) (harg11 : arg11.IsWhole) (arg12 : Memref sig .tc .vmem S512x2048 .bf16) (harg12 : arg12.IsWhole) (arg13 : Memref sig .tc .vmem S11x512x512 .bf16) (harg13 : arg13.IsWhole) (arg14 : Memref sig .tc .vmem S8x512x256 .bf16) (harg14 : arg14.IsWhole) (arg15 : Memref sig .tc .vmem S2048x256 .bf16) (harg15 : arg15.IsWhole)
    (h1 : ¬ first i = 1#1) (h2 : ¬ k0_cond2 i = 1#1) (h3 : ¬ k0_cond3 i = 1#1) (h4 : k0_cond4 i = 1#1) (h5 : turn i = 1#1)
    (x1 : Vec F S512x2048 .f32) (x2 : Vec F S1x2048 .f32) (x3 : Vec F S2048x512 .f32) (x4 : Vec F S2048x512 .f32) (x5 : Vec F S5504x256 .f32) (x6 : Vec F S512x256 .f32) (x7 : Vec F S512x256 .f32) (x8 : Vec F S512x1 .f32) (x9 : Vec F S1x256x2048 .bf16) (x10 : Vec F S1x2048x256 .f32) (x11 : Vec F S1x2048x256 .f32) (x12 : Vec F S512x2048 .bf16) (x13 : Vec F S11x512x512 .bf16) (x14 : Vec F S8x512x256 .bf16) (x15 : Vec F S2048x256 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (scat (k0_pay11 x9) x14 x10 ((i 0).val - 19) (by have := hi i; omega)) ∗ owns (c : Thread nD τ) arg12 fullShare x12 ∗ owns (c : Thread nD τ) arg13 fullShare x13 ∗ owns (c : Thread nD τ) arg14 fullShare x14 ∗ owns (c : Thread nD τ) arg15 fullShare (k0_pay11 x9)) -∗ K ⟨⟩))
          ⊢ wp frame (wpE (defs₀ (F := F)) Variants.none c none) E (cc0__c4_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0__c4_body_eq_skeleton]; unfold cc0__c4_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact h1 | sl_exact h2 | sl_exact h3 | sl_exact h4 | sl_exact h5)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    rw [View.read_writes_full]
    unfold run_turn.sl.v46 run_turn.sl.v51 scat slab k0_pay12
    refine pay4_congr (F := F) ?_ ?_ ?_
    · unfold run_turn.sl.H15_1
      exact (View.readCov_full _ _ _ _ _).trans (congrArg (k0_pay11 (F := F)) ((View.readAt_full _ _ _).trans (harg9.read_unread _)))
    · exact (rd _ _ _).trans ((congrArg (fun z => VecWindow.window z _ _ _) (harg14.read_unread _)).trans (window_congr x14 (off3_eq i h4) _ _))
    · exact (View.readAt_full _ _ _).trans (harg10.read_unread _)
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  iexists _; isplitr; swap; · iexact H15
  ipureintro
  unfold run_turn.sl.H15_1
  exact (View.read_writes_full _ _ _ _ _).trans (congrArg (k0_pay11 (F := F)) ((View.readAt_full _ _ _).trans (harg9.read_unread _)))

end Cert.C4Ideal.Run

end
-- ==== Proof.C4IdealBodyScat.lean ====
module

public import proofs.«01_k».proof.Proof.C4IdealBody

@[expose] public section

set_option maxRecDepth 16384

noncomputable section

namespace Cert.C4Ideal.Run

open Cert.C4Ideal Cert.C4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The other scatter points. -/
theorem run_scat (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S5504x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S1x256x2048 .bf16) (harg9 : arg9.IsWhole) (arg10 : Memref sig .tc .vmem S1x2048x256 .f32) (harg10 : arg10.IsWhole) (arg11 : Memref sig .tc .vmem S1x2048x256 .f32) (harg11 : arg11.IsWhole) (arg12 : Memref sig .tc .vmem S512x2048 .bf16) (harg12 : arg12.IsWhole) (arg13 : Memref sig .tc .vmem S11x512x512 .bf16) (harg13 : arg13.IsWhole) (arg14 : Memref sig .tc .vmem S8x512x256 .bf16) (harg14 : arg14.IsWhole) (arg15 : Memref sig .tc .vmem S2048x256 .bf16) (harg15 : arg15.IsWhole)
    (h1 : ¬ first i = 1#1) (h2 : ¬ k0_cond2 i = 1#1) (h3 : ¬ k0_cond3 i = 1#1) (h4 : k0_cond4 i = 1#1) (h5 : ¬ turn i = 1#1)
    (x1 : Vec F S512x2048 .f32) (x2 : Vec F S1x2048 .f32) (x3 : Vec F S2048x512 .f32) (x4 : Vec F S2048x512 .f32) (x5 : Vec F S5504x256 .f32) (x6 : Vec F S512x256 .f32) (x7 : Vec F S512x256 .f32) (x8 : Vec F S512x1 .f32) (x9 : Vec F S1x256x2048 .bf16) (x10 : Vec F S1x2048x256 .f32) (x11 : Vec F S1x2048x256 .f32) (x12 : Vec F S512x2048 .bf16) (x13 : Vec F S11x512x512 .bf16) (x14 : Vec F S8x512x256 .bf16) (x15 : Vec F S2048x256 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (scat x15 x14 x10 ((i 0).val - 19) (by have := hi i; omega)) ∗ owns (c : Thread nD τ) arg12 fullShare x12 ∗ owns (c : Thread nD τ) arg13 fullShare x13 ∗ owns (c : Thread nD τ) arg14 fullShare x14 ∗ owns (c : Thread nD τ) arg15 fullShare x15) -∗ K ⟨⟩))
          ⊢ wp frame (wpE (defs₀ (F := F)) Variants.none c none) E (cc0__c4_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0__c4_body_eq_skeleton]; unfold cc0__c4_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact h1 | sl_exact h2 | sl_exact h3 | sl_exact h4 | sl_exact h5)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    rw [View.read_writes_full]
    unfold run_scat.sl.r run_scat.sl.v51 scat slab k0_pay12
    refine pay4_congr (F := F) ?_ ?_ ?_
    · exact (View.readAt_full _ _ _).trans (harg15.read_unread _)
    · exact (rd _ _ _).trans ((congrArg (fun z => VecWindow.window z _ _ _) (harg14.read_unread _)).trans (window_congr x14 (off3_eq i h4) _ _))
    · exact (View.readAt_full _ _ _).trans (harg10.read_unread _)
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  iexists _; isplitr; · ipureintro; exact harg15.read_unread _
  iexact H15

end Cert.C4Ideal.Run

end
-- ==== Proof.C4IdealStep.lean ====
/-
  One run of the kernel's body at any grid point: the scratch buffers and the output block after it, as functions of
  what the windows' buffers and the scratch held before it.
-/
module

public import proofs.«01_k».proof.Proof.C4IdealBodyFirst
public import proofs.«01_k».proof.Proof.C4IdealBodyGlu
public import proofs.«01_k».proof.Proof.C4IdealBodyDown
public import proofs.«01_k».proof.Proof.C4IdealBodyTurn
public import proofs.«01_k».proof.Proof.C4IdealBodyScat

@[expose] public section

set_option maxRecDepth 16384

noncomputable section

namespace Cert.C4Ideal.Run

open Cert.C4Ideal Cert.C4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The normalised rows after a point: formed at point 0, kept after it. -/
def nx12 (i : grid0.Coords) (x1 : Vec F S512x2048 .f32) (x2 : Vec F S1x2048 .f32) (x12 : Vec F S512x2048 .bf16) : Vec F S512x2048 .bf16 :=
  if (i 0).val = 0 then k0_pay1 x1 x2 else x12
/-- The kept products after a point: points 0..10 set tile by tile. -/
def nx13 (i : grid0.Coords) (x1 : Vec F S512x2048 .f32) (x2 : Vec F S1x2048 .f32) (x3 x4 : Vec F S2048x512 .f32)
    (x12 : Vec F S512x2048 .bf16) (x13 : Vec F S11x512x512 .bf16) : Vec F S11x512x512 .bf16 :=
  if (i 0).val < 11 then VecWindow.put x13 ![(i 0).val, 0, 0] S1x512x512.size (k0_pay2 (nx12 i x1 x2 x12) x3 x4) else x13
/-- The gated differences after a point: points 11..18 set one column tile each. -/
def nx14 (i : grid0.Coords) (x5 : Vec F S5504x256 .f32) (x6 x7 : Vec F S512x256 .f32) (x8 : Vec F S512x1 .f32)
    (x13 : Vec F S11x512x512 .bf16) (x14 : Vec F S8x512x256 .bf16) : Vec F S8x512x256 .bf16 :=
  if 11 ≤ (i 0).val ∧ (i 0).val < 19 then VecWindow.put x14 ![(i 0).val - 11, 0, 0] S1x512x256.size (down x13 x5 x6 x7 x8) else x14
/-- The transposed selection matrix after a point: set at points 19 and 27. -/
def nx15 (i : grid0.Coords) (x9 : Vec F S1x256x2048 .bf16) (x15 : Vec F S2048x256 .bf16) : Vec F S2048x256 .bf16 :=
  if (i 0).val = 19 ∨ (i 0).val = 27 then k0_pay11 x9 else x15
/-- The output block after a point: written from point 19 on. -/
def nx11 (i : grid0.Coords) (x9 : Vec F S1x256x2048 .bf16) (x10 : Vec F S1x2048x256 .f32) (x14 : Vec F S8x512x256 .bf16)
    (x15 : Vec F S2048x256 .bf16) (x11 : Vec F S1x2048x256 .f32) : Vec F S1x2048x256 .f32 :=
  if 19 ≤ (i 0).val then scat (nx15 i x9 x15) x14 x10 ((i 0).val - 19) (by have := hi i; omega) else x11

set_option maxHeartbeats 2000000 in
/-- The body at any grid point. -/
theorem run_any (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S5504x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S1x256x2048 .bf16) (harg9 : arg9.IsWhole) (arg10 : Memref sig .tc .vmem S1x2048x256 .f32) (harg10 : arg10.IsWhole) (arg11 : Memref sig .tc .vmem S1x2048x256 .f32) (harg11 : arg11.IsWhole) (arg12 : Memref sig .tc .vmem S512x2048 .bf16) (harg12 : arg12.IsWhole) (arg13 : Memref sig .tc .vmem S11x512x512 .bf16) (harg13 : arg13.IsWhole) (arg14 : Memref sig .tc .vmem S8x512x256 .bf16) (harg14 : arg14.IsWhole) (arg15 : Memref sig .tc .vmem S2048x256 .bf16) (harg15 : arg15.IsWhole)
    (x1 : Vec F S512x2048 .f32) (x2 : Vec F S1x2048 .f32) (x3 : Vec F S2048x512 .f32) (x4 : Vec F S2048x512 .f32) (x5 : Vec F S5504x256 .f32) (x6 : Vec F S512x256 .f32) (x7 : Vec F S512x256 .f32) (x8 : Vec F S512x1 .f32) (x9 : Vec F S1x256x2048 .bf16) (x10 : Vec F S1x2048x256 .f32) (x11 : Vec F S1x2048x256 .f32) (x12 : Vec F S512x2048 .bf16) (x13 : Vec F S11x512x512 .bf16) (x14 : Vec F S8x512x256 .bf16) (x15 : Vec F S2048x256 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (nx11 i x9 x10 x14 x15 x11) ∗ owns (c : Thread nD τ) arg12 fullShare (nx12 i x1 x2 x12) ∗ owns (c : Thread nD τ) arg13 fullShare (nx13 i x1 x2 x3 x4 x12 x13) ∗ owns (c : Thread nD τ) arg14 fullShare (nx14 i x5 x6 x7 x8 x13 x14) ∗ owns (c : Thread nD τ) arg15 fullShare (nx15 i x9 x15)) -∗ K ⟨⟩))
          ⊢ wp frame (wpE (defs₀ (F := F)) Variants.none c none) E (cc0__c4_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  have hN := hi i
  by_cases g0 : (i 0).val = 0
  ·
    have h12 : nx12 i x1 x2 x12 = k0_pay1 x1 x2 := if_pos (by omega)
    have h13 : nx13 i x1 x2 x3 x4 x12 x13 = VecWindow.put x13 ![(i 0).val, 0, 0] S1x512x512.size (k0_pay2 (k0_pay1 x1 x2) x3 x4) := by unfold nx13; rw [if_pos (by omega), h12]
    have h14 : nx14 i x5 x6 x7 x8 x13 x14 = x14 := if_neg (by omega)
    have h15 : nx15 i x9 x15 = x15 := if_neg (by omega)
    have h11 : nx11 i x9 x10 x14 x15 x11 = x11 := if_neg (by omega)
    rw [h11, h12, h13, h14, h15]
    exact run_first c i arg1 harg1 arg2 harg2 arg3 harg3 arg4 harg4 arg5 harg5 arg6 harg6 arg7 harg7 arg8 harg8 arg9 harg9 arg10 harg10 arg11 harg11 arg12 harg12 arg13 harg13 arg14 harg14 arg15 harg15 ((first_iff i).mpr (by omega)) ((cond2_iff i).mpr (by omega)) (fun h => by have := (cond3_iff i).mp h; omega) (fun h => by have := (cond4_iff i).mp h; omega) x1 x2 x3 x4 x5 x6 x7 x8 x9 x10 x11 x12 x13 x14 x15 E K

  by_cases g1 : (i 0).val < 11
  ·
    have h12 : nx12 i x1 x2 x12 = x12 := if_neg (by omega)
    have h13 : nx13 i x1 x2 x3 x4 x12 x13 = VecWindow.put x13 ![(i 0).val, 0, 0] S1x512x512.size (k0_pay2 x12 x3 x4) := by unfold nx13; rw [if_pos (by omega), h12]
    have h14 : nx14 i x5 x6 x7 x8 x13 x14 = x14 := if_neg (by omega)
    have h15 : nx15 i x9 x15 = x15 := if_neg (by omega)
    have h11 : nx11 i x9 x10 x14 x15 x11 = x11 := if_neg (by omega)
    rw [h11, h12, h13, h14, h15]
    exact run_glu c i arg1 harg1 arg2 harg2 arg3 harg3 arg4 harg4 arg5 harg5 arg6 harg6 arg7 harg7 arg8 harg8 arg9 harg9 arg10 harg10 arg11 harg11 arg12 harg12 arg13 harg13 arg14 harg14 arg15 harg15 (fun h => by have := (first_iff i).mp h; omega) ((cond2_iff i).mpr (by omega)) (fun h => by have := (cond3_iff i).mp h; omega) (fun h => by have := (cond4_iff i).mp h; omega) x1 x2 x3 x4 x5 x6 x7 x8 x9 x10 x11 x12 x13 x14 x15 E K

  by_cases g2 : (i 0).val < 19
  ·
    have h12 : nx12 i x1 x2 x12 = x12 := if_neg (by omega)
    have h13 : nx13 i x1 x2 x3 x4 x12 x13 = x13 := if_neg (by omega)
    have h14 : nx14 i x5 x6 x7 x8 x13 x14 = VecWindow.put x14 ![(i 0).val - 11, 0, 0] S1x512x256.size (down x13 x5 x6 x7 x8) := if_pos (by omega)
    have h15 : nx15 i x9 x15 = x15 := if_neg (by omega)
    have h11 : nx11 i x9 x10 x14 x15 x11 = x11 := if_neg (by omega)
    rw [h11, h12, h13, h14, h15]
    exact run_down c i arg1 harg1 arg2 harg2 arg3 harg3 arg4 harg4 arg5 harg5 arg6 harg6 arg7 harg7 arg8 harg8 arg9 harg9 arg10 harg10 arg11 harg11 arg12 harg12 arg13 harg13 arg14 harg14 arg15 harg15 (fun h => by have := (first_iff i).mp h; omega) (fun h => by have := (cond2_iff i).mp h; omega) ((cond3_iff i).mpr (by omega)) (fun h => by have := (cond4_iff i).mp h; omega) x1 x2 x3 x4 x5 x6 x7 x8 x9 x10 x11 x12 x13 x14 x15 E K

  have hc : k0_cond4 i = 1#1 := (cond4_iff i).mpr (by omega)
  by_cases g3 : (i 0).val = 19 ∨ (i 0).val = 27
  ·
    have h12 : nx12 i x1 x2 x12 = x12 := if_neg (by omega)
    have h13 : nx13 i x1 x2 x3 x4 x12 x13 = x13 := if_neg (by omega)
    have h14 : nx14 i x5 x6 x7 x8 x13 x14 = x14 := if_neg (by omega)
    have h15 : nx15 i x9 x15 = k0_pay11 x9 := if_pos g3
    have h11 : nx11 i x9 x10 x14 x15 x11 = scat (k0_pay11 x9) x14 x10 ((i 0).val - 19) (by have := hi i; omega) := by unfold nx11; rw [if_pos (by omega), h15]
    rw [h11, h12, h13, h14, h15]
    exact run_turn c i arg1 harg1 arg2 harg2 arg3 harg3 arg4 harg4 arg5 harg5 arg6 harg6 arg7 harg7 arg8 harg8 arg9 harg9 arg10 harg10 arg11 harg11 arg12 harg12 arg13 harg13 arg14 harg14 arg15 harg15 (fun h => by have := (first_iff i).mp h; omega) (fun h => by have := (cond2_iff i).mp h; omega) (fun h => by have := (cond3_iff i).mp h; omega) hc ((turn_iff i hc).mpr g3) x1 x2 x3 x4 x5 x6 x7 x8 x9 x10 x11 x12 x13 x14 x15 E K

  ·
    have h12 : nx12 i x1 x2 x12 = x12 := if_neg (by omega)
    have h13 : nx13 i x1 x2 x3 x4 x12 x13 = x13 := if_neg (by omega)
    have h14 : nx14 i x5 x6 x7 x8 x13 x14 = x14 := if_neg (by omega)
    have h15 : nx15 i x9 x15 = x15 := if_neg g3
    have h11 : nx11 i x9 x10 x14 x15 x11 = scat x15 x14 x10 ((i 0).val - 19) (by have := hi i; omega) := by unfold nx11; rw [if_pos (by omega), h15]
    rw [h11, h12, h13, h14, h15]
    exact run_scat c i arg1 harg1 arg2 harg2 arg3 harg3 arg4 harg4 arg5 harg5 arg6 harg6 arg7 harg7 arg8 harg8 arg9 harg9 arg10 harg10 arg11 harg11 arg12 harg12 arg13 harg13 arg14 harg14 arg15 harg15 (fun h => by have := (first_iff i).mp h; omega) (fun h => by have := (cond2_iff i).mp h; omega) (fun h => by have := (cond3_iff i).mp h; omega) hc (fun h => g3 ((turn_iff i hc).mp h)) x1 x2 x3 x4 x5 x6 x7 x8 x9 x10 x11 x12 x13 x14 x15 E K

end Cert.C4Ideal.Run

end
-- ==== Proof.C4IdealPay.lean ====
/-
  The values the block kernel's body stores, read at an index over the extended reals.
-/
module

public import proofs.«01_k».proof.Proof.Gen.C4Ideal.Skeleton
public import Idealize.ShloMosaic.Lib.Pointwise
public import Idealize.ShloMosaic.PureOps.Ideal

@[expose] public section

set_option maxRecDepth 16384

noncomputable section

namespace Cert.C4Ideal.Math

open Cert.C4Ideal Cert.C4Ideal.Gen
open Idealize.ShloMosaic

/-! ## The mathematics, element by element -/

/-- A row of `x` divided by its root mean square and weighted by `l`. -/
def normed (x : Vec Ideal S512x2048 .f32) (l : Vec Ideal S1x2048 .f32) (r : Fin 512) (d : Fin 2048) : EReal :=
  x (ix2 r d) * Ideal.rsqrt (Ideal.div (∑ e, x (ix2 r e) * x (ix2 r e)) (Ideal.ofBits .f32 0x45000000#32) + Ideal.ofBits .f32 0x358637BD#32)
    * l (ix2 0 d)
/-- The gated linear unit of a gate value and an up value. -/
def glu (g u : EReal) : EReal := g * Ideal.div 1 (1 + Ideal.exp (0 - g)) * u

/-! ## The payloads -/

/-- A scatter block at an element: the old element plus the selection's sum. -/
theorem pay4_at (x15 : Vec Ideal S2048x256 .bf16) (w : FVec Ideal S256x256 .bf16) (x10 : Vec Ideal S1x2048x256 .f32) (t : Fin 2048) (d : Fin 256) :
    k0_pay4 (F := Ideal) x15 w x10 (ix3 0 t d) = (x10 (ix3 0 t d) : EReal) + ∑ k : Fin 256, x15 (ix2 t k) * w (ix2 k d) := by
  pointwise [k0_pay4]

/-- The turned selection block. -/
theorem pay11_at (x9 : Vec Ideal S1x256x2048 .bf16) (t : Fin 2048) (k : Fin 256) :
    k0_pay11 (F := Ideal) x9 (ix2 t k) = x9 (ix3 0 k t) := by
  pointwise [k0_pay11]

/-- The batch's rows without their unit axis. -/
theorem pay12_at (x : Vec Ideal S1x256x256 .bf16) (k : Fin 256) (d : Fin 256) :
    k0_pay12 (F := Ideal) x (ix2 k d) = x (ix3 0 k d) := by
  pointwise [k0_pay12]

/-- The first store: the normalised rows. -/
theorem pay1_at (x : Vec Ideal S512x2048 .f32) (l : Vec Ideal S1x2048 .f32) (r : Fin 512) (d : Fin 2048) :
    k0_pay1 (F := Ideal) x l (ix2 r d) = normed x l r d := by
  pointwise [k0_pay1, normed]

/-- One tile of the gated products. -/
theorem pay2_at (x : Vec Ideal S512x2048 .bf16) (a b : Vec Ideal S2048x512 .f32) (r : Fin 512) (q : Fin 512) :
    k0_pay2 (F := Ideal) x a b (ix3 0 r q)
      = glu (∑ d : Fin 2048, x (ix2 r d) * a (ix2 d q)) (∑ d : Fin 2048, x (ix2 r d) * b (ix2 d q)) := by
  pointwise [k0_pay2, glu]

/-- The first four tiles' products. -/
theorem pay5_at (a0 : Vec Ideal S1x512x512 .bf16) (w0 : Vec Ideal S512x256 .f32) (a1 : Vec Ideal S1x512x512 .bf16) (w1 : Vec Ideal S512x256 .f32)
    (a2 : Vec Ideal S1x512x512 .bf16) (w2 : Vec Ideal S512x256 .f32) (a3 : Vec Ideal S1x512x512 .bf16) (w3 : Vec Ideal S512x256 .f32)
    (r : Fin 512) (c : Fin 256) :
    k0_pay5 (F := Ideal) a0 w0 a1 w1 a2 w2 a3 w3 (ix2 r c)
      = (∑ q : Fin 512, a0 (ix3 0 r q) * w0 (ix2 q c)) + (∑ q : Fin 512, a1 (ix3 0 r q) * w1 (ix2 q c))
        + (∑ q : Fin 512, a2 (ix3 0 r q) * w2 (ix2 q c)) + (∑ q : Fin 512, a3 (ix3 0 r q) * w3 (ix2 q c)) := by
  pointwise [k0_pay5]

/-- The next five tiles' products on top of an earlier sum. -/
theorem pay8_at (v : FVec Ideal S512x256 .f32) (a0 : Vec Ideal S1x512x512 .bf16) (w0 : Vec Ideal S512x256 .f32) (a1 : Vec Ideal S1x512x512 .bf16) (w1 : Vec Ideal S512x256 .f32)
    (a2 : Vec Ideal S1x512x512 .bf16) (w2 : Vec Ideal S512x256 .f32) (a3 : Vec Ideal S1x512x512 .bf16) (w3 : Vec Ideal S512x256 .f32)
    (a4 : Vec Ideal S1x512x512 .bf16) (w4 : Vec Ideal S512x256 .f32) (r : Fin 512) (c : Fin 256) :
    k0_pay8 (F := Ideal) v (k0_pay6 a0) (k0_pay7 w0) (constant S512x256 .f32 0x00000000#32) a1 w1 a2 w2 a3 w3 a4 w4 (ix2 r c)
      = (v (ix2 r c) : EReal) + (∑ q : Fin 512, a0 (ix3 0 r q) * w0 (ix2 q c)) + (∑ q : Fin 512, a1 (ix3 0 r q) * w1 (ix2 q c))
        + (∑ q : Fin 512, a2 (ix3 0 r q) * w2 (ix2 q c)) + (∑ q : Fin 512, a3 (ix3 0 r q) * w3 (ix2 q c))
        + (∑ q : Fin 512, a4 (ix3 0 r q) * w4 (ix2 q c)) := by
  pointwise [k0_pay8, k0_pay6, k0_pay7]

/-- The last two tiles' products, the residual, the difference and the gate. -/
theorem pay3_at (v : FVec Ideal S512x256 .f32) (a9 : Vec Ideal S1x512x512 .bf16) (w9 : Vec Ideal S512x256 .f32) (a10 : Vec Ideal S1x512x512 .bf16)
    (w10 : Vec Ideal S384x256 .f32) (x6 x7 : Vec Ideal S512x256 .f32) (x8 : Vec Ideal S512x1 .f32) (r : Fin 512) (c : Fin 256) :
    k0_pay3 (F := Ideal) v (k0_pay9 a9) (k0_pay10 w9) (constant S512x256 .f32 0x00000000#32) a10 w10 x6 x7 x8 (ix3 0 r c)
      = ((x6 (ix2 r c) : EReal) + ((v (ix2 r c) : EReal) + (∑ q : Fin 512, a9 (ix3 0 r q) * w9 (ix2 q c))
          + (∑ q : Fin 384, a10 (ix3 0 r ⟨q, by omega⟩) * w10 (ix2 q c))) - x7 (ix2 r c)) * x8 (ix2 r 0) := by
  pointwise [k0_pay3, k0_pay9, k0_pay10]

end Cert.C4Ideal.Math

end
-- ==== Proof.C4IdealMath.lean ====
/-
  The block kernel's mathematics: what it computes from its arguments element by element over the extended reals, and
  that the scratch buffers hold the parts of it from one grid point to the next.
-/
module

public import proofs.«01_k».proof.Proof.C4IdealStep
public import proofs.«01_k».proof.Proof.C4IdealPay

@[expose] public section

set_option maxRecDepth 16384

noncomputable section

namespace Cert.C4Ideal.Math

open Cert.C4Ideal Cert.C4Ideal.Gen Cert.C4Ideal.Run
open Idealize.ShloMosaic

/-! ## Windows of the scratch buffers at an element -/

/-- A kept tile at an element. -/
theorem tile_at (x : Vec Ideal S11x512x512 .bf16) (t : ℕ) (h : t < 11) (r q : Fin 512) :
    tile (F := Ideal) x t h (ix3 0 r q) = x (ix3 ⟨t, h⟩ r q) :=
  congrArg x (funext fun a => Fin.ext (by
    fin_cases a
    · show t + 1 * 0 = t; omega
    · show 0 + 1 * r.val = r.val; omega
    · show 0 + 1 * q.val = q.val; omega))
/-- A block of the down weight's rows at an element. -/
theorem wrows_at (x : Vec Ideal S5504x256 .f32) (t : ℕ) (h : t < 10) (q : Fin 512) (c : Fin 256) :
    wrows (F := Ideal) x t h (ix2 q c) = x (ix2 ⟨t * 512 + q.val, by omega⟩ c) :=
  congrArg x (funext fun a => Fin.ext (by
    fin_cases a
    · show t * 512 + 1 * q.val = t * 512 + q.val; omega
    · show 0 + 1 * c.val = c.val; omega))
/-- The down weight's last rows at an element. -/
theorem wlast_at (x : Vec Ideal S5504x256 .f32) (q : Fin 384) (c : Fin 256) :
    wlast (F := Ideal) x (ix2 q c) = x (ix2 ⟨10 * 512 + q.val, by omega⟩ c) :=
  congrArg x (funext fun a => Fin.ext (by
    fin_cases a
    · show 5120 + 1 * q.val = 10 * 512 + q.val; omega
    · show 0 + 1 * c.val = c.val; omega))
/-- A batch's rows at an element. -/
theorem slab_at (x : Vec Ideal S8x512x256 .bf16) (n : ℕ) (h : n < 16) (k : Fin 256) (d : Fin 256) :
    slab (F := Ideal) x n h (ix3 0 k d) = x (ix3 ⟨n % 8, by omega⟩ ⟨n / 8 * 256 + k.val, by omega⟩ d) :=
  congrArg x (funext fun a => Fin.ext (by
    fin_cases a
    · show n % 8 + 1 * 0 = n % 8; omega
    · show n / 8 * 256 + 1 * k.val = n / 8 * 256 + k.val; omega
    · show 0 + 1 * d.val = d.val; omega))

/-- A store of leading slice `n`, read in that slice. -/
theorem put_same {α : Type} {A B C : ℕ} (x : (⟨3, ![A, B, C]⟩ : Shape).Idx → α) (n : ℕ) (w : (⟨3, ![1, B, C]⟩ : Shape).Idx → α)
    (t : Fin A) (r : Fin B) (q : Fin C) (h : t.val = n) :
    VecWindow.put (s := ⟨3, ![A, B, C]⟩) x ![n, 0, 0] ![1, B, C] w (ix3 t r q) = w (ix3 0 r q) := by
  unfold VecWindow.put
  have hall : ∀ a : Fin 3, (![n, 0, 0] : Fin 3 → ℕ) a ≤ ((ix3 t r q : (⟨3, ![A, B, C]⟩ : Shape).Idx) a).val
      ∧ ((ix3 t r q : (⟨3, ![A, B, C]⟩ : Shape).Idx) a).val < (![n, 0, 0] : Fin 3 → ℕ) a + (![1, B, C] : Fin 3 → ℕ) a := by
    intro a; fin_cases a
    · show n ≤ t.val ∧ t.val < n + 1; omega
    · show 0 ≤ r.val ∧ r.val < 0 + B; have := r.isLt; omega
    · show 0 ≤ q.val ∧ q.val < 0 + C; have := q.isLt; omega
  rw [dif_pos hall]
  refine congrArg w (funext fun a => Fin.ext ?_)
  fin_cases a
  · show t.val - n = 0; omega
  · show r.val - 0 = r.val; omega
  · show q.val - 0 = q.val; omega
/-- A store of leading slice `n`, read in another slice. -/
theorem put_other {α : Type} {A B C : ℕ} (x : (⟨3, ![A, B, C]⟩ : Shape).Idx → α) (n : ℕ) (w : (⟨3, ![1, B, C]⟩ : Shape).Idx → α)
    (t : Fin A) (r : Fin B) (q : Fin C) (h : t.val ≠ n) :
    VecWindow.put (s := ⟨3, ![A, B, C]⟩) x ![n, 0, 0] ![1, B, C] w (ix3 t r q) = x (ix3 t r q) := by
  unfold VecWindow.put
  rw [dif_neg]
  intro hall
  have h0 : n ≤ t.val ∧ t.val < n + 1 := hall 0
  omega

/-! ## The down product: eleven tiles are one sum over 5504 -/

/-- Ten full blocks of 512 and one of 384 make a sum over 5504. -/
theorem sum_blocks (f : ℕ → EReal) :
    (∑ q : Fin 512, f (0 * 512 + q)) + (∑ q : Fin 512, f (1 * 512 + q)) + (∑ q : Fin 512, f (2 * 512 + q)) + (∑ q : Fin 512, f (3 * 512 + q))
      + (∑ q : Fin 512, f (4 * 512 + q)) + (∑ q : Fin 512, f (5 * 512 + q)) + (∑ q : Fin 512, f (6 * 512 + q)) + (∑ q : Fin 512, f (7 * 512 + q))
      + (∑ q : Fin 512, f (8 * 512 + q)) + (∑ q : Fin 512, f (9 * 512 + q)) + (∑ q : Fin 384, f (10 * 512 + q))
      = ∑ k : Fin 5504, f k := by
  have blk : ∀ a n : ℕ, ∑ q : Fin n, f (a + q) = ∑ q ∈ Finset.range n, f (a + q) := fun a n => Fin.sum_univ_eq_sum_range (fun q => f (a + q)) n
  have step : ∀ a n : ℕ, ∑ q ∈ Finset.range (a + n), f q = (∑ q ∈ Finset.range a, f q) + ∑ q ∈ Finset.range n, f (a + q) :=
    fun a n => Finset.sum_range_add f a n
  have z : ∑ q ∈ Finset.range 512, f (0 * 512 + q) = ∑ q ∈ Finset.range (1 * 512), f q := by
    refine Finset.sum_congr rfl fun q _ => congrArg f (by omega)
  simp only [blk]
  rw [Fin.sum_univ_eq_sum_range f 5504, z, ← step, ← step, ← step, ← step, ← step, ← step, ← step, ← step, ← step, ← step]

/-- The down point's block at an element. -/
theorem down_at (x13 : Vec Ideal S11x512x512 .bf16) (x5 : Vec Ideal S5504x256 .f32) (x6 x7 : Vec Ideal S512x256 .f32) (x8 : Vec Ideal S512x1 .f32)
    (A : Fin 512 → Fin 5504 → EReal)
    (hA : ∀ (t : Fin 11) (r q : Fin 512) (h : t.val * 512 + q.val < 5504), x13 (ix3 t r q) = A r ⟨t.val * 512 + q.val, h⟩)
    (r : Fin 512) (c : Fin 256) :
    down (F := Ideal) x13 x5 x6 x7 x8 (ix3 0 r c)
      = ((x6 (ix2 r c) : EReal) + (∑ k : Fin 5504, A r k * x5 (ix2 k c)) - x7 (ix2 r c)) * x8 (ix2 r 0) := by
  let f : ℕ → EReal := fun k => if h : k < 5504 then A r ⟨k, h⟩ * x5 (ix2 ⟨k, h⟩ c) else 0
  have hf : ∀ k : Fin 5504, f k.val = A r k * x5 (ix2 k c) := fun k => dif_pos k.isLt
  have hb : ∀ (t : ℕ) (h : t < 11) (h' : t < 10), (∑ q : Fin 512, tile (F := Ideal) x13 t h (ix3 0 r q) * wrows (F := Ideal) x5 t h' (ix2 q c) : EReal)
      = ∑ q : Fin 512, f (t * 512 + q) := fun t h h' => Finset.sum_congr rfl fun q _ => by
    rw [tile_at, wrows_at, hA ⟨t, h⟩ r q (by show t * 512 + q.val < 5504; omega)]
    exact (hf ⟨t * 512 + q.val, by omega⟩).symm
  have hl : (∑ q : Fin 384, tile (F := Ideal) x13 10 (by omega) (ix3 0 r ⟨q.val, by omega⟩) * wlast (F := Ideal) x5 (ix2 q c) : EReal)
      = ∑ q : Fin 384, f (10 * 512 + q) := Finset.sum_congr rfl fun q _ => by
    rw [tile_at, wlast_at, hA ⟨10, by omega⟩ r ⟨q.val, by omega⟩ (by show 10 * 512 + q.val < 5504; omega)]
    exact (hf ⟨10 * 512 + q.val, by omega⟩).symm
  unfold down
  rw [pay3_at, pay8_at, pay5_at, hb, hb, hb, hb, hb, hb, hb, hb, hb, hb, hl, sum_blocks, Finset.sum_congr rfl fun k _ => hf k]

/-- The scatter point's block at an element. -/
theorem scat_at (x15 : Vec Ideal S2048x256 .bf16) (x14 : Vec Ideal S8x512x256 .bf16) (x10 : Vec Ideal S1x2048x256 .f32) (n : ℕ) (h : n < 16)
    (t : Fin 2048) (d : Fin 256) :
    scat (F := Ideal) x15 x14 x10 n h (ix3 0 t d)
      = (x10 (ix3 0 t d) : EReal) + ∑ k : Fin 256, x15 (ix2 t k) * x14 (ix3 ⟨n % 8, by omega⟩ ⟨n / 8 * 256 + k.val, by omega⟩ d) := by
  unfold scat
  rw [pay4_at]
  simp only [pay12_at, slab_at]

end Cert.C4Ideal.Math

end
-- ==== Proof.C4IdealInv.lean ====
/-
  The block kernel's invariant: after each grid point the scratch buffers hold the normalised rows, the gated products
  of the tiles done, the gated differences of the column tiles done and the current batch's turned selection; and a
  scatter point's output block is the result's.
-/
module

public import proofs.«01_k».proof.Proof.C4IdealMath

@[expose] public section

set_option maxRecDepth 16384

noncomputable section

namespace Cert.C4Ideal.Math

open Cert.C4Ideal Cert.C4Ideal.Gen Cert.C4Ideal.Run
open Idealize.ShloMosaic

variable (r1 : Vec Ideal S512x2048 .f32) (ln : Vec Ideal S1x2048 .f32) (Wg Wu : Vec Ideal S2048x5504 .f32) (Wd : Vec Ideal S5504x2048 .f32)
  (sel : Vec Ideal S512x2048 .f32) (gate : Vec Ideal S512x1 .f32) (p : Vec Ideal S2x256x2048 .bf16) (hs : Vec Ideal S2x2048x2048 .f32)

/-- The gated products. -/
def act (r : Fin 512) (k : Fin 5504) : EReal :=
  glu (∑ d : Fin 2048, normed r1 ln r d * Wg (ix2 d k)) (∑ d : Fin 2048, normed r1 ln r d * Wu (ix2 d k))
/-- The gated differences: what the block adds to the selected rows, times the gate. -/
def upd (r : Fin 512) (d : Fin 2048) : EReal :=
  ((r1 (ix2 r d) : EReal) + (∑ k : Fin 5504, act r1 ln Wg Wu r k * Wd (ix2 k d)) - sel (ix2 r d)) * gate (ix2 r 0)
/-- The result: each batch's differences added at the selected rows. -/
def res (b : Fin 2) (t d : Fin 2048) : EReal :=
  (hs (ix3 b t d) : EReal) + ∑ k : Fin 256, p (ix3 b k t) * upd r1 ln Wg Wu Wd sel gate ⟨b.val * 256 + k.val, by omega⟩ d

/-- What the scratch buffers hold before point `n`. -/
structure Inv (n : ℕ) (x12 : Vec Ideal S512x2048 .bf16) (x13 : Vec Ideal S11x512x512 .bf16) (x14 : Vec Ideal S8x512x256 .bf16)
    (x15 : Vec Ideal S2048x256 .bf16) : Prop where
  rows : 1 ≤ n → ∀ (r : Fin 512) (d : Fin 2048), x12 (ix2 r d) = normed r1 ln r d
  kept : ∀ t : Fin 11, t.val < n → ∀ (r q : Fin 512) (h : t.val * 512 + q.val < 5504),
    x13 (ix3 t r q) = act r1 ln Wg Wu r ⟨t.val * 512 + q.val, h⟩
  diff : ∀ j : Fin 8, 11 + j.val < n → ∀ (r : Fin 512) (c : Fin 256),
    x14 (ix3 j r c) = upd r1 ln Wg Wu Wd sel gate r ⟨j.val * 256 + c.val, by omega⟩
  turned : ∀ b : Fin 2, 20 + 8 * b.val ≤ n → n < 28 + 8 * b.val → ∀ (t : Fin 2048) (k : Fin 256), x15 (ix2 t k) = p (ix3 b k t)

/-- What the windows hold at point `n`. -/
structure Blocks (n : ℕ) (x1 : Vec Ideal S512x2048 .f32) (x2 : Vec Ideal S1x2048 .f32) (x3 x4 : Vec Ideal S2048x512 .f32)
    (x5 : Vec Ideal S5504x256 .f32) (x6 x7 : Vec Ideal S512x256 .f32) (x8 : Vec Ideal S512x1 .f32) (x9 : Vec Ideal S1x256x2048 .bf16)
    (x10 : Vec Ideal S1x2048x256 .f32) : Prop where
  b1 : x1 = r1
  b2 : x2 = ln
  b3 : n < 11 → ∀ (d : Fin 2048) (q : Fin 512) (h : n * 512 + q.val < 5504), x3 (ix2 d q) = Wg (ix2 d ⟨n * 512 + q.val, h⟩)
  b4 : n < 11 → ∀ (d : Fin 2048) (q : Fin 512) (h : n * 512 + q.val < 5504), x4 (ix2 d q) = Wu (ix2 d ⟨n * 512 + q.val, h⟩)
  b5 : 11 ≤ n → ∀ h : n < 19, ∀ (k : Fin 5504) (c : Fin 256), x5 (ix2 k c) = Wd (ix2 k ⟨(n - 11) * 256 + c.val, by omega⟩)
  b6 : 11 ≤ n → ∀ h : n < 19, ∀ (r : Fin 512) (c : Fin 256), x6 (ix2 r c) = r1 (ix2 r ⟨(n - 11) * 256 + c.val, by omega⟩)
  b7 : 11 ≤ n → ∀ h : n < 19, ∀ (r : Fin 512) (c : Fin 256), x7 (ix2 r c) = sel (ix2 r ⟨(n - 11) * 256 + c.val, by omega⟩)
  b8 : x8 = gate
  b9 : 19 ≤ n → ∀ h : n < 35, ∀ (k : Fin 256) (t : Fin 2048), x9 (ix3 0 k t) = p (ix3 ⟨(n - 19) / 8, by omega⟩ k t)
  b10 : 19 ≤ n → ∀ h : n < 35, ∀ (t : Fin 2048) (d : Fin 256),
    x10 (ix3 0 t d) = hs (ix3 ⟨(n - 19) / 8, by omega⟩ t ⟨(n - 19) % 8 * 256 + d.val, by omega⟩)

variable {r1 ln Wg Wu Wd sel gate p hs}
variable {x1 : Vec Ideal S512x2048 .f32} {x2 : Vec Ideal S1x2048 .f32} {x3 x4 : Vec Ideal S2048x512 .f32}
    {x5 : Vec Ideal S5504x256 .f32} {x6 x7 : Vec Ideal S512x256 .f32} {x8 : Vec Ideal S512x1 .f32} {x9 : Vec Ideal S1x256x2048 .bf16}
    {x10 : Vec Ideal S1x2048x256 .f32} {x12 : Vec Ideal S512x2048 .bf16} {x13 : Vec Ideal S11x512x512 .bf16} {x14 : Vec Ideal S8x512x256 .bf16}
    {x15 : Vec Ideal S2048x256 .bf16}

/-- The normalised rows after a point. -/
theorem rows_next {i : grid0.Coords} (hI : Inv r1 ln Wg Wu Wd sel gate p (i 0).val x12 x13 x14 x15)
    (hB : Blocks r1 ln Wg Wu Wd sel gate p hs (i 0).val x1 x2 x3 x4 x5 x6 x7 x8 x9 x10) (r : Fin 512) (d : Fin 2048) :
    nx12 (F := Ideal) i x1 x2 x12 (ix2 r d) = normed r1 ln r d := by
  unfold nx12
  by_cases h : (i 0).val = 0
  · rw [if_pos h, pay1_at, hB.b1, hB.b2]
  · rw [if_neg h]; exact hI.rows (by omega) r d

/-- The kept products after a point. -/
theorem kept_next {i : grid0.Coords} (hI : Inv r1 ln Wg Wu Wd sel gate p (i 0).val x12 x13 x14 x15)
    (hB : Blocks r1 ln Wg Wu Wd sel gate p hs (i 0).val x1 x2 x3 x4 x5 x6 x7 x8 x9 x10) (t : Fin 11) (ht : t.val < (i 0).val + 1)
    (r q : Fin 512) (h : t.val * 512 + q.val < 5504) :
    nx13 (F := Ideal) i x1 x2 x3 x4 x12 x13 (ix3 t r q) = act r1 ln Wg Wu r ⟨t.val * 512 + q.val, h⟩ := by
  unfold nx13
  by_cases g : (i 0).val < 11
  · rw [if_pos g]
    by_cases e : t.val = (i 0).val
    · have hq : (i 0).val * 512 + q.val < 5504 := e ▸ h
      refine (put_same (A := 11) (B := 512) (C := 512) x13 _ _ t r q e).trans ?_
      rw [pay2_at]
      have ek : (⟨t.val * 512 + q.val, h⟩ : Fin 5504) = ⟨(i 0).val * 512 + q.val, hq⟩ := Fin.ext (by show t.val * 512 + q.val = (i 0).val * 512 + q.val; rw [e])
      rw [ek]
      unfold act
      congr 1
      · exact Finset.sum_congr rfl fun d _ => by rw [rows_next hI hB, hB.b3 g d q hq]
      · exact Finset.sum_congr rfl fun d _ => by rw [rows_next hI hB, hB.b4 g d q hq]
    · exact (put_other (A := 11) (B := 512) (C := 512) x13 _ _ t r q e).trans (hI.kept t (by omega) r q h)
  · rw [if_neg g]; exact hI.kept t (by have := t.isLt; omega) r q h

/-- The gated differences after a point. -/
theorem diff_next {i : grid0.Coords} (hI : Inv r1 ln Wg Wu Wd sel gate p (i 0).val x12 x13 x14 x15)
    (hB : Blocks r1 ln Wg Wu Wd sel gate p hs (i 0).val x1 x2 x3 x4 x5 x6 x7 x8 x9 x10) (j : Fin 8) (hj : 11 + j.val < (i 0).val + 1)
    (r : Fin 512) (c : Fin 256) :
    nx14 (F := Ideal) i x5 x6 x7 x8 x13 x14 (ix3 j r c) = upd r1 ln Wg Wu Wd sel gate r ⟨j.val * 256 + c.val, by omega⟩ := by
  unfold nx14
  by_cases g : 11 ≤ (i 0).val ∧ (i 0).val < 19
  · rw [if_pos g]
    by_cases e : j.val = (i 0).val - 11
    · refine (put_same (A := 8) (B := 512) (C := 256) x14 _ _ j r c e).trans ?_
      rw [down_at x13 x5 x6 x7 x8 (act r1 ln Wg Wu) (fun t r q h => hI.kept t (by have := t.isLt; omega) r q h) r c]
      have ek : (⟨j.val * 256 + c.val, by omega⟩ : Fin 2048) = ⟨((i 0).val - 11) * 256 + c.val, by omega⟩ :=
        Fin.ext (by show j.val * 256 + c.val = ((i 0).val - 11) * 256 + c.val; rw [e])
      rw [ek]
      unfold upd
      rw [hB.b6 g.1 g.2 r c, hB.b7 g.1 g.2 r c, hB.b8]
      congr 3
      exact Finset.sum_congr rfl fun k _ => by rw [hB.b5 g.1 g.2 k c]
    · exact (put_other (A := 8) (B := 512) (C := 256) x14 _ _ j r c e).trans (hI.diff j (by omega) r c)
  · rw [if_neg g]; exact hI.diff j (by have := j.isLt; omega) r c

/-- The turned selection after a point. -/
theorem turned_next {i : grid0.Coords} (hI : Inv r1 ln Wg Wu Wd sel gate p (i 0).val x12 x13 x14 x15)
    (hB : Blocks r1 ln Wg Wu Wd sel gate p hs (i 0).val x1 x2 x3 x4 x5 x6 x7 x8 x9 x10) (b : Fin 2) (h1 : 20 + 8 * b.val ≤ (i 0).val + 1)
    (h2 : (i 0).val + 1 < 28 + 8 * b.val) (t : Fin 2048) (k : Fin 256) :
    nx15 (F := Ideal) i x9 x15 (ix2 t k) = p (ix3 b k t) := by
  have hN := hi i
  unfold nx15
  by_cases g : (i 0).val = 19 ∨ (i 0).val = 27
  · rw [if_pos g, pay11_at, hB.b9 (by omega) hN k t]
    congr 2
    exact Fin.ext (by show ((i 0).val - 19) / 8 = b.val; have := b.isLt; omega)
  · rw [if_neg g]; exact hI.turned b (by have := b.isLt; omega) (by omega) t k

/-- The invariant's step. -/
theorem inv_next {i : grid0.Coords} (hI : Inv r1 ln Wg Wu Wd sel gate p (i 0).val x12 x13 x14 x15)
    (hB : Blocks r1 ln Wg Wu Wd sel gate p hs (i 0).val x1 x2 x3 x4 x5 x6 x7 x8 x9 x10) :
    Inv r1 ln Wg Wu Wd sel gate p ((i 0).val + 1) (nx12 (F := Ideal) i x1 x2 x12) (nx13 (F := Ideal) i x1 x2 x3 x4 x12 x13)
      (nx14 (F := Ideal) i x5 x6 x7 x8 x13 x14) (nx15 (F := Ideal) i x9 x15) :=
  ⟨fun _ => rows_next hI hB, kept_next hI hB, diff_next hI hB, turned_next hI hB⟩

/-- Before the first point nothing is asked of the scratch buffers. -/
theorem inv_zero : Inv r1 ln Wg Wu Wd sel gate p 0 x12 x13 x14 x15 :=
  ⟨fun h => absurd h (by omega), fun t h => absurd h (by omega), fun j h => absurd h (by omega), fun b h => absurd h (by omega)⟩

/-- A scatter point's output block is the result's. -/
theorem out_next {i : grid0.Coords} (x11 : Vec Ideal S1x2048x256 .f32) (hI : Inv r1 ln Wg Wu Wd sel gate p (i 0).val x12 x13 x14 x15)
    (hB : Blocks r1 ln Wg Wu Wd sel gate p hs (i 0).val x1 x2 x3 x4 x5 x6 x7 x8 x9 x10) (g : 19 ≤ (i 0).val) (t : Fin 2048) (d : Fin 256) :
    nx11 (F := Ideal) i x9 x10 x14 x15 x11 (ix3 0 t d)
      = res r1 ln Wg Wu Wd sel gate p hs ⟨((i 0).val - 19) / 8, by have := hi i; omega⟩ t ⟨((i 0).val - 19) % 8 * 256 + d.val, by omega⟩ := by
  have hN := hi i
  unfold nx11
  rw [if_pos g, scat_at, hB.b10 g hN t d]
  unfold res
  congr 1
  refine Finset.sum_congr rfl fun k _ => ?_
  rw [turned_next hI hB ⟨((i 0).val - 19) / 8, by omega⟩ (by show 20 + 8 * (((i 0).val - 19) / 8) ≤ _; omega) (by show _ < 28 + 8 * (((i 0).val - 19) / 8); omega) t k,
    hI.diff ⟨((i 0).val - 19) % 8, by omega⟩ (by show 11 + ((i 0).val - 19) % 8 < _; omega)]

end Cert.C4Ideal.Math

end
-- ==== Proof.C4IdealWin.lean ====
/-
  The block kernel's windows: their index maps in closed form, what a block of each array holds at an element, and when
  the output's blocks are written back.
-/
module

public import proofs.«01_k».proof.Proof.C4IdealInv
public import Idealize.ShloMosaic.Lib.Pipeline.Value

@[expose] public section

set_option maxRecDepth 16384

noncomputable section

namespace Cert.C4Ideal.Math

open Cert.C4Ideal Cert.C4Ideal.Gen Cert.C4Ideal.Run
open Idealize.ShloMosaic Idealize.ShloMosaic.TcCoe
open Idealize.ShloMosaic.Pipeline (Dat Cfg Window)

/-! ## The index maps -/

theorem ix0 : ∀ i : grid0.Coords, cc0_transform_0 i = ![0, 0] := by decide +kernel
theorem ix1 : ∀ i : grid0.Coords, cc0_transform_1 i = ![0, 0] := by decide +kernel
theorem ix2' : ∀ i : grid0.Coords, (i 0).val < 11 → cc0_transform_2 i = ![0, (i 0).val] := by decide +kernel
theorem ix3' : ∀ i : grid0.Coords, (i 0).val < 11 → cc0_transform_3 i = ![0, (i 0).val] := by decide +kernel
theorem ix4 : ∀ i : grid0.Coords, 11 ≤ (i 0).val → (i 0).val < 19 → cc0_transform_4 i = ![0, (i 0).val - 11] := by decide +kernel
theorem ix5 : ∀ i : grid0.Coords, 11 ≤ (i 0).val → (i 0).val < 19 → cc0_transform_5 i = ![0, (i 0).val - 11] := by decide +kernel
theorem ix6 : ∀ i : grid0.Coords, 11 ≤ (i 0).val → (i 0).val < 19 → cc0_transform_6 i = ![0, (i 0).val - 11] := by decide +kernel
theorem ix7 : ∀ i : grid0.Coords, cc0_transform_7 i = ![0, 0] := by decide +kernel
theorem ix8 : ∀ i : grid0.Coords, 19 ≤ (i 0).val → cc0_transform_8 i = ![((i 0).val - 19) / 8, 0, 0] := by decide +kernel
theorem ix9 : ∀ i : grid0.Coords, 19 ≤ (i 0).val → cc0_transform_9 i = ![((i 0).val - 19) / 8, 0, ((i 0).val - 19) % 8] := by decide +kernel
theorem ix10 : ∀ i : grid0.Coords, 19 ≤ (i 0).val → cc0_transform_10 i = ![((i 0).val - 19) / 8, 0, ((i 0).val - 19) % 8] := by decide +kernel
theorem ix10_early : ∀ i : grid0.Coords, (i 0).val ≤ 19 → cc0_transform_10 i = ![0, 0, 0] := by decide +kernel

/-- A point's one coordinate is the point. -/
theorem pt (t : Fin cfg0.N) : (grid0.coords t 0).val = t.val := by
  have h : t.val < 35 := lt_of_lt_of_eq t.isLt N_0
  have e := grid0.coords_val t 0 (S := 1) (B := 35) (by decide) (by decide)
  rw [e]; omega

/-! ## Blocks at an element -/

variable (m : (ℓ : Loc nD τ sig) → Buf (Elt Ideal) ℓ) (c : Dev nD) (t : Fin cfg0.N)

theorem blk0 : iblk m c 0 t = m ((c : Thread nD τ).loc main_arg0) := by
  funext j
  refine congrArg (m ((c : Thread nD τ).loc main_arg0)) (funext fun a => Fin.ext ?_)
  show cc0_transform_0 (grid0.coords t) a * S512x2048.size a + 1 * (j a).val = (j a).val
  rw [ix0]
  fin_cases a <;> simp

theorem blk1 : iblk m c 1 t = m ((c : Thread nD τ).loc main_arg1) := by
  funext j
  refine congrArg (m ((c : Thread nD τ).loc main_arg1)) (funext fun a => Fin.ext ?_)
  show cc0_transform_1 (grid0.coords t) a * S1x2048.size a + 1 * (j a).val = (j a).val
  rw [ix1]
  fin_cases a <;> simp

theorem blk7 : iblk m c 7 t = m ((c : Thread nD τ).loc main_arg6) := by
  funext j
  refine congrArg (m ((c : Thread nD τ).loc main_arg6)) (funext fun a => Fin.ext ?_)
  show cc0_transform_7 (grid0.coords t) a * S512x1.size a + 1 * (j a).val = (j a).val
  rw [ix7]
  fin_cases a <;> simp

theorem blk2 (d : Vec Ideal S2048x512 .f32) (h : (grid0.coords t 0).val < 11) (e : Fin 2048) (q : Fin 512) (hq : (grid0.coords t 0).val * 512 + q.val < 5504) :
    win0_2.fill (grid0.coords t) d (iblk m c 2 t) (ix2 e q) = m ((c : Thread nD τ).loc main_arg2) (ix2 e ⟨(grid0.coords t 0).val * 512 + q.val, hq⟩) := by
  have hm : win0_2.moved (grid0.coords t) (ix2 e q) = true := (win0_2.moved_iff _ _).mpr fun a => by
    show _ < (Pipeline.Clip.of (cc0_transform_2 (grid0.coords t) a) (S2048x512.size a) (S2048x5504.size a)).extent (S2048x512.size a)
    rw [ix2' _ h]
    fin_cases a
    · show e.val < (Pipeline.Clip.of 0 2048 2048).extent 2048
      exact e.isLt
    · show q.val < (Pipeline.Clip.of (grid0.coords t 0).val 512 5504).extent 512
      unfold Pipeline.Clip.of
      split
      · exact q.isLt
      · show q.val < 5504 - (grid0.coords t 0).val * 512; omega
  unfold Pipeline.Window.fill
  rw [dif_pos hm]
  refine congrArg (m ((c : Thread nD τ).loc main_arg2)) (funext fun a => Fin.ext ?_)
  show cc0_transform_2 (grid0.coords t) a * S2048x512.size a + 1 * ((ix2 e q : S2048x512.Idx) a).val = _
  rw [ix2' _ h]
  fin_cases a
  · show 0 * 2048 + 1 * e.val = e.val; omega
  · show (grid0.coords t 0).val * 512 + 1 * q.val = (grid0.coords t 0).val * 512 + q.val; omega

theorem blk3 (d : Vec Ideal S2048x512 .f32) (h : (grid0.coords t 0).val < 11) (e : Fin 2048) (q : Fin 512) (hq : (grid0.coords t 0).val * 512 + q.val < 5504) :
    win0_3.fill (grid0.coords t) d (iblk m c 3 t) (ix2 e q) = m ((c : Thread nD τ).loc main_arg3) (ix2 e ⟨(grid0.coords t 0).val * 512 + q.val, hq⟩) := by
  have hm : win0_3.moved (grid0.coords t) (ix2 e q) = true := (win0_3.moved_iff _ _).mpr fun a => by
    show _ < (Pipeline.Clip.of (cc0_transform_3 (grid0.coords t) a) (S2048x512.size a) (S2048x5504.size a)).extent (S2048x512.size a)
    rw [ix3' _ h]
    fin_cases a
    · show e.val < (Pipeline.Clip.of 0 2048 2048).extent 2048
      exact e.isLt
    · show q.val < (Pipeline.Clip.of (grid0.coords t 0).val 512 5504).extent 512
      unfold Pipeline.Clip.of
      split
      · exact q.isLt
      · show q.val < 5504 - (grid0.coords t 0).val * 512; omega
  unfold Pipeline.Window.fill
  rw [dif_pos hm]
  refine congrArg (m ((c : Thread nD τ).loc main_arg3)) (funext fun a => Fin.ext ?_)
  show cc0_transform_3 (grid0.coords t) a * S2048x512.size a + 1 * ((ix2 e q : S2048x512.Idx) a).val = _
  rw [ix3' _ h]
  fin_cases a
  · show 0 * 2048 + 1 * e.val = e.val; omega
  · show (grid0.coords t 0).val * 512 + 1 * q.val = (grid0.coords t 0).val * 512 + q.val; omega

theorem blk4 (h : 11 ≤ (grid0.coords t 0).val) (h' : (grid0.coords t 0).val < 19) (r : Fin 5504) (q : Fin 256) :
    iblk m c 4 t (ix2 r q) = m ((c : Thread nD τ).loc main_arg4) (ix2 r ⟨((grid0.coords t 0).val - 11) * 256 + q.val, by omega⟩) := by
  refine congrArg (m ((c : Thread nD τ).loc main_arg4)) (funext fun a => Fin.ext ?_)
  show cc0_transform_4 (grid0.coords t) a * S5504x256.size a + 1 * ((ix2 r q : S5504x256.Idx) a).val = _
  rw [ix4 _ h h']
  fin_cases a
  · show 0 * 5504 + 1 * r.val = r.val; omega
  · show ((grid0.coords t 0).val - 11) * 256 + 1 * q.val = ((grid0.coords t 0).val - 11) * 256 + q.val; omega

theorem blk5 (h : 11 ≤ (grid0.coords t 0).val) (h' : (grid0.coords t 0).val < 19) (r : Fin 512) (q : Fin 256) :
    iblk m c 5 t (ix2 r q) = m ((c : Thread nD τ).loc main_arg0) (ix2 r ⟨((grid0.coords t 0).val - 11) * 256 + q.val, by omega⟩) := by
  refine congrArg (m ((c : Thread nD τ).loc main_arg0)) (funext fun a => Fin.ext ?_)
  show cc0_transform_5 (grid0.coords t) a * S512x256.size a + 1 * ((ix2 r q : S512x256.Idx) a).val = _
  rw [ix5 _ h h']
  fin_cases a
  · show 0 * 512 + 1 * r.val = r.val; omega
  · show ((grid0.coords t 0).val - 11) * 256 + 1 * q.val = ((grid0.coords t 0).val - 11) * 256 + q.val; omega

theorem blk6 (h : 11 ≤ (grid0.coords t 0).val) (h' : (grid0.coords t 0).val < 19) (r : Fin 512) (q : Fin 256) :
    iblk m c 6 t (ix2 r q) = m ((c : Thread nD τ).loc main_arg5) (ix2 r ⟨((grid0.coords t 0).val - 11) * 256 + q.val, by omega⟩) := by
  refine congrArg (m ((c : Thread nD τ).loc main_arg5)) (funext fun a => Fin.ext ?_)
  show cc0_transform_6 (grid0.coords t) a * S512x256.size a + 1 * ((ix2 r q : S512x256.Idx) a).val = _
  rw [ix6 _ h h']
  fin_cases a
  · show 0 * 512 + 1 * r.val = r.val; omega
  · show ((grid0.coords t 0).val - 11) * 256 + 1 * q.val = ((grid0.coords t 0).val - 11) * 256 + q.val; omega

theorem blk8 (h : 19 ≤ (grid0.coords t 0).val) (h' : (grid0.coords t 0).val < 35) (k : Fin 256) (u : Fin 2048) :
    iblk m c 8 t (ix3 0 k u) = m ((c : Thread nD τ).loc main_arg7) (ix3 ⟨((grid0.coords t 0).val - 19) / 8, by omega⟩ k u) := by
  refine congrArg (m ((c : Thread nD τ).loc main_arg7)) (funext fun a => Fin.ext ?_)
  show cc0_transform_8 (grid0.coords t) a * S1x256x2048.size a + 1 * ((ix3 0 k u : S1x256x2048.Idx) a).val = _
  rw [ix8 _ h]
  fin_cases a
  · show ((grid0.coords t 0).val - 19) / 8 * 1 + 1 * 0 = ((grid0.coords t 0).val - 19) / 8; omega
  · show 0 * 256 + 1 * k.val = k.val; omega
  · show 0 * 2048 + 1 * u.val = u.val; omega

theorem blk9 (h : 19 ≤ (grid0.coords t 0).val) (h' : (grid0.coords t 0).val < 35) (u : Fin 2048) (d : Fin 256) :
    iblk m c 9 t (ix3 0 u d) = m ((c : Thread nD τ).loc main_arg8) (ix3 ⟨((grid0.coords t 0).val - 19) / 8, by omega⟩ u ⟨((grid0.coords t 0).val - 19) % 8 * 256 + d.val, by omega⟩) := by
  refine congrArg (m ((c : Thread nD τ).loc main_arg8)) (funext fun a => Fin.ext ?_)
  show cc0_transform_9 (grid0.coords t) a * S1x2048x256.size a + 1 * ((ix3 0 u d : S1x2048x256.Idx) a).val = _
  rw [ix9 _ h]
  fin_cases a
  · show ((grid0.coords t 0).val - 19) / 8 * 1 + 1 * 0 = ((grid0.coords t 0).val - 19) / 8; omega
  · show 0 * 2048 + 1 * u.val = u.val; omega
  · show ((grid0.coords t 0).val - 19) % 8 * 256 + 1 * d.val = ((grid0.coords t 0).val - 19) % 8 * 256 + d.val; omega

/-- The output array's block at an element. -/
theorem blk10 (G : Vec Ideal S2x2048x2048 .f32) (h : 19 ≤ (grid0.coords t 0).val) (h' : (grid0.coords t 0).val < 35) (u : Fin 2048) (d : Fin 256) :
    ((cfg0.win 10).blk t).view.read (Elt Ideal) G (ix3 0 u d) = G (ix3 ⟨((grid0.coords t 0).val - 19) / 8, by omega⟩ u ⟨((grid0.coords t 0).val - 19) % 8 * 256 + d.val, by omega⟩) := by
  refine congrArg G (funext fun a => Fin.ext ?_)
  show cc0_transform_10 (grid0.coords t) a * S1x2048x256.size a + 1 * ((ix3 0 u d : S1x2048x256.Idx) a).val = _
  rw [ix10 _ h]
  fin_cases a
  · show ((grid0.coords t 0).val - 19) / 8 * 1 + 1 * 0 = ((grid0.coords t 0).val - 19) / 8; omega
  · show 0 * 2048 + 1 * u.val = u.val; omega
  · show ((grid0.coords t 0).val - 19) % 8 * 256 + 1 * d.val = ((grid0.coords t 0).val - 19) % 8 * 256 + d.val; omega

/-! ## The write-backs -/

theorem flush_early (h : t.val < 19) : (cfg0.win 10).flush t = false := by
  rw [Bool.eq_false_iff]
  intro hf
  have hf' : win0_10.flush t = true := hf
  unfold Pipeline.Window.flush at hf'
  rw [Bool.and_eq_true, Bool.or_eq_true, decide_eq_true_eq, decide_eq_true_eq] at hf'
  have hN : grid0.N = 35 := N_0
  rcases hf'.2 with h0 | ⟨h1, h2⟩
  · omega
  · apply h2
    show cc0_transform_10 (grid0.coords ⟨t.val + 1, h1⟩) = cc0_transform_10 (grid0.coords t)
    rw [ix10_early _ (by rw [pt]; show t.val + 1 ≤ 19; omega), ix10_early _ (by rw [pt]; omega)]

theorem flush_late (h : 19 ≤ t.val) : (cfg0.win 10).flush t = true := by
  show win0_10.flush t = true
  unfold Pipeline.Window.flush
  rw [Bool.and_eq_true, Bool.or_eq_true, decide_eq_true_eq, decide_eq_true_eq]
  have hN : grid0.N = 35 := N_0
  refine ⟨rfl, ?_⟩
  by_cases h0 : t.val + 1 = grid0.N
  · exact .inl h0
  · have h1 : t.val + 1 < grid0.N := by have : t.val < grid0.N := t.isLt; omega
    refine .inr ⟨h1, fun e => ?_⟩
    have e' : cc0_transform_10 (grid0.coords ⟨t.val + 1, h1⟩) = cc0_transform_10 (grid0.coords t) := e
    rw [ix10 _ (by rw [pt]; show 19 ≤ t.val + 1; omega), ix10 _ (by rw [pt]; omega), pt, pt] at e'
    have e0 : (t.val + 1 - 19) / 8 = (t.val - 19) / 8 := congrFun e' 0
    have e2 : (t.val + 1 - 19) % 8 = (t.val - 19) % 8 := congrFun e' 2
    omega

/-- Every element of the result lies in a block written back. -/
theorem covered (j : S2x2048x2048.Idx) : ∃ t : Fin cfg0.N, (cfg0.win 10).flush t = true ∧ j ∈ ((cfg0.win 10).blk t).view.set := by
  obtain ⟨b, u, d, rfl⟩ : ∃ (b : Fin 2) (u d : Fin 2048), j = ix3 b u d := ⟨j 0, j 1, j 2, eq_ix3 j⟩
  have hN : grid0.N = 35 := N_0
  refine ⟨⟨19 + b.val * 8 + d.val / 256, by show _ < grid0.N; omega⟩, flush_late _ (by show 19 ≤ 19 + b.val * 8 + d.val / 256; omega), ?_⟩
  generalize ht : (⟨19 + b.val * 8 + d.val / 256, by show _ < grid0.N; omega⟩ : Fin cfg0.N) = t
  have hv : t.val = 19 + b.val * 8 + d.val / 256 := by rw [← ht]
  have hs : 19 ≤ (grid0.coords t 0).val := by rw [pt]; omega
  show ix3 b u d ∈ (win0_10.blk t).view.set
  rw [View.set_slice_whole, Rect.mem_set_unit]
  intro a
  show cc0_transform_10 (grid0.coords t) a * S1x2048x256.size a ≤ _ ∧ _ < cc0_transform_10 (grid0.coords t) a * S1x2048x256.size a + S1x2048x256.size a
  rw [ix10 _ hs, pt]
  fin_cases a
  · show (t.val - 19) / 8 * 1 ≤ b.val ∧ b.val < (t.val - 19) / 8 * 1 + 1; omega
  · show 0 * 2048 ≤ u.val ∧ u.val < 0 * 2048 + 2048; omega
  · show (t.val - 19) % 8 * 256 ≤ d.val ∧ d.val < (t.val - 19) % 8 * 256 + 256; omega

end Cert.C4Ideal.Math

end
-- ==== Proof.C4IdealValue.lean ====
/-
  The block kernel's run over the extended reals: every execution ends, the result is the mathematics of the arguments,
  the arguments and every semaphore counter are as launched.
-/
module

public import proofs.«01_k».proof.Proof.C4IdealWin
public import Idealize.ShloMosaic.Lib.Claim

@[expose] public section

set_option maxRecDepth 16384

noncomputable section

namespace Cert.C4Ideal.Math

open Cert.C4Ideal Cert.C4Ideal.Gen Cert.C4Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Argument arrays as launched. -/
abbrev arg (c : Dev nD) (b : Ref sig .tc) : Buf (Elt Ideal) ((c : Thread nD τ).loc b) := m ((c : Thread nD τ).loc b)

/-- The invariant at core `c`'s arguments. -/
def InvAt (c : Dev nD) (n : ℕ) (f0 : Vec Ideal S512x2048 .bf16) (f1 : Vec Ideal S11x512x512 .bf16) (f2 : Vec Ideal S8x512x256 .bf16)
    (f3 : Vec Ideal S2048x256 .bf16) : Prop :=
  Inv (arg m c main_arg0) (arg m c main_arg1) (arg m c main_arg2) (arg m c main_arg3) (arg m c main_arg4) (arg m c main_arg5) (arg m c main_arg6)
    (arg m c main_arg7) n f0 f1 f2 f3
/-- The result array: the mathematics of core `c`'s arguments. -/
def result (c : Dev nD) : Vec Ideal S2x2048x2048 .f32 := fun j =>
  res (arg m c main_arg0) (arg m c main_arg1) (arg m c main_arg2) (arg m c main_arg3) (arg m c main_arg4) (arg m c main_arg5) (arg m c main_arg6)
    (arg m c main_arg7) (arg m c main_arg8) (j 0) (j 1) (j 2)

/-- The scratch buffers before point `n`: at contents that satisfy the invariant; and the generator register. -/
def Φat (c : Dev nD) (n : ℕ) : sProp 𝕄 :=
  iprop(∃ f0, ∃ f1, ∃ f2, ∃ f3, ⌜InvAt m c n f0 f1 f2 f3⌝ ∗ owns (c : Thread nD τ) (Memref.whole cc0_scratch0) fullShare f0
    ∗ owns (c : Thread nD τ) (Memref.whole cc0_scratch1) fullShare f1 ∗ owns (c : Thread nD τ) (Memref.whole cc0_scratch2) fullShare f2
    ∗ owns (c : Thread nD τ) (Memref.whole cc0_scratch3) fullShare f3 ∗ ∃ r, prngReg c r)

/-- A weight tile as the fetch leaves it, filled out past the array's end with some value. -/
def padded (c : Dev nD) (w : Fin cfg0.W) (t : Fin cfg0.N) : (cfg0.win w).block.Idx → Elt Ideal (cfg0.win w).elt :=
  (cfg0.win w).fill (grid0.coords t) (fun _ => Classical.arbitrary _) (iblk m c w t)

/-- What the buffers and arrays hold: the inputs their blocks, the output the result's, the scratch by the invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => padded m c 2 t
    | ⟨3, _⟩ => padded m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => ((cfg0.win 10).blk t).view.read (Elt Ideal) (result m c)
  Φ t := Φat m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = padded m c 2 t := by dsimp only [dats]
theorem before_2 (c : Dev nD) (t : Fin cfg0.N) (d) : (dats m 0 c).before 2 t d = win0_2.fill (grid0.coords t) d (iblk m c 2 t) :=
  ((dats m 0 c).before_in_eq_fetched 2 rfl (fun _ => rfl)
    (fun t t' h => by
      funext a
      show Pipeline.Window.clip win0_2 (grid0.coords t) a = Pipeline.Window.clip win0_2 (grid0.coords t') a
      have h' : cc0_transform_2 (grid0.coords t) = cc0_transform_2 (grid0.coords t') := h
      simp only [Pipeline.Window.ofSpecClip, h'])
    (fun t => by rw [after_2]; exact (cfg0.win 2).cut_fill _ _ _) t d).trans rfl
theorem after_3 (c : Dev nD) (t : Fin cfg0.N) : (dats m 0 c).after 3 t = padded m c 3 t := by dsimp only [dats]
theorem before_3 (c : Dev nD) (t : Fin cfg0.N) (d) : (dats m 0 c).before 3 t d = win0_3.fill (grid0.coords t) d (iblk m c 3 t) :=
  ((dats m 0 c).before_in_eq_fetched 3 rfl (fun _ => rfl)
    (fun t t' h => by
      funext a
      show Pipeline.Window.clip win0_3 (grid0.coords t) a = Pipeline.Window.clip win0_3 (grid0.coords t') a
      have h' : cc0_transform_3 (grid0.coords t) = cc0_transform_3 (grid0.coords t') := h
      simp only [Pipeline.Window.ofSpecClip, h'])
    (fun t => by rw [after_3]; exact (cfg0.win 3).cut_fill _ _ _) t d).trans rfl
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d

theorem after_10 (c : Dev nD) (t : Fin cfg0.N) : (dats m 0 c).after 10 t = ((cfg0.win 10).blk t).view.read (Elt Ideal) (result m c) := by dsimp only [dats]

/-- The windows' contents at a point, as the mathematics has them. -/
theorem blocks_at (c : Dev nD) (t : Fin cfg0.N) (d2 d3 : Vec Ideal S2048x512 .f32) :
    Blocks (arg m c main_arg0) (arg m c main_arg1) (arg m c main_arg2) (arg m c main_arg3) (arg m c main_arg4) (arg m c main_arg5) (arg m c main_arg6)
      (arg m c main_arg7) (arg m c main_arg8) (grid0.coords t 0).val (iblk m c 0 t) (iblk m c 1 t) (win0_2.fill (grid0.coords t) d2 (iblk m c 2 t))
      (win0_3.fill (grid0.coords t) d3 (iblk m c 3 t)) (iblk m c 4 t) (iblk m c 5 t) (iblk m c 6 t) (iblk m c 7 t) (iblk m c 8 t) (iblk m c 9 t) :=
  ⟨blk0 m c t, blk1 m c t, fun h d q hq => blk2 m c t d2 h d q hq, fun h d q hq => blk3 m c t d3 h d q hq, fun h h' k q => blk4 m c t h h' k q,
    fun h h' r q => blk5 m c t h h' r q, fun h h' r q => blk6 m c t h h' r q, blk7 m c t, fun h h' k u => blk8 m c t h h' k u,
    fun h h' u d => blk9 m c t h h' u d⟩

/-- What the body is called with at point `t`, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
/-- and what it returns, the output's buffer as `P` says. -/
def bodyPost (c : Dev nD) (t : Fin cfg0.N) (P : sProp 𝕄) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (grid0.coords t) d ((cfg0.win 2).cut (grid0.coords t) ((dats m 0 c).after 2 t))))
    ∗ (∃ d, owns (c : Thread nD τ) (st0_3 t) fullShare ((cfg0.win 3).fill (grid0.coords t) d ((cfg0.win 3).cut (grid0.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ P)

/-- A whole buffer at some contents. -/
theorem owns_exists (c : Dev nD) (b : Ref sig .tc) :
    (iprop(∃ f : Buf (Elt Ideal) ((c : Thread nD τ).loc b), ((c : Thread nD τ).loc b) ↦{fullShare} f) : sProp 𝕄)
      = iprop(∃ f, owns (c : Thread nD τ) (Memref.whole b) fullShare f) :=
  congrArg BIBase.sExists (Set.ext fun P => ⟨fun ⟨f, h⟩ => ⟨f, (owns_whole (c : Thread nD τ) b fullShare f).trans h⟩, fun ⟨f, h⟩ => ⟨f, (owns_whole (c : Thread nD τ) b fullShare f).symm.trans h⟩⟩)

/-- The scratch buffers at some contents, and the generator register. -/
theorem scratch_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f))
      ∗ ∃ r, prngReg c r) := by
  unfold Pipeline.ΦA; rw [scopedRest0_eq]; rw [owns_exists, owns_exists, owns_exists, owns_exists]

set_option maxHeartbeats 1600000 in
/-- The body at a point before the scatter points: the output's buffer is left alone. -/
theorem sound_early (c : Dev nD) (t : Fin cfg0.N) (ht : t.val < 19) :
    bodyPre m c t ⊢ wp frame (wpE (defs₀ (F := Ideal)) Variants.none c none) Set.univ (bodyAt0 t) (fun _ => bodyPost m c t iprop(∃ d, owns (c : Thread nD τ) (st0_10 t) fullShare ((dats m 0 c).before 10 t d))) := by
  unfold bodyPre bodyPost bodyAt0
  simp only [before_0, after_0, before_1, after_1, before_2, after_2, before_3, after_3, before_4, after_4, before_5, after_5, before_6, after_6, before_7, after_7, before_8, after_8, before_9, after_9]
  rw [show (dats m 0 c).Φ t.succ = Φat m c (t.val + 1) from rfl, show (dats m 0 c).Φ t.castSucc = Φat m c t.val from rfl,
    show (dats m 0 c).owesAt () t.succ = (dats m 0 c).owesAt () t.castSucc from rfl]
  unfold Φat
  iintro ⟨⟨%f0, %f1, %f2, %f3, %hI, S0, S1, S2, S3, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hI' : InvAt m c (grid0.coords t 0).val f0 f1 f2 f3 := by rw [pt]; exact hI
  have hn := inv_next hI' (blocks_at m c t d2 d3)
  rw [pt] at hn
  iapply (run_any (F := Ideal) c (grid0.coords t) _ _ _ _ _ _ _ _ _ _ _ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) ((dats m 0 c).before 10 t d10) f0 f1 f2 f3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hp]
  · iexists _; iexists _; iexists _; iexists _
    isplitr [S0 S1 S2 S3 Hp]
    · ipureintro; exact hn
    isplitl [S0]; · iexact S0
    isplitl [S1]; · iexact S1
    isplitl [S2]; · iexact S2
    isplitl [S3]; · iexact S3
    iexact Hp
  isplitl [Ho]; · iexact Ho
  isplitl [H0]; · iexact H0
  isplitl [H1]; · iexact H1
  isplitl [H2]
  · iexists d2
    rw [show (cfg0.win 2).cut (grid0.coords t) (padded m c 2 t) = iblk m c 2 t from (cfg0.win 2).cut_fill _ _ _]
    iexact H2
  isplitl [H3]
  · iexists d3
    rw [show (cfg0.win 3).cut (grid0.coords t) (padded m c 3 t) = iblk m c 3 t from (cfg0.win 3).cut_fill _ _ _]
    iexact H3
  isplitl [H4]; · iexact H4
  isplitl [H5]; · iexact H5
  isplitl [H6]; · iexact H6
  isplitl [H7]; · iexact H7
  isplitl [H8]; · iexact H8
  isplitl [H9]; · iexact H9
  iexists d10
  rw [show ∀ x9 x10 x14 x15 x11, nx11 (F := Ideal) (grid0.coords t) x9 x10 x14 x15 x11 = x11 from fun _ _ _ _ _ => if_neg (by rw [pt]; omega)]
  iexact H10

set_option maxHeartbeats 1600000 in
/-- The body at a scatter point: the output's buffer holds the result's block. -/
theorem sound_late (c : Dev nD) (t : Fin cfg0.N) (ht : 19 ≤ t.val) :
    bodyPre m c t ⊢ wp frame (wpE (defs₀ (F := Ideal)) Variants.none c none) Set.univ (bodyAt0 t) (fun _ => bodyPost m c t iprop(owns (c : Thread nD τ) (st0_10 t) fullShare ((dats m 0 c).after 10 t))) := by
  unfold bodyPre bodyPost bodyAt0
  simp only [before_0, after_0, before_1, after_1, before_2, after_2, before_3, after_3, before_4, after_4, before_5, after_5, before_6, after_6, before_7, after_7, before_8, after_8, before_9, after_9]
  rw [show (dats m 0 c).Φ t.succ = Φat m c (t.val + 1) from rfl, show (dats m 0 c).Φ t.castSucc = Φat m c t.val from rfl,
    show (dats m 0 c).owesAt () t.succ = (dats m 0 c).owesAt () t.castSucc from rfl]
  unfold Φat
  iintro ⟨⟨%f0, %f1, %f2, %f3, %hI, S0, S1, S2, S3, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hI' : InvAt m c (grid0.coords t 0).val f0 f1 f2 f3 := by rw [pt]; exact hI
  have hn := inv_next hI' (blocks_at m c t d2 d3)
  rw [pt] at hn
  have ho : nx11 (F := Ideal) (grid0.coords t) (iblk m c 8 t) (iblk m c 9 t) f2 f3 ((dats m 0 c).before 10 t d10) = (dats m 0 c).after 10 t := by
    rw [after_10]
    funext j
    obtain ⟨z, u, d, rfl⟩ : ∃ (z : Fin 1) (u : Fin 2048) (d : Fin 256), j = ix3 z u d := ⟨j 0, j 1, j 2, eq_ix3 j⟩
    obtain rfl : z = 0 := Subsingleton.elim _ _
    refine (out_next _ hI' (blocks_at m c t d2 d3) (by rw [pt]; exact ht) u d).trans ?_
    exact (blk10 t (result m c) (by rw [pt]; exact ht) (hi _) u d).symm
  iapply (run_any (F := Ideal) c (grid0.coords t) _ _ _ _ _ _ _ _ _ _ _ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) ((dats m 0 c).before 10 t d10) f0 f1 f2 f3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hp]
  · iexists _; iexists _; iexists _; iexists _
    isplitr [S0 S1 S2 S3 Hp]
    · ipureintro; exact hn
    isplitl [S0]; · iexact S0
    isplitl [S1]; · iexact S1
    isplitl [S2]; · iexact S2
    isplitl [S3]; · iexact S3
    iexact Hp
  isplitl [Ho]; · iexact Ho
  isplitl [H0]; · iexact H0
  isplitl [H1]; · iexact H1
  isplitl [H2]
  · iexists d2
    rw [show (cfg0.win 2).cut (grid0.coords t) (padded m c 2 t) = iblk m c 2 t from (cfg0.win 2).cut_fill _ _ _]
    iexact H2
  isplitl [H3]
  · iexists d3
    rw [show (cfg0.win 3).cut (grid0.coords t) (padded m c 3 t) = iblk m c 3 t from (cfg0.win 3).cut_fill _ _ _]
    iexact H3
  isplitl [H4]; · iexact H4
  isplitl [H5]; · iexact H5
  isplitl [H6]; · iexact H6
  isplitl [H7]; · iexact H7
  isplitl [H8]; · iexact H8
  isplitl [H9]; · iexact H9
  rw [show nx11 (F := Ideal) (grid0.coords t) (iblk m c 8 t) (iblk m c 9 t) f2 f3 ((dats m 0 c).before 10 t d10) = (dats m 0 c).after 10 t from ho]
  iexact H10

/-- The body table's row at point `t`. -/
theorem row (t : Fin cfg0.N) : defs₀ (F := Ideal) .tc cfg0.body (cfg0.bodyArgs t (cfg0.slots t)) = bodyAt0 t := by
  unfold defs₀; rw [Defs.onTc_tc]

/-- The output is idle before the scatter points, -/
theorem idle_early (t : Fin cfg0.N) (h : t.val < 19) : cfg0.idle 10 (cfg0.grid.coords t) = true := by
  show (!(k0_cond4 (grid0.coords t) == 1#1)) = true
  rw [Bool.not_eq_true', beq_eq_false_iff_ne]
  intro h'
  have := (cond4_iff _).mp h'
  rw [pt] at this; omega
/-- and stored at them. -/
theorem idle_late (t : Fin cfg0.N) (h : 19 ≤ t.val) : cfg0.idle 10 (cfg0.grid.coords t) = false := by
  show (!(k0_cond4 (grid0.coords t) == 1#1)) = false
  rw [Bool.not_eq_false', beq_iff_eq]
  exact (cond4_iff _).mpr (by rw [pt]; exact h)

/-- The body's obligation at every point. -/
theorem body_obligation (c : Dev nD) : Pipeline.BodyObligationLoose (dats m 0 c) (defs₀ (F := Ideal)) Variants.none () Set.univ := fun t => by
  rw [bigSep_W0, bigSep_W0, row]
  by_cases h : t.val < 19
  · rw [idle_early t h, flush_early t h]
    exact triple_restated (sound_early m c t h) rfl .rfl fun _ => .rfl
  · rw [idle_late t (by omega)]
    exact triple_restated (sound_late m c t (by omega)) rfl .rfl fun _ => .rfl

/-- The launch gives the invariant before the first point, -/
theorem enter (c : Dev nD) : Pipeline.ΦA spec0 c ⊢ (dats m 0 c).Φ 0 := by
  rw [show (dats m 0 c).Φ 0 = Φat m c 0 from rfl, scratch_eq]
  unfold Φat
  iintro ⟨⟨⟨%f0, S0⟩, ⟨%f1, S1⟩, ⟨%f2, S2⟩, ⟨%f3, S3⟩⟩, Hp⟩
  iexists f0; iexists f1; iexists f2; iexists f3
  isplitr [S0 S1 S2 S3 Hp]
  · ipureintro; exact inv_zero
  isplitl [S0]; · iexact S0
  isplitl [S1]; · iexact S1
  isplitl [S2]; · iexact S2
  isplitl [S3]; · iexact S3
  iexact Hp
/-- and takes back the scratch after the last. -/
theorem leave (c : Dev nD) : (dats m 0 c).Φ (Fin.last cfg0.N) ⊢ Pipeline.ΦA spec0 c := by
  rw [show (dats m 0 c).Φ (Fin.last cfg0.N) = Φat m c cfg0.N from rfl, scratch_eq]
  unfold Φat
  iintro ⟨%f0, %f1, %f2, %f3, %hI, S0, S1, S2, S3, Hp⟩
  isplitl [S0 S1 S2 S3]
  · isplitl [S0]; · iexists _; iexact S0
    isplitl [S1]; · iexists _; iexact S1
    isplitl [S2]; · iexists _; iexact S2
    iexists _; iexact S3
  · iexact Hp

set_option backward.isDefEq.respectTransparency.types false in
/-- The run: every array as the write-backs leave it, every counter at zero. -/
theorem run_value : θ_run defs (onTc (τ := τ) (main (F := Ideal))) (s₀ m ρ)
    (fun r => Pipeline.FramePost cfgs (dats m) 0 (V m) r ∧ r.2.sem = fun _ => 0) :=
  Pipeline.θ_run_frame_track_shared (Q' := fun r => Pipeline.FramePost cfgs (dats m) 0 (V m) r ∧ r.2.sem = fun _ => 0) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := enter m) (hout := leave m)

/-- The output array ends as the result. -/
theorem final (c : Dev nD) : (dats m 0 c).arrAt 10 cfg0.N = result m c :=
  (dats m 0 c).arrAt_eq_of_cover 10 (result m c) (fun t _ => by
    show (cfg0.win 10).cut (grid0.coords t) ((dats m 0 c).after 10 t) = _
    rw [after_10]) covered

/-- The whole run: the result, the arguments as launched, every counter at zero. -/
theorem computes : θ_run defs (onTc (τ := τ) (main (F := Ideal))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨((h.1 c).1 10).trans (final m c),
      ((h.1 c).1 5).trans (((dats m 0 c).arrAt_in 5 rfl _).trans ((A_eq m c 5).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 6).trans (((dats m 0 c).arrAt_in 6 rfl _).trans ((A_eq m c 6).trans (V_main_arg5 m c))),
      ((h.1 c).1 7).trans (((dats m 0 c).arrAt_in 7 rfl _).trans ((A_eq m c 7).trans (V_main_arg6 m c))),
      ((h.1 c).1 8).trans (((dats m 0 c).arrAt_in 8 rfl _).trans ((A_eq m c 8).trans (V_main_arg7 m c))),
      ((h.1 c).1 9).trans (((dats m 0 c).arrAt_in 9 rfl _).trans ((A_eq m c 9).trans (V_main_arg8 m c)))⟩, h.2⟩) (run_value m ρ)

end Cert.C4Ideal.Math

end
-- ==== Proof.R4Value.lean ====
/-
  The block reference's result, operation by operation, read at an element: it is the block's mathematics.
-/
module

public import proofs.«01_k».proof.Proof.C4IdealInv
public import proofs.«01_k».proof.Proof.Gen.R4Ideal
public import proofs.«01_k».proof.Proof.Gen.R4Ideal.Run

@[expose] public section

set_option maxRecDepth 16384

noncomputable section

namespace Cert.R4Ideal.Math

open Cert.R4Ideal Cert.R4Ideal.Gen
open Idealize.ShloMosaic Idealize.ShloMosaic.StableHlo
open Cert.C4Ideal.Math (normed glu act upd res)

variable (r1 : FVec Ideal S512x2048 .f32) (ln : FVec Ideal S1x2048 .f32) (Wg Wu : FVec Ideal S2048x5504 .f32) (Wd : FVec Ideal S5504x2048 .f32)
  (sel : FVec Ideal S512x2048 .f32) (gate : FVec Ideal S512x1 .f32) (p : FVec Ideal S2x256x2048 .bf16) (hs : FVec Ideal S2x2048x2048 .f32)

/-- The normalised rows. -/
def rows : FVec Ideal S512x2048 .f32 := (mulf (mulf r1 (broadcastInDim S512x2048 ![0, 1] bcast_S512x1_S512x2048_0_1 (Host.rsqrt (addf (Host.divf (broadcastInDim S512x1 ![0] bcast_S512_S512x1_0 (Host.reduceAdd (mulf r1 r1) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 (shapeCast _ ln shapeCasts_S1x2048_S2048))))
/-- The gated linear unit of two arrays. -/
def gated (g u : FVec Ideal S512x5504 .f32) : FVec Ideal S512x5504 .f32 := (mulf (mulf g (Host.divf (broadcastInDim S512x5504 ![] bcast_S_S512x5504 (constant S_ .f32 0x3F800000#32)) (addf (broadcastInDim S512x5504 ![] bcast_S_S512x5504 (constant S_ .f32 0x3F800000#32)) (Host.exp (Host.negf g))))) u)
/-- The gated products. -/
def products : FVec Ideal S512x5504 .f32 := gated (let h := rows r1 ln; (Host.dotGeneral dot_S512x2048_S2048x5504_S512x5504_1_0_0_1_n_n none h Wg)) (let h := rows r1 ln; (Host.dotGeneral dot_S512x2048_S2048x5504_S512x5504_1_0_0_1_n_n none h Wu))
/-- The gated differences from given products. -/
def moved (a : FVec Ideal S512x5504 .f32) : FVec Ideal S512x2048 .f32 := (mulf (broadcastInDim S512x2048 ![0, 1] bcast_S512x1_S512x2048_0_1 gate) (subf (addf r1 (Host.dotGeneral dot_S512x5504_S5504x2048_S512x2048_1_0_0_1_n_n none a Wd)) sel))
/-- The differences added at the selected rows. -/
def placed (w : FVec Ideal S512x2048 .f32) : FVec Ideal S2x2048x2048 .f32 := addf hs (Host.dotGeneral dot_S2x256x2048_S2x256x2048_S2x2048x2048_1_1_2_2_0_0 none (extf .f32 p bitsLt_bf16_f32) (shapeCast _ w shapeCasts_S512x2048_S2x256x2048))
/-- The reference's whole term. -/
def whole : FVec Ideal S2x2048x2048 .f32 := placed p hs (moved r1 Wd sel gate (products r1 ln Wg Wu))

/-- The normalised rows at an element. -/
theorem rows_at (r : Fin 512) (d : Fin 2048) : rows r1 ln (ix2 r d) = normed r1 ln r d := by
  pointwise [rows, normed]

/-- The gated linear unit at an element. -/
theorem gated_at (g u : FVec Ideal S512x5504 .f32) (r : Fin 512) (k : Fin 5504) :
    gated g u (ix2 r k) = glu (g (ix2 r k)) (u (ix2 r k)) := by
  pointwise [gated, glu]
  rw [zero_sub]

/-- A product of the rows with a weight at an element. -/
theorem product_at (h : FVec Ideal S512x2048 .f32) (Wg : FVec Ideal S2048x5504 .f32) (r : Fin 512) (k : Fin 5504) :
    (Host.dotGeneral dot_S512x2048_S2048x5504_S512x5504_1_0_0_1_n_n none h Wg) (ix2 r k) = ∑ d : Fin 2048, h (ix2 r d) * Wg (ix2 d k) := by
  pointwise

/-- The gated products at an element. -/
theorem products_at (r : Fin 512) (k : Fin 5504) : products r1 ln Wg Wu (ix2 r k) = act r1 ln Wg Wu r k := by
  unfold products act
  rw [gated_at, product_at, product_at]
  simp only [rows_at]

/-- The gated differences at an element. -/
theorem moved_at (a : FVec Ideal S512x5504 .f32) (r : Fin 512) (d : Fin 2048) :
    moved r1 Wd sel gate a (ix2 r d) = ((r1 (ix2 r d) : EReal) + (∑ k : Fin 5504, a (ix2 r k) * Wd (ix2 k d)) - sel (ix2 r d)) * gate (ix2 r 0) := by
  pointwise [moved]
  exact mul_comm _ _

/-- The differences added, at an element. -/
theorem placed_at (w : FVec Ideal S512x2048 .f32) (b : Fin 2) (t d : Fin 2048) :
    placed p hs w (ix3 b t d) = (hs (ix3 b t d) : EReal) + ∑ k : Fin 256, p (ix3 b k t) * w (ix2 ⟨b.val * 256 + k.val, by omega⟩ d) := by
  pointwise [placed]

/-- The reference's whole term is the block's mathematics. -/
theorem whole_at (b : Fin 2) (t d : Fin 2048) :
    whole r1 ln Wg Wu Wd sel gate p hs (ix3 b t d) = res r1 ln Wg Wu Wd sel gate p hs b t d := by
  unfold whole res
  rw [placed_at]
  refine congrArg _ (Finset.sum_congr rfl fun k _ => ?_)
  rw [moved_at]
  simp only [products_at]
  rfl

end Cert.R4Ideal.Math

end
-- ==== Proof.Claims4.lean ====
/-
  The block call's five claims.
-/
module

public import proofs.«01_k».proof.Defs
public import proofs.«01_k».proof.Proof.C4Frame
public import proofs.«01_k».proof.Proof.C4IdealValue
public import proofs.«01_k».proof.Proof.R4Value

@[expose] public section

set_option maxRecDepth 16384

noncomputable section

namespace Cert.Proof

open Idealize.ShloMosaic Idealize.ShloMosaic.TcCoe Idealize.SL.Sem

/-- The compiled block kernel runs and leaves its arguments and counters as launched. -/
theorem frame_C4 : Cert.quiescent_C4 := fun m ρ _ => Cert.C4.Run.unchanged m ρ

/-- So does its reading over the extended reals. -/
theorem frame_C4Ideal : Cert.quiescent_C4Ideal := fun m ρ _ =>
  (θ_run Cert.C4Ideal.defs _ _).mono (fun r h => ⟨fun c => (h.1 c).2, h.2⟩) (Cert.C4Ideal.Math.computes m ρ)

/-- So does the reference, which declares no semaphore. -/
theorem frame_R4Ideal : Cert.quiescent_R4Ideal := fun m ρ _ =>
  (θ_run Cert.R4Ideal.defs _ _).mono (fun r h => ⟨fun c => (h c).2, Idealize.ShloMosaic.sem_eq_zero_of_no_sems (by decide) r.2⟩)
    (Cert.R4Ideal.Value.run (F := Ideal) m ρ)

/-- The reference's term of the kernel's arguments is the kernel's result. -/
theorem whole_eq (m : (ℓ : Loc Cert.C4Ideal.nD Cert.C4Ideal.τ Cert.C4Ideal.sig) → Buf (Elt Ideal) ℓ) (c : Dev Cert.C4Ideal.nD) :
    Cert.R4Ideal.Math.whole (Cert.C4Ideal.Math.arg m c Cert.C4Ideal.main_arg0) (Cert.C4Ideal.Math.arg m c Cert.C4Ideal.main_arg1) (Cert.C4Ideal.Math.arg m c Cert.C4Ideal.main_arg2) (Cert.C4Ideal.Math.arg m c Cert.C4Ideal.main_arg3) (Cert.C4Ideal.Math.arg m c Cert.C4Ideal.main_arg4) (Cert.C4Ideal.Math.arg m c Cert.C4Ideal.main_arg5) (Cert.C4Ideal.Math.arg m c Cert.C4Ideal.main_arg6) (Cert.C4Ideal.Math.arg m c Cert.C4Ideal.main_arg7) (Cert.C4Ideal.Math.arg m c Cert.C4Ideal.main_arg8) = Cert.C4Ideal.Math.result m c := by
  funext j
  obtain ⟨b, t, d, rfl⟩ : ∃ (b : Fin 2) (t d : Fin 2048), j = ix3 b t d := ⟨j 0, j 1, j 2, eq_ix3 j⟩
  rw [Cert.R4Ideal.Math.whole_at]
  rfl

/-- The block kernel and the reference compute the same values over the extended reals. -/
theorem algebraic4 : Cert.algebraic_C4Ideal_R4Ideal := by
  intro m ρ m' ρ' _ hag
  refine ⟨fun c => Cert.C4Ideal.Math.result m c,
    (θ_run Cert.C4Ideal.defs _ _).mono (fun r h => h.1) (Cert.C4Ideal.Math.computes m ρ), ?_⟩
  refine (θ_run Cert.R4Ideal.defs _ _).mono (fun r h c => ?_) (Cert.R4Ideal.Value.run (F := Ideal) m' ρ')
  obtain ⟨e0, e1, e2, e3, e4, e5, e6, e7, e8⟩ := hag c
  refine ⟨(h c).1.trans (Eq.trans ?_ (whole_eq m c)), (h c).2⟩
  rw [e0, e1, e2, e3, e4, e5, e6, e7, e8]
  rfl

end Cert.Proof

end
-- ==== Proof.C3Frame.lean ====
/-
  The kernel leaves its arguments unchanged: every execution ends, with every argument array as launched and every
  semaphore counter at zero. Nothing is said here of the result's contents (that is the value run's).
-/
module

public import proofs.«01_k».proof.Proof.C3Step
public import Idealize.ShloMosaic.Lib.Claim

@[expose] public section

set_option maxRecDepth 16384

noncomputable section

namespace Cert.C3.Run

open Cert.C3 Cert.C3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's contents are not followed. -/
def fgt : Fin 8 → Bool := fun w => w.val == 7

/-- What the buffers and arrays hold: the inputs their blocks, the output not followed, the scratch anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- What the body is called with at point `t`, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))
/-- and what it returns. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- A whole buffer at some contents. -/
theorem owns_exists (c : Dev nD) (b : Ref sig .tc) :
    (iprop(∃ f : Buf (Elt F) ((c : Thread nD τ).loc b), ((c : Thread nD τ).loc b) ↦{fullShare} f) : sProp 𝕄)
      = iprop(∃ f, owns (c : Thread nD τ) (Memref.whole b) fullShare f) :=
  congrArg BIBase.sExists (Set.ext fun P => ⟨fun ⟨f, h⟩ => ⟨f, (owns_whole (c : Thread nD τ) b fullShare f).trans h⟩, fun ⟨f, h⟩ => ⟨f, (owns_whole (c : Thread nD τ) b fullShare f).symm.trans h⟩⟩)

/-- The scratch buffers at some contents, and the generator register. -/
theorem scratch_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f)
      ∗ (∃ f, owns (c : Thread nD τ) (Memref.whole cc0_scratch4) fullShare f))
      ∗ ∃ r, prngReg c r) := by
  unfold Pipeline.ΦA; rw [scopedRest0_eq]; rw [owns_exists, owns_exists, owns_exists, owns_exists, owns_exists]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, after_0, before_1, after_1, before_2, after_2, before_3, after_3, before_4, after_4, before_5, after_5, before_6, after_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, scratch_eq]
  iintro ⟨⟨⟨⟨%f0, S0⟩, ⟨%f1, S1⟩, ⟨%f2, S2⟩, ⟨%f3, S3⟩, ⟨%f4, S4⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_any (F := F) c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) d7 f0 f1 f2 f3 f4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, S1, S2, S3, S4⟩
  isplitl [S0 S1 S2 S3 S4 Hp]
  · isplitl [S0 S1 S2 S3 S4]
    · isplitl [S0]; · iexists _; iexact S0
      isplitl [S1]; · iexists _; iexact S1
      isplitl [S2]; · iexists _; iexact S2
      isplitl [S3]; · iexists _; iexact S3
      iexists _; iexact S4
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- The body table's row at point `t`. -/
theorem row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : Pipeline.BodyObligationLoose (dats (F := F) m 0 c) (defs₀ (F := F)) Variants.none () Set.univ fgt := fun t => by
  rw [bigSep_W0, bigSep_W0, row]
  exact triple_restated (sound_body m c t) rfl .rfl fun _ => .rfl

set_option backward.isDefEq.respectTransparency.types false in
/-- The launch: every input array as found, every counter at zero. -/
theorem run_quiescent : θ_run defs (onTc (τ := τ) (main (F := F))) (s₀ m ρ)
    (fun r => (Pipeline.RDat.FramePost (cfgs 0) (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m) (hΦ := fun _ _ => rfl)

/-- The arguments end as launched. -/
theorem unchanged : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c))⟩, h.2⟩) (run_quiescent m ρ)

end Cert.C3.Run

end
-- ==== Proof.C3IdealBody.lean ====
/-
  One run of the kernel's body at each kind of grid point (generic in the float values): what each store leaves, the
  rest unchanged. The grid has 10 points: 0..3 the query, key and value products tile by tile (point 0 first normalises
  the rows), 4 and 5 the attention of one batch each, head by head, 6..9 the output projection's column tiles.
-/
module

public import proofs.«01_k».proof.Proof.Gen.C3Ideal.Frame
public import proofs.«01_k».proof.Proof.Gen.C3Ideal.Skeleton
public import Idealize.ShloMosaic.Lib.WritesUnit
public import Idealize.ShloMosaic.Lib.VecWindow
public import Idealize.ShloMosaic.Lib.Tactic.Stretches

@[expose] public section

set_option maxRecDepth 16384

noncomputable section

namespace Cert.C3Ideal.Run

open Cert.C3Ideal Cert.C3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The conditions and offsets in closed form -/

/-- The first branch: point 0 alone. -/
def first (i : grid0.Coords) : BitVec 1 :=
  Scalar.cmpi .ne (Scalar.extui (Scalar.cmpi .eq (BitVec.ofNat 32 (i 0).val) 0#32) : BitVec 32) 0#32
theorem first_iff : ∀ i : grid0.Coords, first i = 1#1 ↔ (i 0).val = 0 := by decide +kernel
theorem cond2_iff : ∀ i : grid0.Coords, k0_cond2 i = 1#1 ↔ (i 0).val < 4 := by decide +kernel
theorem cond3_iff : ∀ i : grid0.Coords, k0_cond3 i = 1#1 ↔ 4 ≤ (i 0).val ∧ (i 0).val < 6 := by decide +kernel
theorem cond4_iff : ∀ i : grid0.Coords, k0_cond4 i = 1#1 ↔ 6 ≤ (i 0).val := by decide +kernel
theorem batch_lt (i : grid0.Coords) (h : k0_cond3 i = 1#1) : (i 0).val - 4 < 2 := by have := (cond3_iff i).mp h; omega
theorem hi (i : grid0.Coords) : (i 0).val < 10 := (i 0).isLt

/-- A load at a unit-stride rectangle reads a window of what the view reads. -/
theorem rd {sp : Space} {s : Shape} {e : EltTy} (v : View sig .tc sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl
/-- A window at equal offsets. -/
theorem window_congr {α : Type} {s : Shape} (x : s.Idx → α) {off off' size : Fin s.rank → ℕ} (h : off = off')
    (inb : ∀ a, off a + size a ≤ s.size a) (inb' : ∀ a, off' a + size a ≤ s.size a) :
    VecWindow.window x off size inb = VecWindow.window x off' size inb' := by subst h; rfl

/-- Head `h`'s 128 columns of batch `b`'s 256 rows, out of four column tiles of 512. -/
def headOf (x : Vec F S4x512x512 .bf16) (b h : ℕ) (hb : b < 2) (hh : h < 16) : Vec F S1x256x128 .bf16 :=
  VecWindow.window x ![h / 4, b * 256, h % 4 * 128] S1x256x128.size (by
    intro a; fin_cases a
    · show h / 4 + 1 ≤ 4; omega
    · show b * 256 + 256 ≤ 512; omega
    · show h % 4 * 128 + 128 ≤ 512; omega)
/-- One head's attention. -/
def head (q k v : Vec F S4x512x512 .bf16) (b h : ℕ) (hb : b < 2) (hh : h < 16) : FVec F S256x128 .bf16 :=
  k0_pay8 (headOf q b h hb hh) (headOf k b h hb hh) (headOf v b h hb hh)
/-- The attention rows after the first `n` heads of batch `b`. -/
def heads (q k v : Vec F S4x512x512 .bf16) (ao : Vec F S512x2048 .bf16) (b : ℕ) (hb : b < 2) : (n : ℕ) → n ≤ 16 → Vec F S512x2048 .bf16
  | 0, _ => ao
  | n + 1, hn => VecWindow.put (heads q k v ao b hb n (by omega)) ![b * 256, n * 128] S256x128.size (head q k v b n hb (by omega))

theorem src0_eq : ∀ i : grid0.Coords, k0_cond3 i = 1#1 → k0_off2 i = ![0 / 4, ((i 0).val - 4) * 256, 0 % 4 * 128] := by decide +kernel
theorem dst0_eq : ∀ i : grid0.Coords, k0_cond3 i = 1#1 → k0_off3 i = ![((i 0).val - 4) * 256, 0 * 128] := by decide +kernel
theorem src1_eq : ∀ i : grid0.Coords, k0_cond3 i = 1#1 → k0_off4 i = ![1 / 4, ((i 0).val - 4) * 256, 1 % 4 * 128] := by decide +kernel
theorem dst1_eq : ∀ i : grid0.Coords, k0_cond3 i = 1#1 → k0_off5 i = ![((i 0).val - 4) * 256, 1 * 128] := by decide +kernel
/-- Head 1's stored block is the common attention. -/
theorem pay_head1 (q k v : Vec F S1x256x128 .bf16) : k0_pay10 k0_pay7 (k0_pay9 q) k v = k0_pay8 q k v := rfl
theorem src2_eq : ∀ i : grid0.Coords, k0_cond3 i = 1#1 → k0_off6 i = ![2 / 4, ((i 0).val - 4) * 256, 2 % 4 * 128] := by decide +kernel
theorem dst2_eq : ∀ i : grid0.Coords, k0_cond3 i = 1#1 → k0_off7 i = ![((i 0).val - 4) * 256, 2 * 128] := by decide +kernel
/-- Head 2's stored block is the common attention. -/
theorem pay_head2 (q k v : Vec F S1x256x128 .bf16) : k0_pay14 (k0_pay11 v) (k0_pay12 k0_pay7 q k) (k0_pay13 k0_pay7 q k) = k0_pay8 q k v := rfl
theorem src3_eq : ∀ i : grid0.Coords, k0_cond3 i = 1#1 → k0_off8 i = ![3 / 4, ((i 0).val - 4) * 256, 3 % 4 * 128] := by decide +kernel
theorem dst3_eq : ∀ i : grid0.Coords, k0_cond3 i = 1#1 → k0_off9 i = ![((i 0).val - 4) * 256, 3 * 128] := by decide +kernel
/-- Head 3's stored block is the common attention. -/
theorem pay_head3 (q k v : Vec F S1x256x128 .bf16) : k0_pay16 (k0_pay15 k0_pay7 q k v) = k0_pay8 q k v := rfl
theorem src4_eq : ∀ i : grid0.Coords, k0_cond3 i = 1#1 → k0_off10 i = ![4 / 4, ((i 0).val - 4) * 256, 4 % 4 * 128] := by decide +kernel
theorem dst4_eq : ∀ i : grid0.Coords, k0_cond3 i = 1#1 → k0_off11 i = ![((i 0).val - 4) * 256, 4 * 128] := by decide +kernel
/-- Head 4's stored block is the common attention. -/
theorem pay_head4 (q k v : Vec F S1x256x128 .bf16) : k0_pay17 k0_pay7 q k v = k0_pay8 q k v := rfl
theorem src5_eq : ∀ i : grid0.Coords, k0_cond3 i = 1#1 → k0_off12 i = ![5 / 4, ((i 0).val - 4) * 256, 5 % 4 * 128] := by decide +kernel
theorem dst5_eq : ∀ i : grid0.Coords, k0_cond3 i = 1#1 → k0_off13 i = ![((i 0).val - 4) * 256, 5 * 128] := by decide +kernel
/-- Head 5's stored block is the common attention. -/
theorem pay_head5 (q k v : Vec F S1x256x128 .bf16) : k0_pay20 k0_pay7 (k0_pay18 q) (k0_pay19 k) v = k0_pay8 q k v := rfl
theorem src6_eq : ∀ i : grid0.Coords, k0_cond3 i = 1#1 → k0_off14 i = ![6 / 4, ((i 0).val - 4) * 256, 6 % 4 * 128] := by decide +kernel
theorem dst6_eq : ∀ i : grid0.Coords, k0_cond3 i = 1#1 → k0_off15 i = ![((i 0).val - 4) * 256, 6 * 128] := by decide +kernel
/-- Head 6's stored block is the common attention. -/
theorem pay_head6 (q k v : Vec F S1x256x128 .bf16) : k0_pay23 (k0_pay21 v) (k0_pay22 k0_pay7 q k) = k0_pay8 q k v := rfl
theorem src7_eq : ∀ i : grid0.Coords, k0_cond3 i = 1#1 → k0_off16 i = ![7 / 4, ((i 0).val - 4) * 256, 7 % 4 * 128] := by decide +kernel
theorem dst7_eq : ∀ i : grid0.Coords, k0_cond3 i = 1#1 → k0_off17 i = ![((i 0).val - 4) * 256, 7 * 128] := by decide +kernel
/-- Head 7's stored block is the common attention. -/
theorem pay_head7 (q k v : Vec F S1x256x128 .bf16) : k0_pay24 k0_pay7 q k v = k0_pay8 q k v := rfl
theorem src8_eq : ∀ i : grid0.Coords, k0_cond3 i = 1#1 → k0_off18 i = ![8 / 4, ((i 0).val - 4) * 256, 8 % 4 * 128] := by decide +kernel
theorem dst8_eq : ∀ i : grid0.Coords, k0_cond3 i = 1#1 → k0_off19 i = ![((i 0).val - 4) * 256, 8 * 128] := by decide +kernel
/-- Head 8's stored block is the common attention. -/
theorem pay_head8 (q k v : Vec F S1x256x128 .bf16) : k0_pay25 k0_pay7 q k v = k0_pay8 q k v := rfl
theorem src9_eq : ∀ i : grid0.Coords, k0_cond3 i = 1#1 → k0_off20 i = ![9 / 4, ((i 0).val - 4) * 256, 9 % 4 * 128] := by decide +kernel
theorem dst9_eq : ∀ i : grid0.Coords, k0_cond3 i = 1#1 → k0_off21 i = ![((i 0).val - 4) * 256, 9 * 128] := by decide +kernel
/-- Head 9's stored block is the common attention. -/
theorem pay_head9 (q k v : Vec F S1x256x128 .bf16) : k0_pay28 k0_pay7 (k0_pay26 v) (k0_pay27 q k) = k0_pay8 q k v := rfl
theorem src10_eq : ∀ i : grid0.Coords, k0_cond3 i = 1#1 → k0_off22 i = ![10 / 4, ((i 0).val - 4) * 256, 10 % 4 * 128] := by decide +kernel
theorem dst10_eq : ∀ i : grid0.Coords, k0_cond3 i = 1#1 → k0_off23 i = ![((i 0).val - 4) * 256, 10 * 128] := by decide +kernel
/-- Head 10's stored block is the common attention. -/
theorem pay_head10 (q k v : Vec F S1x256x128 .bf16) : k0_pay32 (k0_pay29 v) (k0_pay30 k0_pay7 q k) (k0_pay31 k0_pay7 q k) = k0_pay8 q k v := rfl
theorem src11_eq : ∀ i : grid0.Coords, k0_cond3 i = 1#1 → k0_off24 i = ![11 / 4, ((i 0).val - 4) * 256, 11 % 4 * 128] := by decide +kernel
theorem dst11_eq : ∀ i : grid0.Coords, k0_cond3 i = 1#1 → k0_off25 i = ![((i 0).val - 4) * 256, 11 * 128] := by decide +kernel
/-- Head 11's stored block is the common attention. -/
theorem pay_head11 (q k v : Vec F S1x256x128 .bf16) : k0_pay33 k0_pay7 q k v = k0_pay8 q k v := rfl
theorem src12_eq : ∀ i : grid0.Coords, k0_cond3 i = 1#1 → k0_off26 i = ![12 / 4, ((i 0).val - 4) * 256, 12 % 4 * 128] := by decide +kernel
theorem dst12_eq : ∀ i : grid0.Coords, k0_cond3 i = 1#1 → k0_off27 i = ![((i 0).val - 4) * 256, 12 * 128] := by decide +kernel
/-- Head 12's stored block is the common attention. -/
theorem pay_head12 (q k v : Vec F S1x256x128 .bf16) : k0_pay35 k0_pay7 (k0_pay34 q) k v = k0_pay8 q k v := rfl
theorem src13_eq : ∀ i : grid0.Coords, k0_cond3 i = 1#1 → k0_off28 i = ![13 / 4, ((i 0).val - 4) * 256, 13 % 4 * 128] := by decide +kernel
theorem dst13_eq : ∀ i : grid0.Coords, k0_cond3 i = 1#1 → k0_off29 i = ![((i 0).val - 4) * 256, 13 * 128] := by decide +kernel
/-- Head 13's stored block is the common attention. -/
theorem pay_head13 (q k v : Vec F S1x256x128 .bf16) : k0_pay38 k0_pay7 (k0_pay36 v) (k0_pay37 q k) (Scalar.ofBits .f32 0xCE6E6B28#32) = k0_pay8 q k v := rfl
theorem src14_eq : ∀ i : grid0.Coords, k0_cond3 i = 1#1 → k0_off30 i = ![14 / 4, ((i 0).val - 4) * 256, 14 % 4 * 128] := by decide +kernel
theorem dst14_eq : ∀ i : grid0.Coords, k0_cond3 i = 1#1 → k0_off31 i = ![((i 0).val - 4) * 256, 14 * 128] := by decide +kernel
/-- Head 14's stored block is the common attention. -/
theorem pay_head14 (q k v : Vec F S1x256x128 .bf16) : k0_pay40 (k0_pay39 k0_pay7 q k v) = k0_pay8 q k v := rfl
theorem src15_eq : ∀ i : grid0.Coords, k0_cond3 i = 1#1 → k0_off32 i = ![15 / 4, ((i 0).val - 4) * 256, 15 % 4 * 128] := by decide +kernel
theorem dst15_eq : ∀ i : grid0.Coords, k0_cond3 i = 1#1 → k0_off33 i = ![((i 0).val - 4) * 256, 15 * 128] := by decide +kernel
/-- Head 15's stored block is the common attention. -/
theorem pay_head15 (q k v : Vec F S1x256x128 .bf16) : k0_pay5 (k0_pay41 k0_pay7 q k v) = k0_pay8 q k v := rfl
/-- The batch's first row, as the kernel computes it. -/
def row0 (i : grid0.Coords) : ℕ := k0_off3 i 0
instance (i : grid0.Coords) : ClosedOff (k0_off3 i) := ⟨![row0 i, 0], by funext a; fin_cases a <;> rfl⟩
instance (i : grid0.Coords) : ClosedOff (k0_off5 i) := ⟨![row0 i, 128], by funext a; fin_cases a <;> rfl⟩
instance (i : grid0.Coords) : ClosedOff (k0_off7 i) := ⟨![row0 i, 256], by funext a; fin_cases a <;> rfl⟩
instance (i : grid0.Coords) : ClosedOff (k0_off9 i) := ⟨![row0 i, 384], by funext a; fin_cases a <;> rfl⟩
instance (i : grid0.Coords) : ClosedOff (k0_off11 i) := ⟨![row0 i, 512], by funext a; fin_cases a <;> rfl⟩
instance (i : grid0.Coords) : ClosedOff (k0_off13 i) := ⟨![row0 i, 640], by funext a; fin_cases a <;> rfl⟩
instance (i : grid0.Coords) : ClosedOff (k0_off15 i) := ⟨![row0 i, 768], by funext a; fin_cases a <;> rfl⟩
instance (i : grid0.Coords) : ClosedOff (k0_off17 i) := ⟨![row0 i, 896], by funext a; fin_cases a <;> rfl⟩
instance (i : grid0.Coords) : ClosedOff (k0_off19 i) := ⟨![row0 i, 1024], by funext a; fin_cases a <;> rfl⟩
instance (i : grid0.Coords) : ClosedOff (k0_off21 i) := ⟨![row0 i, 1152], by funext a; fin_cases a <;> rfl⟩
instance (i : grid0.Coords) : ClosedOff (k0_off23 i) := ⟨![row0 i, 1280], by funext a; fin_cases a <;> rfl⟩
instance (i : grid0.Coords) : ClosedOff (k0_off25 i) := ⟨![row0 i, 1408], by funext a; fin_cases a <;> rfl⟩
instance (i : grid0.Coords) : ClosedOff (k0_off27 i) := ⟨![row0 i, 1536], by funext a; fin_cases a <;> rfl⟩
instance (i : grid0.Coords) : ClosedOff (k0_off29 i) := ⟨![row0 i, 1664], by funext a; fin_cases a <;> rfl⟩
instance (i : grid0.Coords) : ClosedOff (k0_off31 i) := ⟨![row0 i, 1792], by funext a; fin_cases a <;> rfl⟩
instance (i : grid0.Coords) : ClosedOff (k0_off33 i) := ⟨![row0 i, 1920], by funext a; fin_cases a <;> rfl⟩

/-- A load of one head's columns. -/
theorem load_head {sp : Space} (v : View sig .tc sp S4x512x512 .bf16) (f : v.ty.Contents (Elt F)) (x : Vec F S4x512x512 .bf16)
    (hx : v.read (Elt F) f = x) {off : Fin 3 → ℕ} (b h : ℕ) (hb : b < 2) (hh : h < 16) (ho : off = ![h / 4, b * 256, h % 4 * 128])
    (inb : ∀ a, off a + S1x256x128.size a ≤ S4x512x512.size a) :
    v.readAt (Elt F) (Rect.unit (s := S4x512x512) off S1x256x128.size inb).toLoadRect f = headOf x b h hb hh := by
  subst hx; exact (rd v f inb).trans (window_congr _ ho _ _)
/-- One head's attention from equal operands. -/
theorem head_of {q k v : Vec F S4x512x512 .bf16} {b h : ℕ} {hb : b < 2} {hh : h < 16} {q' k' v' : Vec F S1x256x128 .bf16}
    (eq : q' = headOf q b h hb hh) (ek : k' = headOf k b h hb hh) (ev : v' = headOf v b h hb hh) :
    k0_pay8 q' k' v' = head q k v b h hb hh := by rw [eq, ek, ev]; rfl
/-- One more head stored. -/
theorem heads_step {q k v : Vec F S4x512x512 .bf16} {ao z : Vec F S512x2048 .bf16} {b : ℕ} {hb : b < 2} {n : ℕ} {hn : n + 1 ≤ 16}
    {p : FVec F S256x128 .bf16} (hz : z = heads q k v ao b hb n (by omega)) (hp : p = head q k v b n hb (by omega)) :
    VecWindow.put z ![b * 256, n * 128] S256x128.size p = heads q k v ao b hb (n + 1) hn := by rw [hz, hp]; rfl

/-- The normalised rows at equal operands. -/
theorem pay1_congr {a a' : Vec F S512x2048 .f32} {b b' : Vec F S1x2048 .f32} (ha : a = a') (hb : b = b') :
    k0_pay1 a b = k0_pay1 a' b' := by rw [ha, hb]
/-- A tile at equal operands. -/
theorem pay2_congr {a a' : Vec F S512x2048 .bf16} {b b' : Vec F S2048x512 .f32} (ha : a = a') (hb : b = b') :
    k0_pay2 a b = k0_pay2 a' b' := by rw [ha, hb]
/-- A tile at equal operands. -/
theorem pay3_congr {a a' : Vec F S512x2048 .bf16} {b b' : Vec F S2048x512 .f32} (ha : a = a') (hb : b = b') :
    k0_pay3 a b = k0_pay3 a' b' := by rw [ha, hb]
/-- A tile at equal operands. -/
theorem pay4_congr {a a' : Vec F S512x2048 .bf16} {b b' : Vec F S2048x512 .f32} (ha : a = a') (hb : b = b') :
    k0_pay4 a b = k0_pay4 a' b' := by rw [ha, hb]
/-- An output block at equal operands. -/
theorem pay6_congr {a a' : Vec F S512x512 .f32} {b b' : Vec F S512x2048 .bf16} {c c' : Vec F S2048x512 .f32} (ha : a = a') (hb : b = b') (hc : c = c') :
    k0_pay6 a b c = k0_pay6 a' b' c' := by rw [ha, hb, hc]

end Cert.C3Ideal.Run

end
-- ==== Proof.C3IdealBodyFirst.lean ====
module

public import proofs.«01_k».proof.Proof.C3IdealBody

@[expose] public section

set_option maxRecDepth 16384

noncomputable section

namespace Cert.C3Ideal.Run

open Cert.C3Ideal Cert.C3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- Point 0: the rows are normalised and the first query, key and value tiles are formed from them. -/
theorem run_first (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S4x512x512 .bf16) (harg10 : arg10.IsWhole) (arg11 : Memref sig .tc .vmem S4x512x512 .bf16) (harg11 : arg11.IsWhole) (arg12 : Memref sig .tc .vmem S4x512x512 .bf16) (harg12 : arg12.IsWhole) (arg13 : Memref sig .tc .vmem S512x2048 .bf16) (harg13 : arg13.IsWhole)
    (h1 : first i = 1#1) (h2 : k0_cond2 i = 1#1) (h3 : ¬ k0_cond3 i = 1#1) (h4 : ¬ k0_cond4 i = 1#1)
    (x1 : Vec F S512x2048 .f32) (x2 : Vec F S1x2048 .f32) (x3 : Vec F S2048x512 .f32) (x4 : Vec F S2048x512 .f32) (x5 : Vec F S2048x512 .f32) (x6 : Vec F S2048x512 .f32) (x7 : Vec F S512x512 .f32) (x8 : Vec F S512x512 .f32) (x9 : Vec F S512x2048 .bf16) (x10 : Vec F S4x512x512 .bf16) (x11 : Vec F S4x512x512 .bf16) (x12 : Vec F S4x512x512 .bf16) (x13 : Vec F S512x2048 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay1 x1 x2) ∗ owns (c : Thread nD τ) arg10 fullShare (VecWindow.put x10 ![(i 0).val, 0, 0] S1x512x512.size (k0_pay2 (k0_pay1 x1 x2) x3)) ∗ owns (c : Thread nD τ) arg11 fullShare (VecWindow.put x11 ![(i 0).val, 0, 0] S1x512x512.size (k0_pay3 (k0_pay1 x1 x2) x4)) ∗ owns (c : Thread nD τ) arg12 fullShare (VecWindow.put x12 ![(i 0).val, 0, 0] S1x512x512.size (k0_pay4 (k0_pay1 x1 x2) x5)) ∗ owns (c : Thread nD τ) arg13 fullShare x13) -∗ K ⟨⟩))
          ⊢ wp frame (wpE (defs₀ (F := F)) Variants.none c none) E (cc0__c3_body i arg1 harg1 arg2 harg2 arg3 harg3 arg4 harg4 arg5 harg5 arg6 harg6 arg7 harg7 arg8 harg8 arg9 harg9 arg10 harg10 arg11 harg11 arg12 harg12 arg13 harg13) K := by
  intro E K
  simp only [cc0__c3_body_eq_skeleton]; unfold cc0__c3_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    sl_open_run
    exact (View.read_writes_full _ _ _ _ _).trans (pay1_congr (F := F) ((View.readAt_full _ _ _).trans (harg1.read_unread _)) ((View.readAt_full _ _ _).trans (harg2.read_unread _)))
  isplitl [H10]
  · iexists _; isplitr; swap; · iexact H10
    ipureintro
    rw [View.read_writes_cons_put _ _ _ _ _ (k0_off1_eq i), View.writes_nil, harg10.read_unread]
    sl_open_run
    exact congrArg (VecWindow.put x10 _ _) (pay2_congr (F := F) ((View.readCov_full _ _ _ _ _).trans (pay1_congr (F := F) ((View.readAt_full _ _ _).trans (harg1.read_unread _)) ((View.readAt_full _ _ _).trans (harg2.read_unread _)))) ((View.readAt_full _ _ _).trans (harg3.read_unread _)))
  isplitl [H11]
  · iexists _; isplitr; swap; · iexact H11
    ipureintro
    rw [View.read_writes_cons_put _ _ _ _ _ (k0_off1_eq i), View.writes_nil, harg11.read_unread]
    sl_open_run
    exact congrArg (VecWindow.put x11 _ _) (pay3_congr (F := F) ((View.readCov_full _ _ _ _ _).trans (pay1_congr (F := F) ((View.readAt_full _ _ _).trans (harg1.read_unread _)) ((View.readAt_full _ _ _).trans (harg2.read_unread _)))) ((View.readAt_full _ _ _).trans (harg4.read_unread _)))
  isplitl [H12]
  · iexists _; isplitr; swap; · iexact H12
    ipureintro
    rw [View.read_writes_cons_put _ _ _ _ _ (k0_off1_eq i), View.writes_nil, harg12.read_unread]
    sl_open_run
    exact congrArg (VecWindow.put x12 _ _) (pay4_congr (F := F) ((View.readCov_full _ _ _ _ _).trans (pay1_congr (F := F) ((View.readAt_full _ _ _).trans (harg1.read_unread _)) ((View.readAt_full _ _ _).trans (harg2.read_unread _)))) ((View.readAt_full _ _ _).trans (harg5.read_unread _)))
  iexists _; isplitr; · ipureintro; exact harg13.read_unread _
  iexact H13

end Cert.C3Ideal.Run

end
-- ==== Proof.C3IdealBodyTile.lean ====
module

public import proofs.«01_k».proof.Proof.C3IdealBody

@[expose] public section

set_option maxRecDepth 16384

noncomputable section

namespace Cert.C3Ideal.Run

open Cert.C3Ideal Cert.C3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- Points 1..3: one query, key and value tile. -/
theorem run_tile (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S4x512x512 .bf16) (harg10 : arg10.IsWhole) (arg11 : Memref sig .tc .vmem S4x512x512 .bf16) (harg11 : arg11.IsWhole) (arg12 : Memref sig .tc .vmem S4x512x512 .bf16) (harg12 : arg12.IsWhole) (arg13 : Memref sig .tc .vmem S512x2048 .bf16) (harg13 : arg13.IsWhole)
    (h1 : ¬ first i = 1#1) (h2 : k0_cond2 i = 1#1) (h3 : ¬ k0_cond3 i = 1#1) (h4 : ¬ k0_cond4 i = 1#1)
    (x1 : Vec F S512x2048 .f32) (x2 : Vec F S1x2048 .f32) (x3 : Vec F S2048x512 .f32) (x4 : Vec F S2048x512 .f32) (x5 : Vec F S2048x512 .f32) (x6 : Vec F S2048x512 .f32) (x7 : Vec F S512x512 .f32) (x8 : Vec F S512x512 .f32) (x9 : Vec F S512x2048 .bf16) (x10 : Vec F S4x512x512 .bf16) (x11 : Vec F S4x512x512 .bf16) (x12 : Vec F S4x512x512 .bf16) (x13 : Vec F S512x2048 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (VecWindow.put x10 ![(i 0).val, 0, 0] S1x512x512.size (k0_pay2 x9 x3)) ∗ owns (c : Thread nD τ) arg11 fullShare (VecWindow.put x11 ![(i 0).val, 0, 0] S1x512x512.size (k0_pay3 x9 x4)) ∗ owns (c : Thread nD τ) arg12 fullShare (VecWindow.put x12 ![(i 0).val, 0, 0] S1x512x512.size (k0_pay4 x9 x5)) ∗ owns (c : Thread nD τ) arg13 fullShare x13) -∗ K ⟨⟩))
          ⊢ wp frame (wpE (defs₀ (F := F)) Variants.none c none) E (cc0__c3_body i arg1 harg1 arg2 harg2 arg3 harg3 arg4 harg4 arg5 harg5 arg6 harg6 arg7 harg7 arg8 harg8 arg9 harg9 arg10 harg10 arg11 harg11 arg12 harg12 arg13 harg13) K := by
  intro E K
  simp only [cc0__c3_body_eq_skeleton]; unfold cc0__c3_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    rw [View.read_writes_cons_put _ _ _ _ _ (k0_off1_eq i), View.writes_nil, harg10.read_unread]
    sl_open_run
    exact congrArg (VecWindow.put x10 _ _) (pay2_congr (F := F) (((View.readAt_full _ _ _).trans (harg9.read_unread _))) ((View.readAt_full _ _ _).trans (harg3.read_unread _)))
  isplitl [H11]
  · iexists _; isplitr; swap; · iexact H11
    ipureintro
    rw [View.read_writes_cons_put _ _ _ _ _ (k0_off1_eq i), View.writes_nil, harg11.read_unread]
    sl_open_run
    exact congrArg (VecWindow.put x11 _ _) (pay3_congr (F := F) (((View.readAt_full _ _ _).trans (harg9.read_unread _))) ((View.readAt_full _ _ _).trans (harg4.read_unread _)))
  isplitl [H12]
  · iexists _; isplitr; swap; · iexact H12
    ipureintro
    rw [View.read_writes_cons_put _ _ _ _ _ (k0_off1_eq i), View.writes_nil, harg12.read_unread]
    sl_open_run
    exact congrArg (VecWindow.put x12 _ _) (pay4_congr (F := F) (((View.readAt_full _ _ _).trans (harg9.read_unread _))) ((View.readAt_full _ _ _).trans (harg5.read_unread _)))
  iexists _; isplitr; · ipureintro; exact harg13.read_unread _
  iexact H13

end Cert.C3Ideal.Run

end
-- ==== Proof.C3IdealBodyAtt.lean ====
module

public import proofs.«01_k».proof.Proof.C3IdealBody

@[expose] public section

set_option maxRecDepth 16384

noncomputable section

namespace Cert.C3Ideal.Run

open Cert.C3Ideal Cert.C3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- Points 4 and 5: the attention of one batch, head by head. -/
theorem run_att (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S4x512x512 .bf16) (harg10 : arg10.IsWhole) (arg11 : Memref sig .tc .vmem S4x512x512 .bf16) (harg11 : arg11.IsWhole) (arg12 : Memref sig .tc .vmem S4x512x512 .bf16) (harg12 : arg12.IsWhole) (arg13 : Memref sig .tc .vmem S512x2048 .bf16) (harg13 : arg13.IsWhole)
    (h1 : ¬ first i = 1#1) (h2 : ¬ k0_cond2 i = 1#1) (h3 : k0_cond3 i = 1#1) (h4 : ¬ k0_cond4 i = 1#1)
    (x1 : Vec F S512x2048 .f32) (x2 : Vec F S1x2048 .f32) (x3 : Vec F S2048x512 .f32) (x4 : Vec F S2048x512 .f32) (x5 : Vec F S2048x512 .f32) (x6 : Vec F S2048x512 .f32) (x7 : Vec F S512x512 .f32) (x8 : Vec F S512x512 .f32) (x9 : Vec F S512x2048 .bf16) (x10 : Vec F S4x512x512 .bf16) (x11 : Vec F S4x512x512 .bf16) (x12 : Vec F S4x512x512 .bf16) (x13 : Vec F S512x2048 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (heads x10 x11 x12 x13 ((i 0).val - 4) (batch_lt i h3) 16 (by omega))) -∗ K ⟨⟩))
          ⊢ wp frame (wpE (defs₀ (F := F)) Variants.none c none) E (cc0__c3_body i arg1 harg1 arg2 harg2 arg3 harg3 arg4 harg4 arg5 harg5 arg6 harg6 arg7 harg7 arg8 harg8 arg9 harg9 arg10 harg10 arg11 harg11 arg12 harg12 arg13 harg13) K := by
  intro E K
  simp only [cc0__c3_body_eq_skeleton]; unfold cc0__c3_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  iexists _; isplitr; swap; · iexact H13
  ipureintro
  sl_open_run
  rw [View.read_writes_cons_put _ _ _ _ _ (dst15_eq i h3), View.read_writes_cons_put _ _ _ _ _ (dst14_eq i h3), View.read_writes_cons_put _ _ _ _ _ (dst13_eq i h3), View.read_writes_cons_put _ _ _ _ _ (dst12_eq i h3), View.read_writes_cons_put _ _ _ _ _ (dst11_eq i h3), View.read_writes_cons_put _ _ _ _ _ (dst10_eq i h3), View.read_writes_cons_put _ _ _ _ _ (dst9_eq i h3), View.read_writes_cons_put _ _ _ _ _ (dst8_eq i h3), View.read_writes_cons_put _ _ _ _ _ (dst7_eq i h3), View.read_writes_cons_put _ _ _ _ _ (dst6_eq i h3), View.read_writes_cons_put _ _ _ _ _ (dst5_eq i h3), View.read_writes_cons_put _ _ _ _ _ (dst4_eq i h3), View.read_writes_cons_put _ _ _ _ _ (dst3_eq i h3), View.read_writes_cons_put _ _ _ _ _ (dst2_eq i h3), View.read_writes_cons_put _ _ _ _ _ (dst1_eq i h3), View.read_writes_cons_put _ _ _ _ _ (dst0_eq i h3), View.writes_nil, harg13.read_unread]
  refine heads_step (F := F) ?_ ((pay_head15 _ _ _).trans (head_of (F := F) (load_head _ _ _ (harg10.read_unread _) _ 15 (batch_lt i h3) (by omega) (src15_eq i h3) _) (load_head _ _ _ (harg11.read_unread _) _ 15 (batch_lt i h3) (by omega) (src15_eq i h3) _) (load_head _ _ _ (harg12.read_unread _) _ 15 (batch_lt i h3) (by omega) (src15_eq i h3) _)))
  refine heads_step (F := F) ?_ ((pay_head14 _ _ _).trans (head_of (F := F) (load_head _ _ _ (harg10.read_unread _) _ 14 (batch_lt i h3) (by omega) (src14_eq i h3) _) (load_head _ _ _ (harg11.read_unread _) _ 14 (batch_lt i h3) (by omega) (src14_eq i h3) _) (load_head _ _ _ (harg12.read_unread _) _ 14 (batch_lt i h3) (by omega) (src14_eq i h3) _)))
  refine heads_step (F := F) ?_ ((pay_head13 _ _ _).trans (head_of (F := F) (load_head _ _ _ (harg10.read_unread _) _ 13 (batch_lt i h3) (by omega) (src13_eq i h3) _) (load_head _ _ _ (harg11.read_unread _) _ 13 (batch_lt i h3) (by omega) (src13_eq i h3) _) (load_head _ _ _ (harg12.read_unread _) _ 13 (batch_lt i h3) (by omega) (src13_eq i h3) _)))
  refine heads_step (F := F) ?_ ((pay_head12 _ _ _).trans (head_of (F := F) (load_head _ _ _ (harg10.read_unread _) _ 12 (batch_lt i h3) (by omega) (src12_eq i h3) _) (load_head _ _ _ (harg11.read_unread _) _ 12 (batch_lt i h3) (by omega) (src12_eq i h3) _) (load_head _ _ _ (harg12.read_unread _) _ 12 (batch_lt i h3) (by omega) (src12_eq i h3) _)))
  refine heads_step (F := F) ?_ ((pay_head11 _ _ _).trans (head_of (F := F) (load_head _ _ _ (harg10.read_unread _) _ 11 (batch_lt i h3) (by omega) (src11_eq i h3) _) (load_head _ _ _ (harg11.read_unread _) _ 11 (batch_lt i h3) (by omega) (src11_eq i h3) _) (load_head _ _ _ (harg12.read_unread _) _ 11 (batch_lt i h3) (by omega) (src11_eq i h3) _)))
  refine heads_step (F := F) ?_ ((pay_head10 _ _ _).trans (head_of (F := F) (load_head _ _ _ (harg10.read_unread _) _ 10 (batch_lt i h3) (by omega) (src10_eq i h3) _) (load_head _ _ _ (harg11.read_unread _) _ 10 (batch_lt i h3) (by omega) (src10_eq i h3) _) (load_head _ _ _ (harg12.read_unread _) _ 10 (batch_lt i h3) (by omega) (src10_eq i h3) _)))
  refine heads_step (F := F) ?_ ((pay_head9 _ _ _).trans (head_of (F := F) (load_head _ _ _ (harg10.read_unread _) _ 9 (batch_lt i h3) (by omega) (src9_eq i h3) _) (load_head _ _ _ (harg11.read_unread _) _ 9 (batch_lt i h3) (by omega) (src9_eq i h3) _) (load_head _ _ _ (harg12.read_unread _) _ 9 (batch_lt i h3) (by omega) (src9_eq i h3) _)))
  refine heads_step (F := F) ?_ ((pay_head8 _ _ _).trans (head_of (F := F) (load_head _ _ _ (harg10.read_unread _) _ 8 (batch_lt i h3) (by omega) (src8_eq i h3) _) (load_head _ _ _ (harg11.read_unread _) _ 8 (batch_lt i h3) (by omega) (src8_eq i h3) _) (load_head _ _ _ (harg12.read_unread _) _ 8 (batch_lt i h3) (by omega) (src8_eq i h3) _)))
  refine heads_step (F := F) ?_ ((pay_head7 _ _ _).trans (head_of (F := F) (load_head _ _ _ (harg10.read_unread _) _ 7 (batch_lt i h3) (by omega) (src7_eq i h3) _) (load_head _ _ _ (harg11.read_unread _) _ 7 (batch_lt i h3) (by omega) (src7_eq i h3) _) (load_head _ _ _ (harg12.read_unread _) _ 7 (batch_lt i h3) (by omega) (src7_eq i h3) _)))
  refine heads_step (F := F) ?_ ((pay_head6 _ _ _).trans (head_of (F := F) (load_head _ _ _ (harg10.read_unread _) _ 6 (batch_lt i h3) (by omega) (src6_eq i h3) _) (load_head _ _ _ (harg11.read_unread _) _ 6 (batch_lt i h3) (by omega) (src6_eq i h3) _) (load_head _ _ _ (harg12.read_unread _) _ 6 (batch_lt i h3) (by omega) (src6_eq i h3) _)))
  refine heads_step (F := F) ?_ ((pay_head5 _ _ _).trans (head_of (F := F) (load_head _ _ _ (harg10.read_unread _) _ 5 (batch_lt i h3) (by omega) (src5_eq i h3) _) (load_head _ _ _ (harg11.read_unread _) _ 5 (batch_lt i h3) (by omega) (src5_eq i h3) _) (load_head _ _ _ (harg12.read_unread _) _ 5 (batch_lt i h3) (by omega) (src5_eq i h3) _)))
  refine heads_step (F := F) ?_ ((pay_head4 _ _ _).trans (head_of (F := F) (load_head _ _ _ (harg10.read_unread _) _ 4 (batch_lt i h3) (by omega) (src4_eq i h3) _) (load_head _ _ _ (harg11.read_unread _) _ 4 (batch_lt i h3) (by omega) (src4_eq i h3) _) (load_head _ _ _ (harg12.read_unread _) _ 4 (batch_lt i h3) (by omega) (src4_eq i h3) _)))
  refine heads_step (F := F) ?_ ((pay_head3 _ _ _).trans (head_of (F := F) (load_head _ _ _ (harg10.read_unread _) _ 3 (batch_lt i h3) (by omega) (src3_eq i h3) _) (load_head _ _ _ (harg11.read_unread _) _ 3 (batch_lt i h3) (by omega) (src3_eq i h3) _) (load_head _ _ _ (harg12.read_unread _) _ 3 (batch_lt i h3) (by omega) (src3_eq i h3) _)))
  refine heads_step (F := F) ?_ ((pay_head2 _ _ _).trans (head_of (F := F) (load_head _ _ _ (harg10.read_unread _) _ 2 (batch_lt i h3) (by omega) (src2_eq i h3) _) (load_head _ _ _ (harg11.read_unread _) _ 2 (batch_lt i h3) (by omega) (src2_eq i h3) _) (load_head _ _ _ (harg12.read_unread _) _ 2 (batch_lt i h3) (by omega) (src2_eq i h3) _)))
  refine heads_step (F := F) ?_ ((pay_head1 _ _ _).trans (head_of (F := F) (load_head _ _ _ (harg10.read_unread _) _ 1 (batch_lt i h3) (by omega) (src1_eq i h3) _) (load_head _ _ _ (harg11.read_unread _) _ 1 (batch_lt i h3) (by omega) (src1_eq i h3) _) (load_head _ _ _ (harg12.read_unread _) _ 1 (batch_lt i h3) (by omega) (src1_eq i h3) _)))
  refine heads_step (F := F) ?_ ((head_of (F := F) (load_head _ _ _ (harg10.read_unread _) _ 0 (batch_lt i h3) (by omega) (src0_eq i h3) _) (load_head _ _ _ (harg11.read_unread _) _ 0 (batch_lt i h3) (by omega) (src0_eq i h3) _) (load_head _ _ _ (harg12.read_unread _) _ 0 (batch_lt i h3) (by omega) (src0_eq i h3) _)))
  rfl

end Cert.C3Ideal.Run

end
-- ==== Proof.C3IdealBodyOut.lean ====
module

public import proofs.«01_k».proof.Proof.C3IdealBody

@[expose] public section

set_option maxRecDepth 16384

noncomputable section

namespace Cert.C3Ideal.Run

open Cert.C3Ideal Cert.C3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- Points 6..9: one column tile of the output projection, the residual added. -/
theorem run_out (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S4x512x512 .bf16) (harg10 : arg10.IsWhole) (arg11 : Memref sig .tc .vmem S4x512x512 .bf16) (harg11 : arg11.IsWhole) (arg12 : Memref sig .tc .vmem S4x512x512 .bf16) (harg12 : arg12.IsWhole) (arg13 : Memref sig .tc .vmem S512x2048 .bf16) (harg13 : arg13.IsWhole)
    (h1 : ¬ first i = 1#1) (h2 : ¬ k0_cond2 i = 1#1) (h3 : ¬ k0_cond3 i = 1#1) (h4 : k0_cond4 i = 1#1)
    (x1 : Vec F S512x2048 .f32) (x2 : Vec F S1x2048 .f32) (x3 : Vec F S2048x512 .f32) (x4 : Vec F S2048x512 .f32) (x5 : Vec F S2048x512 .f32) (x6 : Vec F S2048x512 .f32) (x7 : Vec F S512x512 .f32) (x8 : Vec F S512x512 .f32) (x9 : Vec F S512x2048 .bf16) (x10 : Vec F S4x512x512 .bf16) (x11 : Vec F S4x512x512 .bf16) (x12 : Vec F S4x512x512 .bf16) (x13 : Vec F S512x2048 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay6 x7 x13 x6) ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13) -∗ K ⟨⟩))
          ⊢ wp frame (wpE (defs₀ (F := F)) Variants.none c none) E (cc0__c3_body i arg1 harg1 arg2 harg2 arg3 harg3 arg4 harg4 arg5 harg5 arg6 harg6 arg7 harg7 arg8 harg8 arg9 harg9 arg10 harg10 arg11 harg11 arg12 harg12 arg13 harg13) K := by
  intro E K
  simp only [cc0__c3_body_eq_skeleton]; unfold cc0__c3_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_open_run
    exact (View.read_writes_full _ _ _ _ _).trans (pay6_congr (F := F) ((View.readAt_full _ _ _).trans (harg7.read_unread _)) ((View.readAt_full _ _ _).trans (harg13.read_unread _)) ((View.readAt_full _ _ _).trans (harg6.read_unread _)))
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  iexists _; isplitr; · ipureintro; exact harg13.read_unread _
  iexact H13

end Cert.C3Ideal.Run

end
-- ==== Proof.C3IdealStep.lean ====
/-
  One run of the kernel's body at any grid point: the scratch buffers and the output block after it, as functions of
  what the windows' buffers and the scratch held before it.
-/
module

public import proofs.«01_k».proof.Proof.C3IdealBodyFirst
public import proofs.«01_k».proof.Proof.C3IdealBodyTile
public import proofs.«01_k».proof.Proof.C3IdealBodyAtt
public import proofs.«01_k».proof.Proof.C3IdealBodyOut

@[expose] public section

set_option maxRecDepth 16384

noncomputable section

namespace Cert.C3Ideal.Run

open Cert.C3Ideal Cert.C3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The normalised rows after a point: formed at point 0, kept after it. -/
def nx9 (i : grid0.Coords) (x1 : Vec F S512x2048 .f32) (x2 : Vec F S1x2048 .f32) (x9 : Vec F S512x2048 .bf16) : Vec F S512x2048 .bf16 :=
  if (i 0).val = 0 then k0_pay1 x1 x2 else x9
/-- The query tiles after a point: points 0..3 set tile by tile. -/
def nx10 (i : grid0.Coords) (x1 : Vec F S512x2048 .f32) (x2 : Vec F S1x2048 .f32) (x3 : Vec F S2048x512 .f32)
    (x9 : Vec F S512x2048 .bf16) (x10 : Vec F S4x512x512 .bf16) : Vec F S4x512x512 .bf16 :=
  if (i 0).val < 4 then VecWindow.put x10 ![(i 0).val, 0, 0] S1x512x512.size (k0_pay2 (nx9 i x1 x2 x9) x3) else x10
/-- The key tiles after a point. -/
def nx11 (i : grid0.Coords) (x1 : Vec F S512x2048 .f32) (x2 : Vec F S1x2048 .f32) (x4 : Vec F S2048x512 .f32)
    (x9 : Vec F S512x2048 .bf16) (x11 : Vec F S4x512x512 .bf16) : Vec F S4x512x512 .bf16 :=
  if (i 0).val < 4 then VecWindow.put x11 ![(i 0).val, 0, 0] S1x512x512.size (k0_pay3 (nx9 i x1 x2 x9) x4) else x11
/-- The value tiles after a point. -/
def nx12 (i : grid0.Coords) (x1 : Vec F S512x2048 .f32) (x2 : Vec F S1x2048 .f32) (x5 : Vec F S2048x512 .f32)
    (x9 : Vec F S512x2048 .bf16) (x12 : Vec F S4x512x512 .bf16) : Vec F S4x512x512 .bf16 :=
  if (i 0).val < 4 then VecWindow.put x12 ![(i 0).val, 0, 0] S1x512x512.size (k0_pay4 (nx9 i x1 x2 x9) x5) else x12
/-- The attention rows after a point: points 4 and 5 set one batch each. -/
def nx13 (i : grid0.Coords) (x10 x11 x12 : Vec F S4x512x512 .bf16) (x13 : Vec F S512x2048 .bf16) : Vec F S512x2048 .bf16 :=
  if h : 4 ≤ (i 0).val ∧ (i 0).val < 6 then heads x10 x11 x12 x13 ((i 0).val - 4) (by omega) 16 (by omega) else x13
/-- The output block after a point: written from point 6 on. -/
def nx8 (i : grid0.Coords) (x6 : Vec F S2048x512 .f32) (x7 : Vec F S512x512 .f32) (x13 : Vec F S512x2048 .bf16)
    (x8 : Vec F S512x512 .f32) : Vec F S512x512 .f32 :=
  if 6 ≤ (i 0).val then k0_pay6 x7 x13 x6 else x8

set_option maxHeartbeats 2000000 in
/-- The body at any grid point. -/
theorem run_any (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S4x512x512 .bf16) (harg10 : arg10.IsWhole) (arg11 : Memref sig .tc .vmem S4x512x512 .bf16) (harg11 : arg11.IsWhole) (arg12 : Memref sig .tc .vmem S4x512x512 .bf16) (harg12 : arg12.IsWhole) (arg13 : Memref sig .tc .vmem S512x2048 .bf16) (harg13 : arg13.IsWhole)
    (x1 : Vec F S512x2048 .f32) (x2 : Vec F S1x2048 .f32) (x3 : Vec F S2048x512 .f32) (x4 : Vec F S2048x512 .f32) (x5 : Vec F S2048x512 .f32) (x6 : Vec F S2048x512 .f32) (x7 : Vec F S512x512 .f32) (x8 : Vec F S512x512 .f32) (x9 : Vec F S512x2048 .bf16) (x10 : Vec F S4x512x512 .bf16) (x11 : Vec F S4x512x512 .bf16) (x12 : Vec F S4x512x512 .bf16) (x13 : Vec F S512x2048 .bf16) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (nx8 i x6 x7 x13 x8) ∗ owns (c : Thread nD τ) arg9 fullShare (nx9 i x1 x2 x9) ∗ owns (c : Thread nD τ) arg10 fullShare (nx10 i x1 x2 x3 x9 x10) ∗ owns (c : Thread nD τ) arg11 fullShare (nx11 i x1 x2 x4 x9 x11) ∗ owns (c : Thread nD τ) arg12 fullShare (nx12 i x1 x2 x5 x9 x12) ∗ owns (c : Thread nD τ) arg13 fullShare (nx13 i x10 x11 x12 x13)) -∗ K ⟨⟩))
          ⊢ wp frame (wpE (defs₀ (F := F)) Variants.none c none) E (cc0__c3_body i arg1 harg1 arg2 harg2 arg3 harg3 arg4 harg4 arg5 harg5 arg6 harg6 arg7 harg7 arg8 harg8 arg9 harg9 arg10 harg10 arg11 harg11 arg12 harg12 arg13 harg13) K := by
  intro E K
  have hN := hi i
  by_cases g0 : (i 0).val = 0
  ·
    have h9 : nx9 i x1 x2 x9 = k0_pay1 x1 x2 := if_pos (by omega)
    have h10 : nx10 i x1 x2 x3 x9 x10 = VecWindow.put x10 ![(i 0).val, 0, 0] S1x512x512.size (k0_pay2 (k0_pay1 x1 x2) x3) := by unfold nx10; rw [if_pos (by omega), h9]
    have h11 : nx11 i x1 x2 x4 x9 x11 = VecWindow.put x11 ![(i 0).val, 0, 0] S1x512x512.size (k0_pay3 (k0_pay1 x1 x2) x4) := by unfold nx11; rw [if_pos (by omega), h9]
    have h12 : nx12 i x1 x2 x5 x9 x12 = VecWindow.put x12 ![(i 0).val, 0, 0] S1x512x512.size (k0_pay4 (k0_pay1 x1 x2) x5) := by unfold nx12; rw [if_pos (by omega), h9]
    have h13 : nx13 i x10 x11 x12 x13 = x13 := dif_neg (by omega)
    have h8 : nx8 i x6 x7 x13 x8 = x8 := if_neg (by omega)
    rw [h8, h9, h10, h11, h12, h13]
    exact run_first c i arg1 harg1 arg2 harg2 arg3 harg3 arg4 harg4 arg5 harg5 arg6 harg6 arg7 harg7 arg8 harg8 arg9 harg9 arg10 harg10 arg11 harg11 arg12 harg12 arg13 harg13 ((first_iff i).mpr (by omega)) ((cond2_iff i).mpr (by omega)) (fun h => by have := (cond3_iff i).mp h; omega) (fun h => by have := (cond4_iff i).mp h; omega) x1 x2 x3 x4 x5 x6 x7 x8 x9 x10 x11 x12 x13 E K

  by_cases g1 : (i 0).val < 4
  ·
    have h9 : nx9 i x1 x2 x9 = x9 := if_neg (by omega)
    have h10 : nx10 i x1 x2 x3 x9 x10 = VecWindow.put x10 ![(i 0).val, 0, 0] S1x512x512.size (k0_pay2 x9 x3) := by unfold nx10; rw [if_pos (by omega), h9]
    have h11 : nx11 i x1 x2 x4 x9 x11 = VecWindow.put x11 ![(i 0).val, 0, 0] S1x512x512.size (k0_pay3 x9 x4) := by unfold nx11; rw [if_pos (by omega), h9]
    have h12 : nx12 i x1 x2 x5 x9 x12 = VecWindow.put x12 ![(i 0).val, 0, 0] S1x512x512.size (k0_pay4 x9 x5) := by unfold nx12; rw [if_pos (by omega), h9]
    have h13 : nx13 i x10 x11 x12 x13 = x13 := dif_neg (by omega)
    have h8 : nx8 i x6 x7 x13 x8 = x8 := if_neg (by omega)
    rw [h8, h9, h10, h11, h12, h13]
    exact run_tile c i arg1 harg1 arg2 harg2 arg3 harg3 arg4 harg4 arg5 harg5 arg6 harg6 arg7 harg7 arg8 harg8 arg9 harg9 arg10 harg10 arg11 harg11 arg12 harg12 arg13 harg13 (fun h => by have := (first_iff i).mp h; omega) ((cond2_iff i).mpr (by omega)) (fun h => by have := (cond3_iff i).mp h; omega) (fun h => by have := (cond4_iff i).mp h; omega) x1 x2 x3 x4 x5 x6 x7 x8 x9 x10 x11 x12 x13 E K

  by_cases g2 : (i 0).val < 6
  ·
    have h9 : nx9 i x1 x2 x9 = x9 := if_neg (by omega)
    have h10 : nx10 i x1 x2 x3 x9 x10 = x10 := if_neg (by omega)
    have h11 : nx11 i x1 x2 x4 x9 x11 = x11 := if_neg (by omega)
    have h12 : nx12 i x1 x2 x5 x9 x12 = x12 := if_neg (by omega)
    have h13 : nx13 i x10 x11 x12 x13 = heads x10 x11 x12 x13 ((i 0).val - 4) (by omega) 16 (by omega) := dif_pos (by omega)
    have h8 : nx8 i x6 x7 x13 x8 = x8 := if_neg (by omega)
    rw [h8, h9, h10, h11, h12, h13]
    exact run_att c i arg1 harg1 arg2 harg2 arg3 harg3 arg4 harg4 arg5 harg5 arg6 harg6 arg7 harg7 arg8 harg8 arg9 harg9 arg10 harg10 arg11 harg11 arg12 harg12 arg13 harg13 (fun h => by have := (first_iff i).mp h; omega) (fun h => by have := (cond2_iff i).mp h; omega) ((cond3_iff i).mpr (by omega)) (fun h => by have := (cond4_iff i).mp h; omega) x1 x2 x3 x4 x5 x6 x7 x8 x9 x10 x11 x12 x13 E K

  ·
    have h9 : nx9 i x1 x2 x9 = x9 := if_neg (by omega)
    have h10 : nx10 i x1 x2 x3 x9 x10 = x10 := if_neg (by omega)
    have h11 : nx11 i x1 x2 x4 x9 x11 = x11 := if_neg (by omega)
    have h12 : nx12 i x1 x2 x5 x9 x12 = x12 := if_neg (by omega)
    have h13 : nx13 i x10 x11 x12 x13 = x13 := dif_neg (by omega)
    have h8 : nx8 i x6 x7 x13 x8 = k0_pay6 x7 x13 x6 := if_pos (by omega)
    rw [h8, h9, h10, h11, h12, h13]
    exact run_out c i arg1 harg1 arg2 harg2 arg3 harg3 arg4 harg4 arg5 harg5 arg6 harg6 arg7 harg7 arg8 harg8 arg9 harg9 arg10 harg10 arg11 harg11 arg12 harg12 arg13 harg13 (fun h => by have := (first_iff i).mp h; omega) (fun h => by have := (cond2_iff i).mp h; omega) (fun h => by have := (cond3_iff i).mp h; omega) ((cond4_iff i).mpr (by omega)) x1 x2 x3 x4 x5 x6 x7 x8 x9 x10 x11 x12 x13 E K

end Cert.C3Ideal.Run

end
-- ==== Proof.C3IdealPay.lean ====
/-
  The attention kernel's mathematics, and the values its body stores, read at an index over the extended reals.
-/
module

public import proofs.«01_k».proof.Proof.Gen.C3Ideal.Skeleton
public import Idealize.ShloMosaic.Lib.Pointwise
public import Idealize.ShloMosaic.PureOps.Ideal

@[expose] public section

set_option maxRecDepth 16384

noncomputable section

namespace Cert.C3Ideal.Math

open Cert.C3Ideal Cert.C3Ideal.Gen
open Idealize.ShloMosaic

/-! ## The mathematics, element by element -/

/-- A row of `x` divided by its root mean square and weighted by `l`. -/
def normed (x : Vec Ideal S512x2048 .f32) (l : Vec Ideal S1x2048 .f32) (r : Fin 512) (d : Fin 2048) : EReal :=
  x (ix2 r d) * Ideal.rsqrt (Ideal.div (∑ e, x (ix2 r e) * x (ix2 r e)) (Ideal.ofBits .f32 0x45000000#32) + Ideal.ofBits .f32 0x358637BD#32)
    * l (ix2 0 d)
/-- The attention's scale: one over the root of the head's width. -/
def scale : EReal := (((Real.sqrt 128)⁻¹ : ℝ) : EReal)
/-- A row's score against another: the scaled product of its query and the other's key, and -1e9 for a later row. -/
def score (q k : Fin 256 → Fin 128 → EReal) (t s : Fin 256) : EReal :=
  if s.val ≤ t.val then (∑ e, q t e * k s e) * scale else Ideal.ofBits .f32 0xCE6E6B28#32
/-- A row's largest score. -/
def top (q k : Fin 256 → Fin 128 → EReal) (t : Fin 256) : EReal :=
  Finset.fold max (Ideal.ofBits .f32 0xFF800000#32) (fun s => score q k t s) Finset.univ
/-- A row's weight before it is divided by the row's sum. -/
def expo (q k : Fin 256 → Fin 128 → EReal) (t s : Fin 256) : EReal := Ideal.exp (score q k t s - top q k t)
/-- One head's attention: the values weighted by the softmax of the scores. -/
def attend (q k v : Fin 256 → Fin 128 → EReal) (t : Fin 256) (d : Fin 128) : EReal :=
  ∑ s, Ideal.div (expo q k t s) (∑ s, expo q k t s) * v s d

/-- The named constant is the scale. -/
theorem scale_eq : (Named.named (F := Ideal) κ "scale" (φ := .f32) 0x3DB504F3#32 : EReal) = scale := rfl

/-- The comparison of two small row numbers. -/
theorem later_eq (r x : Fin 256) : IntOp.cmpi CmpIPredicate.sge (BitVec.ofNat 32 r.val) (BitVec.ofNat 32 x.val) = if x.val ≤ r.val then 1#1 else 0#1 := by
  have toInt : ∀ a : Fin 256, (BitVec.ofNat 32 a.val).toInt = a.val := by decide +kernel
  have ha := toInt r
  have hb := toInt x
  simp only [IntOp.cmpi, BitVec.sle, ha, hb, Int.ofNat_le, Nat.cast_le]
  by_cases h : x.val ≤ r.val <;> simp [h]
/-- The choice by that comparison. -/
theorem choose_eq (r x : Fin 256) (a b : EReal) :
    Scalar.select (IntOp.cmpi CmpIPredicate.sge (BitVec.ofNat 32 r.val) (BitVec.ofNat 32 x.val)) a b = if x.val ≤ r.val then a else b := by
  rw [later_eq]
  by_cases h : x.val ≤ r.val
  · rw [if_pos h, if_pos h]; rfl
  · rw [if_neg h, if_neg h]; rfl

/-! ## The payloads -/

/-- The first store: the normalised rows. -/
theorem pay1_at (x : Vec Ideal S512x2048 .f32) (l : Vec Ideal S1x2048 .f32) (r : Fin 512) (d : Fin 2048) :
    k0_pay1 (F := Ideal) x l (ix2 r d) = normed x l r d := by
  pointwise [k0_pay1, normed]
/-- One tile of the queries. -/
theorem pay2_at (x : Vec Ideal S512x2048 .bf16) (a : Vec Ideal S2048x512 .f32) (r : Fin 512) (q : Fin 512) :
    k0_pay2 (F := Ideal) x a (ix3 0 r q) = ∑ d : Fin 2048, x (ix2 r d) * a (ix2 d q) := by
  pointwise [k0_pay2]
/-- One tile of the keys. -/
theorem pay3_at (x : Vec Ideal S512x2048 .bf16) (a : Vec Ideal S2048x512 .f32) (r : Fin 512) (q : Fin 512) :
    k0_pay3 (F := Ideal) x a (ix3 0 r q) = ∑ d : Fin 2048, x (ix2 r d) * a (ix2 d q) := by
  pointwise [k0_pay3]
/-- One tile of the values. -/
theorem pay4_at (x : Vec Ideal S512x2048 .bf16) (a : Vec Ideal S2048x512 .f32) (r : Fin 512) (q : Fin 512) :
    k0_pay4 (F := Ideal) x a (ix3 0 r q) = ∑ d : Fin 2048, x (ix2 r d) * a (ix2 d q) := by
  pointwise [k0_pay4]
/-- One block of the result. -/
theorem pay6_at (y : Vec Ideal S512x512 .f32) (x : Vec Ideal S512x2048 .bf16) (a : Vec Ideal S2048x512 .f32) (r : Fin 512) (q : Fin 512) :
    k0_pay6 (F := Ideal) y x a (ix2 r q) = (y (ix2 r q) : EReal) + ∑ d : Fin 2048, x (ix2 r d) * a (ix2 d q) := by
  pointwise [k0_pay6]
/-- One head's attention. -/
theorem pay8_at (q k v : Vec Ideal S1x256x128 .bf16) (r : Fin 256) (d : Fin 128) :
    k0_pay8 (F := Ideal) q k v (ix2 r d)
      = attend (fun t e => q (ix3 0 t e)) (fun t e => k (ix3 0 t e)) (fun t e => v (ix3 0 t e)) r d := by
  pointwise [k0_pay8, k0_pay7]
  simp only [choose_eq]
  rfl

end Cert.C3Ideal.Math

end
-- ==== Proof.C3IdealMath.lean ====
/-
  The attention kernel's result, element by element over the extended reals, and its attention heads at an element.
-/
module

public import proofs.«01_k».proof.Proof.C3IdealStep
public import proofs.«01_k».proof.Proof.C3IdealPay

@[expose] public section

set_option maxRecDepth 16384

noncomputable section

namespace Cert.C3Ideal.Math

open Cert.C3Ideal Cert.C3Ideal.Gen Cert.C3Ideal.Run
open Idealize.ShloMosaic

variable (x : Vec Ideal S512x2048 .f32) (ln : Vec Ideal S1x2048 .f32) (Wq Wk Wv Wo : Vec Ideal S2048x2048 .f32)

/-- The normalised rows times a weight. -/
def proj (W : Vec Ideal S2048x2048 .f32) (r : Fin 512) (c : Fin 2048) : EReal := ∑ d : Fin 2048, normed x ln r d * W (ix2 d c)
/-- One batch's and head's attention. -/
def atth (b : Fin 2) (n : Fin 16) (t : Fin 256) (e : Fin 128) : EReal :=
  attend (fun t e => proj x ln Wq ⟨b.val * 256 + t.val, by omega⟩ ⟨n.val * 128 + e.val, by omega⟩)
    (fun t e => proj x ln Wk ⟨b.val * 256 + t.val, by omega⟩ ⟨n.val * 128 + e.val, by omega⟩)
    (fun t e => proj x ln Wv ⟨b.val * 256 + t.val, by omega⟩ ⟨n.val * 128 + e.val, by omega⟩) t e
/-- The result: the row plus the output projection of its attention. -/
def res (r : Fin 512) (c : Fin 2048) : EReal :=
  (x (ix2 r c) : EReal) + ∑ d : Fin 2048, atth x ln Wq Wk Wv ⟨r.val / 256, by omega⟩ ⟨d.val / 128, by omega⟩ ⟨r.val % 256, by omega⟩ ⟨d.val % 128, by omega⟩
    * Wo (ix2 d c)

/-! ## Windows of the scratch buffers at an element -/

/-- One head's columns of one batch's rows at an element. -/
theorem headOf_at (x : Vec Ideal S4x512x512 .bf16) (b h : ℕ) (hb : b < 2) (hh : h < 16) (t : Fin 256) (e : Fin 128) :
    headOf (F := Ideal) x b h hb hh (ix3 0 t e) = x (ix3 ⟨h / 4, by omega⟩ ⟨b * 256 + t.val, by omega⟩ ⟨h % 4 * 128 + e.val, by omega⟩) :=
  congrArg x (funext fun a => Fin.ext (by
    fin_cases a
    · show h / 4 + 1 * 0 = h / 4; omega
    · show b * 256 + 1 * t.val = b * 256 + t.val; omega
    · show h % 4 * 128 + 1 * e.val = h % 4 * 128 + e.val; omega))

/-- A store of leading slice `n`, read in that slice. -/
theorem put_same {α : Type} {A B C : ℕ} (x : (⟨3, ![A, B, C]⟩ : Shape).Idx → α) (n : ℕ) (w : (⟨3, ![1, B, C]⟩ : Shape).Idx → α)
    (t : Fin A) (r : Fin B) (q : Fin C) (h : t.val = n) :
    VecWindow.put (s := ⟨3, ![A, B, C]⟩) x ![n, 0, 0] ![1, B, C] w (ix3 t r q) = w (ix3 0 r q) := by
  unfold VecWindow.put
  have hall : ∀ a : Fin 3, (![n, 0, 0] : Fin 3 → ℕ) a ≤ ((ix3 t r q : (⟨3, ![A, B, C]⟩ : Shape).Idx) a).val
      ∧ ((ix3 t r q : (⟨3, ![A, B, C]⟩ : Shape).Idx) a).val < (![n, 0, 0] : Fin 3 → ℕ) a + (![1, B, C] : Fin 3 → ℕ) a := by
    intro a; fin_cases a
    · show n ≤ t.val ∧ t.val < n + 1; omega
    · show 0 ≤ r.val ∧ r.val < 0 + B; have := r.isLt; omega
    · show 0 ≤ q.val ∧ q.val < 0 + C; have := q.isLt; omega
  rw [dif_pos hall]
  refine congrArg w (funext fun a => Fin.ext ?_)
  fin_cases a
  · show t.val - n = 0; omega
  · show r.val - 0 = r.val; omega
  · show q.val - 0 = q.val; omega
/-- A store of leading slice `n`, read in another slice. -/
theorem put_other {α : Type} {A B C : ℕ} (x : (⟨3, ![A, B, C]⟩ : Shape).Idx → α) (n : ℕ) (w : (⟨3, ![1, B, C]⟩ : Shape).Idx → α)
    (t : Fin A) (r : Fin B) (q : Fin C) (h : t.val ≠ n) :
    VecWindow.put (s := ⟨3, ![A, B, C]⟩) x ![n, 0, 0] ![1, B, C] w (ix3 t r q) = x (ix3 t r q) := by
  unfold VecWindow.put
  rw [dif_neg]
  intro hall
  have h0 : n ≤ t.val ∧ t.val < n + 1 := hall 0
  omega

/-- A store of a block of rows and columns, read inside it. -/
theorem block_same {α : Type} {A B P Q : ℕ} (x : (⟨2, ![A, B]⟩ : Shape).Idx → α) (m n : ℕ) (w : (⟨2, ![P, Q]⟩ : Shape).Idx → α)
    (r : Fin A) (c : Fin B) (h1 : m ≤ r.val) (h2 : r.val < m + P) (h3 : n ≤ c.val) (h4 : c.val < n + Q) :
    VecWindow.put (s := ⟨2, ![A, B]⟩) x ![m, n] ![P, Q] w (ix2 r c) = w (ix2 ⟨r.val - m, by omega⟩ ⟨c.val - n, by omega⟩) := by
  unfold VecWindow.put
  have hall : ∀ a : Fin 2, (![m, n] : Fin 2 → ℕ) a ≤ ((ix2 r c : (⟨2, ![A, B]⟩ : Shape).Idx) a).val
      ∧ ((ix2 r c : (⟨2, ![A, B]⟩ : Shape).Idx) a).val < (![m, n] : Fin 2 → ℕ) a + (![P, Q] : Fin 2 → ℕ) a := by
    intro a; fin_cases a
    · exact ⟨h1, h2⟩
    · exact ⟨h3, h4⟩
  rw [dif_pos hall]
  refine congrArg w (funext fun a => Fin.ext ?_)
  fin_cases a <;> rfl
/-- A store of a block of rows and columns, read outside it. -/
theorem block_other {α : Type} {A B P Q : ℕ} (x : (⟨2, ![A, B]⟩ : Shape).Idx → α) (m n : ℕ) (w : (⟨2, ![P, Q]⟩ : Shape).Idx → α)
    (r : Fin A) (c : Fin B) (h : ¬ ((m ≤ r.val ∧ r.val < m + P) ∧ n ≤ c.val ∧ c.val < n + Q)) :
    VecWindow.put (s := ⟨2, ![A, B]⟩) x ![m, n] ![P, Q] w (ix2 r c) = x (ix2 r c) := by
  unfold VecWindow.put
  rw [dif_neg]
  intro hall
  exact h ⟨hall 0, hall 1⟩

/-! ## The heads -/

/-- The heads stored so far, at an element. -/
theorem heads_at (q k v : Vec Ideal S4x512x512 .bf16) (ao : Vec Ideal S512x2048 .bf16) (b : ℕ) (hb : b < 2) (A : Fin 16 → Fin 256 → Fin 128 → EReal)
    (hA : ∀ (n : Fin 16) (t : Fin 256) (e : Fin 128), head (F := Ideal) q k v b n.val hb n.isLt (ix2 t e) = A n t e) (r : Fin 512) (c : Fin 2048) :
    ∀ (n : ℕ) (hn : n ≤ 16), heads (F := Ideal) q k v ao b hb n hn (ix2 r c)
      = if r.val / 256 = b ∧ c.val / 128 < n then A ⟨c.val / 128, by omega⟩ ⟨r.val % 256, by omega⟩ ⟨c.val % 128, by omega⟩ else ao (ix2 r c)
  | 0, _ => (if_neg (by omega)).symm
  | n + 1, hn => by
    by_cases h : r.val / 256 = b ∧ c.val / 128 = n
    · rw [if_pos ⟨h.1, by omega⟩]
      refine (block_same (A := 512) (B := 2048) (P := 256) (Q := 128) _ (b * 256) (n * 128) _ r c (by omega) (by omega) (by omega) (by omega)).trans ?_
      have e1 : (⟨r.val - b * 256, by omega⟩ : Fin 256) = ⟨r.val % 256, by omega⟩ := Fin.ext (by show r.val - b * 256 = r.val % 256; omega)
      have e2 : (⟨c.val - n * 128, by omega⟩ : Fin 128) = ⟨c.val % 128, by omega⟩ := Fin.ext (by show c.val - n * 128 = c.val % 128; omega)
      have e3 : (⟨c.val / 128, by omega⟩ : Fin 16) = ⟨n, by omega⟩ := Fin.ext h.2
      rw [e1, e2, e3]
      exact hA ⟨n, by omega⟩ _ _
    · refine (block_other (A := 512) (B := 2048) (P := 256) (Q := 128) _ (b * 256) (n * 128) _ r c (fun g => h ⟨by omega, by omega⟩)).trans ?_
      rw [heads_at q k v ao b hb A hA r c n (by omega)]
      by_cases g : r.val / 256 = b ∧ c.val / 128 < n
      · rw [if_pos g, if_pos ⟨g.1, by omega⟩]
      · rw [if_neg g, if_neg (fun g' => by omega)]

variable {x ln Wq Wk Wv}

/-- One head's attention at an element, from what the query, key and value tiles hold. -/
theorem head_at {q k v : Vec Ideal S4x512x512 .bf16}
    (hq : ∀ (t : Fin 4) (r p : Fin 512), q (ix3 t r p) = proj x ln Wq r ⟨t.val * 512 + p.val, by omega⟩)
    (hk : ∀ (t : Fin 4) (r p : Fin 512), k (ix3 t r p) = proj x ln Wk r ⟨t.val * 512 + p.val, by omega⟩)
    (hv : ∀ (t : Fin 4) (r p : Fin 512), v (ix3 t r p) = proj x ln Wv r ⟨t.val * 512 + p.val, by omega⟩)
    (b : Fin 2) (n : Fin 16) (t : Fin 256) (e : Fin 128) :
    head (F := Ideal) q k v b.val n.val b.isLt n.isLt (ix2 t e) = atth x ln Wq Wk Wv b n t e := by
  have ec : ∀ (e : Fin 128), (⟨n.val / 4 * 512 + (n.val % 4 * 128 + e.val), by omega⟩ : Fin 2048) = ⟨n.val * 128 + e.val, by omega⟩ :=
    fun e => Fin.ext (by show n.val / 4 * 512 + (n.val % 4 * 128 + e.val) = n.val * 128 + e.val; omega)
  unfold head atth
  rw [pay8_at]
  simp only [headOf_at, hq, hk, hv, ec]

end Cert.C3Ideal.Math

end
-- ==== Proof.C3IdealInv.lean ====
/-
  The attention kernel's invariant: after each grid point the scratch buffers hold the normalised rows, the query, key
  and value tiles done and the attention rows of the batches done; and an output point's block is the result's.
-/
module

public import proofs.«01_k».proof.Proof.C3IdealMath

@[expose] public section

set_option maxRecDepth 16384

noncomputable section

namespace Cert.C3Ideal.Math

open Cert.C3Ideal Cert.C3Ideal.Gen Cert.C3Ideal.Run
open Idealize.ShloMosaic

variable (x : Vec Ideal S512x2048 .f32) (ln : Vec Ideal S1x2048 .f32) (Wq Wk Wv Wo : Vec Ideal S2048x2048 .f32)

/-- The attention's rows. -/
def att (r : Fin 512) (d : Fin 2048) : EReal :=
  atth x ln Wq Wk Wv ⟨r.val / 256, by omega⟩ ⟨d.val / 128, by omega⟩ ⟨r.val % 256, by omega⟩ ⟨d.val % 128, by omega⟩

/-- What the scratch buffers hold before point `n`. -/
structure Inv (n : ℕ) (x9 : Vec Ideal S512x2048 .bf16) (x10 x11 x12 : Vec Ideal S4x512x512 .bf16) (x13 : Vec Ideal S512x2048 .bf16) : Prop where
  rows : 1 ≤ n → ∀ (r : Fin 512) (d : Fin 2048), x9 (ix2 r d) = normed x ln r d
  queries : ∀ t : Fin 4, t.val < n → ∀ r q : Fin 512, x10 (ix3 t r q) = proj x ln Wq r ⟨t.val * 512 + q.val, by omega⟩
  keys : ∀ t : Fin 4, t.val < n → ∀ r q : Fin 512, x11 (ix3 t r q) = proj x ln Wk r ⟨t.val * 512 + q.val, by omega⟩
  values : ∀ t : Fin 4, t.val < n → ∀ r q : Fin 512, x12 (ix3 t r q) = proj x ln Wv r ⟨t.val * 512 + q.val, by omega⟩
  done : ∀ (r : Fin 512) (d : Fin 2048), 4 + r.val / 256 < n → x13 (ix2 r d) = att x ln Wq Wk Wv r d

/-- What the windows hold at point `n`. -/
structure Blocks (n : ℕ) (x1 : Vec Ideal S512x2048 .f32) (x2 : Vec Ideal S1x2048 .f32) (x3 x4 x5 x6 : Vec Ideal S2048x512 .f32)
    (x7 : Vec Ideal S512x512 .f32) : Prop where
  b1 : x1 = x
  b2 : x2 = ln
  b3 : ∀ h : n < 4, ∀ (d : Fin 2048) (q : Fin 512), x3 (ix2 d q) = Wq (ix2 d ⟨n * 512 + q.val, by omega⟩)
  b4 : ∀ h : n < 4, ∀ (d : Fin 2048) (q : Fin 512), x4 (ix2 d q) = Wk (ix2 d ⟨n * 512 + q.val, by omega⟩)
  b5 : ∀ h : n < 4, ∀ (d : Fin 2048) (q : Fin 512), x5 (ix2 d q) = Wv (ix2 d ⟨n * 512 + q.val, by omega⟩)
  b6 : 6 ≤ n → ∀ h : n < 10, ∀ (d : Fin 2048) (q : Fin 512), x6 (ix2 d q) = Wo (ix2 d ⟨(n - 6) * 512 + q.val, by omega⟩)
  b7 : 6 ≤ n → ∀ h : n < 10, ∀ (r q : Fin 512), x7 (ix2 r q) = x (ix2 r ⟨(n - 6) * 512 + q.val, by omega⟩)

variable {x ln Wq Wk Wv Wo}
variable {x1 : Vec Ideal S512x2048 .f32} {x2 : Vec Ideal S1x2048 .f32} {x3 x4 x5 x6 : Vec Ideal S2048x512 .f32} {x7 : Vec Ideal S512x512 .f32}
  {x9 : Vec Ideal S512x2048 .bf16} {x10 x11 x12 : Vec Ideal S4x512x512 .bf16} {x13 : Vec Ideal S512x2048 .bf16}

/-- The normalised rows after a point. -/
theorem rows_next {i : grid0.Coords} (hI : Inv x ln Wq Wk Wv (i 0).val x9 x10 x11 x12 x13)
    (hB : Blocks x ln Wq Wk Wv Wo (i 0).val x1 x2 x3 x4 x5 x6 x7) (r : Fin 512) (d : Fin 2048) :
    nx9 (F := Ideal) i x1 x2 x9 (ix2 r d) = normed x ln r d := by
  unfold nx9
  by_cases h : (i 0).val = 0
  · rw [if_pos h, pay1_at, hB.b1, hB.b2]
  · rw [if_neg h]; exact hI.rows (by omega) r d

/-- The query tiles after a point. -/
theorem queries_next {i : grid0.Coords} (hI : Inv x ln Wq Wk Wv (i 0).val x9 x10 x11 x12 x13)
    (hB : Blocks x ln Wq Wk Wv Wo (i 0).val x1 x2 x3 x4 x5 x6 x7) (t : Fin 4) (ht : t.val < (i 0).val + 1) (r q : Fin 512) :
    nx10 (F := Ideal) i x1 x2 x3 x9 x10 (ix3 t r q) = proj x ln Wq r ⟨t.val * 512 + q.val, by omega⟩ := by
  unfold nx10
  by_cases g : (i 0).val < 4
  · rw [if_pos g]
    by_cases e : t.val = (i 0).val
    · refine (put_same (A := 4) (B := 512) (C := 512) x10 _ _ t r q e).trans ?_
      rw [pay2_at]
      have ek : (⟨t.val * 512 + q.val, by omega⟩ : Fin 2048) = ⟨(i 0).val * 512 + q.val, by omega⟩ :=
        Fin.ext (by show t.val * 512 + q.val = (i 0).val * 512 + q.val; rw [e])
      rw [ek]
      exact Finset.sum_congr rfl fun d _ => by rw [rows_next hI hB, hB.b3 g d q]
    · exact (put_other (A := 4) (B := 512) (C := 512) x10 _ _ t r q e).trans (hI.queries t (by omega) r q)
  · rw [if_neg g]; exact hI.queries t (by have := t.isLt; omega) r q

/-- The key tiles after a point. -/
theorem keys_next {i : grid0.Coords} (hI : Inv x ln Wq Wk Wv (i 0).val x9 x10 x11 x12 x13)
    (hB : Blocks x ln Wq Wk Wv Wo (i 0).val x1 x2 x3 x4 x5 x6 x7) (t : Fin 4) (ht : t.val < (i 0).val + 1) (r q : Fin 512) :
    nx11 (F := Ideal) i x1 x2 x4 x9 x11 (ix3 t r q) = proj x ln Wk r ⟨t.val * 512 + q.val, by omega⟩ := by
  unfold nx11
  by_cases g : (i 0).val < 4
  · rw [if_pos g]
    by_cases e : t.val = (i 0).val
    · refine (put_same (A := 4) (B := 512) (C := 512) x11 _ _ t r q e).trans ?_
      rw [pay3_at]
      have ek : (⟨t.val * 512 + q.val, by omega⟩ : Fin 2048) = ⟨(i 0).val * 512 + q.val, by omega⟩ :=
        Fin.ext (by show t.val * 512 + q.val = (i 0).val * 512 + q.val; rw [e])
      rw [ek]
      exact Finset.sum_congr rfl fun d _ => by rw [rows_next hI hB, hB.b4 g d q]
    · exact (put_other (A := 4) (B := 512) (C := 512) x11 _ _ t r q e).trans (hI.keys t (by omega) r q)
  · rw [if_neg g]; exact hI.keys t (by have := t.isLt; omega) r q

/-- The value tiles after a point. -/
theorem values_next {i : grid0.Coords} (hI : Inv x ln Wq Wk Wv (i 0).val x9 x10 x11 x12 x13)
    (hB : Blocks x ln Wq Wk Wv Wo (i 0).val x1 x2 x3 x4 x5 x6 x7) (t : Fin 4) (ht : t.val < (i 0).val + 1) (r q : Fin 512) :
    nx12 (F := Ideal) i x1 x2 x5 x9 x12 (ix3 t r q) = proj x ln Wv r ⟨t.val * 512 + q.val, by omega⟩ := by
  unfold nx12
  by_cases g : (i 0).val < 4
  · rw [if_pos g]
    by_cases e : t.val = (i 0).val
    · refine (put_same (A := 4) (B := 512) (C := 512) x12 _ _ t r q e).trans ?_
      rw [pay4_at]
      have ek : (⟨t.val * 512 + q.val, by omega⟩ : Fin 2048) = ⟨(i 0).val * 512 + q.val, by omega⟩ :=
        Fin.ext (by show t.val * 512 + q.val = (i 0).val * 512 + q.val; rw [e])
      rw [ek]
      exact Finset.sum_congr rfl fun d _ => by rw [rows_next hI hB, hB.b5 g d q]
    · exact (put_other (A := 4) (B := 512) (C := 512) x12 _ _ t r q e).trans (hI.values t (by omega) r q)
  · rw [if_neg g]; exact hI.values t (by have := t.isLt; omega) r q

/-- The attention rows after a point. -/
theorem done_next {i : grid0.Coords} (hI : Inv x ln Wq Wk Wv (i 0).val x9 x10 x11 x12 x13) (r : Fin 512) (d : Fin 2048)
    (hr : 4 + r.val / 256 < (i 0).val + 1) : nx13 (F := Ideal) i x10 x11 x12 x13 (ix2 r d) = att x ln Wq Wk Wv r d := by
  unfold nx13
  by_cases g : 4 ≤ (i 0).val ∧ (i 0).val < 6
  · rw [dif_pos g, heads_at x10 x11 x12 x13 ((i 0).val - 4) (by omega) (atth x ln Wq Wk Wv ⟨(i 0).val - 4, by omega⟩)
      (fun n t e => head_at (fun t => hI.queries t (by have := t.isLt; omega)) (fun t => hI.keys t (by have := t.isLt; omega))
        (fun t => hI.values t (by have := t.isLt; omega)) ⟨(i 0).val - 4, by omega⟩ n t e) r d 16 (by omega)]
    by_cases e : r.val / 256 = (i 0).val - 4
    · rw [if_pos ⟨e, by omega⟩]
      have eb : (⟨(i 0).val - 4, by omega⟩ : Fin 2) = ⟨r.val / 256, by omega⟩ := Fin.ext e.symm
      rw [eb]
      rfl
    · rw [if_neg (fun h => e h.1)]; exact hI.done r d (by omega)
  · rw [dif_neg g]; exact hI.done r d (by have := r.isLt; omega)

/-- The invariant's step. -/
theorem inv_next {i : grid0.Coords} (hI : Inv x ln Wq Wk Wv (i 0).val x9 x10 x11 x12 x13)
    (hB : Blocks x ln Wq Wk Wv Wo (i 0).val x1 x2 x3 x4 x5 x6 x7) :
    Inv x ln Wq Wk Wv ((i 0).val + 1) (nx9 (F := Ideal) i x1 x2 x9) (nx10 (F := Ideal) i x1 x2 x3 x9 x10) (nx11 (F := Ideal) i x1 x2 x4 x9 x11)
      (nx12 (F := Ideal) i x1 x2 x5 x9 x12) (nx13 (F := Ideal) i x10 x11 x12 x13) :=
  ⟨fun _ => rows_next hI hB, queries_next hI hB, keys_next hI hB, values_next hI hB, done_next hI⟩

/-- Before the first point nothing is asked of the scratch buffers. -/
theorem inv_zero : Inv x ln Wq Wk Wv 0 x9 x10 x11 x12 x13 :=
  ⟨fun h => absurd h (by omega), fun t h => absurd h (by omega), fun t h => absurd h (by omega), fun t h => absurd h (by omega),
    fun r d h => absurd h (by omega)⟩

/-- An output point's block is the result's. -/
theorem out_next {i : grid0.Coords} (x8 : Vec Ideal S512x512 .f32) (hI : Inv x ln Wq Wk Wv (i 0).val x9 x10 x11 x12 x13)
    (hB : Blocks x ln Wq Wk Wv Wo (i 0).val x1 x2 x3 x4 x5 x6 x7) (g : 6 ≤ (i 0).val) (r q : Fin 512) :
    nx8 (F := Ideal) i x6 x7 x13 x8 (ix2 r q) = res x ln Wq Wk Wv Wo r ⟨((i 0).val - 6) * 512 + q.val, by have := hi i; omega⟩ := by
  have hN := hi i
  unfold nx8
  rw [if_pos g, pay6_at, hB.b7 g hN r q]
  unfold res
  congr 1
  refine Finset.sum_congr rfl fun d _ => ?_
  rw [hI.done r d (by have := r.isLt; omega), hB.b6 g hN d q]
  rfl

end Cert.C3Ideal.Math

end
-- ==== Proof.C3IdealWin.lean ====
/-
  The attention kernel's windows: their index maps in closed form, what a block of each array holds at an element, and
  when the output's blocks are written back.
-/
module

public import proofs.«01_k».proof.Proof.C3IdealInv
public import Idealize.ShloMosaic.Lib.Pipeline.Value

@[expose] public section

set_option maxRecDepth 16384

noncomputable section

namespace Cert.C3Ideal.Math

open Cert.C3Ideal Cert.C3Ideal.Gen Cert.C3Ideal.Run
open Idealize.ShloMosaic Idealize.ShloMosaic.TcCoe
open Idealize.ShloMosaic.Pipeline (Dat Cfg Window)

/-! ## The index maps -/

theorem map0 : ∀ i : grid0.Coords, cc0_transform_0 i = ![0, 0] := by decide +kernel
theorem map1 : ∀ i : grid0.Coords, cc0_transform_1 i = ![0, 0] := by decide +kernel
theorem map2 : ∀ i : grid0.Coords, (i 0).val < 4 → cc0_transform_2 i = ![0, (i 0).val] := by decide +kernel
theorem map3 : ∀ i : grid0.Coords, (i 0).val < 4 → cc0_transform_3 i = ![0, (i 0).val] := by decide +kernel
theorem map4 : ∀ i : grid0.Coords, (i 0).val < 4 → cc0_transform_4 i = ![0, (i 0).val] := by decide +kernel
theorem map5 : ∀ i : grid0.Coords, 6 ≤ (i 0).val → cc0_transform_5 i = ![0, (i 0).val - 6] := by decide +kernel
theorem map6 : ∀ i : grid0.Coords, 6 ≤ (i 0).val → cc0_transform_6 i = ![0, (i 0).val - 6] := by decide +kernel
theorem map7 : ∀ i : grid0.Coords, 6 ≤ (i 0).val → cc0_transform_7 i = ![0, (i 0).val - 6] := by decide +kernel
theorem map7_early : ∀ i : grid0.Coords, (i 0).val ≤ 6 → cc0_transform_7 i = ![0, 0] := by decide +kernel

/-- A point's one coordinate is the point. -/
theorem pt (t : Fin cfg0.N) : (grid0.coords t 0).val = t.val := by
  have h : t.val < 10 := lt_of_lt_of_eq t.isLt N_0
  have e := grid0.coords_val t 0 (S := 1) (B := 10) (by decide) (by decide)
  rw [e]; omega

/-! ## Blocks at an element -/

variable (m : (ℓ : Loc nD τ sig) → Buf (Elt Ideal) ℓ) (c : Dev nD) (t : Fin cfg0.N)

theorem blk0 : iblk m c 0 t = m ((c : Thread nD τ).loc main_arg0) := by
  funext j
  refine congrArg (m ((c : Thread nD τ).loc main_arg0)) (funext fun a => Fin.ext ?_)
  show cc0_transform_0 (grid0.coords t) a * S512x2048.size a + 1 * (j a).val = (j a).val
  rw [map0]
  fin_cases a <;> simp

theorem blk1 : iblk m c 1 t = m ((c : Thread nD τ).loc main_arg1) := by
  funext j
  refine congrArg (m ((c : Thread nD τ).loc main_arg1)) (funext fun a => Fin.ext ?_)
  show cc0_transform_1 (grid0.coords t) a * S1x2048.size a + 1 * (j a).val = (j a).val
  rw [map1]
  fin_cases a <;> simp

theorem blk2 (h : (grid0.coords t 0).val < 4) (d : Fin 2048) (q : Fin 512) :
    iblk m c 2 t (ix2 d q) = m ((c : Thread nD τ).loc main_arg2) (ix2 d ⟨(grid0.coords t 0).val * 512 + q.val, by omega⟩) := by
  refine congrArg (m ((c : Thread nD τ).loc main_arg2)) (funext fun a => Fin.ext ?_)
  show cc0_transform_2 (grid0.coords t) a * S2048x512.size a + 1 * ((ix2 d q : S2048x512.Idx) a).val = _
  rw [map2 _ h]
  fin_cases a
  · show 0 * 2048 + 1 * d.val = d.val; omega
  · show (grid0.coords t 0).val * 512 + 1 * q.val = (grid0.coords t 0).val * 512 + q.val; omega

theorem blk3 (h : (grid0.coords t 0).val < 4) (d : Fin 2048) (q : Fin 512) :
    iblk m c 3 t (ix2 d q) = m ((c : Thread nD τ).loc main_arg3) (ix2 d ⟨(grid0.coords t 0).val * 512 + q.val, by omega⟩) := by
  refine congrArg (m ((c : Thread nD τ).loc main_arg3)) (funext fun a => Fin.ext ?_)
  show cc0_transform_3 (grid0.coords t) a * S2048x512.size a + 1 * ((ix2 d q : S2048x512.Idx) a).val = _
  rw [map3 _ h]
  fin_cases a
  · show 0 * 2048 + 1 * d.val = d.val; omega
  · show (grid0.coords t 0).val * 512 + 1 * q.val = (grid0.coords t 0).val * 512 + q.val; omega

theorem blk4 (h : (grid0.coords t 0).val < 4) (d : Fin 2048) (q : Fin 512) :
    iblk m c 4 t (ix2 d q) = m ((c : Thread nD τ).loc main_arg4) (ix2 d ⟨(grid0.coords t 0).val * 512 + q.val, by omega⟩) := by
  refine congrArg (m ((c : Thread nD τ).loc main_arg4)) (funext fun a => Fin.ext ?_)
  show cc0_transform_4 (grid0.coords t) a * S2048x512.size a + 1 * ((ix2 d q : S2048x512.Idx) a).val = _
  rw [map4 _ h]
  fin_cases a
  · show 0 * 2048 + 1 * d.val = d.val; omega
  · show (grid0.coords t 0).val * 512 + 1 * q.val = (grid0.coords t 0).val * 512 + q.val; omega

theorem blk5 (h : 6 ≤ (grid0.coords t 0).val) (h' : (grid0.coords t 0).val < 10) (d : Fin 2048) (q : Fin 512) :
    iblk m c 5 t (ix2 d q) = m ((c : Thread nD τ).loc main_arg5) (ix2 d ⟨((grid0.coords t 0).val - 6) * 512 + q.val, by omega⟩) := by
  refine congrArg (m ((c : Thread nD τ).loc main_arg5)) (funext fun a => Fin.ext ?_)
  show cc0_transform_5 (grid0.coords t) a * S2048x512.size a + 1 * ((ix2 d q : S2048x512.Idx) a).val = _
  rw [map5 _ h]
  fin_cases a
  · show 0 * 2048 + 1 * d.val = d.val; omega
  · show ((grid0.coords t 0).val - 6) * 512 + 1 * q.val = ((grid0.coords t 0).val - 6) * 512 + q.val; omega

theorem blk6 (h : 6 ≤ (grid0.coords t 0).val) (h' : (grid0.coords t 0).val < 10) (d : Fin 512) (q : Fin 512) :
    iblk m c 6 t (ix2 d q) = m ((c : Thread nD τ).loc main_arg0) (ix2 d ⟨((grid0.coords t 0).val - 6) * 512 + q.val, by omega⟩) := by
  refine congrArg (m ((c : Thread nD τ).loc main_arg0)) (funext fun a => Fin.ext ?_)
  show cc0_transform_6 (grid0.coords t) a * S512x512.size a + 1 * ((ix2 d q : S512x512.Idx) a).val = _
  rw [map6 _ h]
  fin_cases a
  · show 0 * 512 + 1 * d.val = d.val; omega
  · show ((grid0.coords t 0).val - 6) * 512 + 1 * q.val = ((grid0.coords t 0).val - 6) * 512 + q.val; omega

/-- The output array's block at an element. -/
theorem blk7 (G : Vec Ideal S512x2048 .f32) (h : 6 ≤ (grid0.coords t 0).val) (h' : (grid0.coords t 0).val < 10) (r q : Fin 512) :
    ((cfg0.win 7).blk t).view.read (Elt Ideal) G (ix2 r q) = G (ix2 r ⟨((grid0.coords t 0).val - 6) * 512 + q.val, by omega⟩) := by
  refine congrArg G (funext fun a => Fin.ext ?_)
  show cc0_transform_7 (grid0.coords t) a * S512x512.size a + 1 * ((ix2 r q : S512x512.Idx) a).val = _
  rw [map7 _ h]
  fin_cases a
  · show 0 * 512 + 1 * r.val = r.val; omega
  · show ((grid0.coords t 0).val - 6) * 512 + 1 * q.val = ((grid0.coords t 0).val - 6) * 512 + q.val; omega

/-! ## The write-backs -/

theorem flush_early (h : t.val < 6) : (cfg0.win 7).flush t = false := by
  rw [Bool.eq_false_iff]
  intro hf
  have hf' : win0_7.flush t = true := hf
  unfold Pipeline.Window.flush at hf'
  rw [Bool.and_eq_true, Bool.or_eq_true, decide_eq_true_eq, decide_eq_true_eq] at hf'
  have hN : grid0.N = 10 := N_0
  rcases hf'.2 with h0 | ⟨h1, h2⟩
  · omega
  · apply h2
    show cc0_transform_7 (grid0.coords ⟨t.val + 1, h1⟩) = cc0_transform_7 (grid0.coords t)
    rw [map7_early _ (by rw [pt]; show t.val + 1 ≤ 6; omega), map7_early _ (by rw [pt]; omega)]

theorem flush_late (h : 6 ≤ t.val) : (cfg0.win 7).flush t = true := by
  show win0_7.flush t = true
  unfold Pipeline.Window.flush
  rw [Bool.and_eq_true, Bool.or_eq_true, decide_eq_true_eq, decide_eq_true_eq]
  have hN : grid0.N = 10 := N_0
  refine ⟨rfl, ?_⟩
  by_cases h0 : t.val + 1 = grid0.N
  · exact .inl h0
  · have h1 : t.val + 1 < grid0.N := by have : t.val < grid0.N := t.isLt; omega
    refine .inr ⟨h1, fun e => ?_⟩
    have e' : cc0_transform_7 (grid0.coords ⟨t.val + 1, h1⟩) = cc0_transform_7 (grid0.coords t) := e
    rw [map7 _ (by rw [pt]; show 6 ≤ t.val + 1; omega), map7 _ (by rw [pt]; omega), pt, pt] at e'
    have e1 : t.val + 1 - 6 = t.val - 6 := congrFun e' 1
    omega

/-- Every element of the result lies in a block written back. -/
theorem covered (j : S512x2048.Idx) : ∃ t : Fin cfg0.N, (cfg0.win 7).flush t = true ∧ j ∈ ((cfg0.win 7).blk t).view.set := by
  obtain ⟨r, d, rfl⟩ : ∃ (r : Fin 512) (d : Fin 2048), j = ix2 r d := ⟨j 0, j 1, eq_ix2 j⟩
  have hN : grid0.N = 10 := N_0
  refine ⟨⟨6 + d.val / 512, by show _ < grid0.N; omega⟩, flush_late _ (by show 6 ≤ 6 + d.val / 512; omega), ?_⟩
  generalize ht : (⟨6 + d.val / 512, by show _ < grid0.N; omega⟩ : Fin cfg0.N) = t
  have hv : t.val = 6 + d.val / 512 := by rw [← ht]
  have hs : 6 ≤ (grid0.coords t 0).val := by rw [pt]; omega
  show ix2 r d ∈ (win0_7.blk t).view.set
  rw [View.set_slice_whole, Rect.mem_set_unit]
  intro a
  show cc0_transform_7 (grid0.coords t) a * S512x512.size a ≤ _ ∧ _ < cc0_transform_7 (grid0.coords t) a * S512x512.size a + S512x512.size a
  rw [map7 _ hs, pt]
  fin_cases a
  · show 0 * 512 ≤ r.val ∧ r.val < 0 * 512 + 512; omega
  · show (t.val - 6) * 512 ≤ d.val ∧ d.val < (t.val - 6) * 512 + 512; omega

end Cert.C3Ideal.Math

end
-- ==== Proof.C3IdealValue.lean ====
/-
  The attention kernel's run over the extended reals: every execution ends, the result is the mathematics of the arguments,
  the arguments and every semaphore counter are as launched.
-/
module

public import proofs.«01_k».proof.Proof.C3IdealWin
public import Idealize.ShloMosaic.Lib.Claim

@[expose] public section

set_option maxRecDepth 16384

noncomputable section

namespace Cert.C3Ideal.Math

open Cert.C3Ideal Cert.C3Ideal.Gen Cert.C3Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Argument arrays as launched. -/
abbrev arg (c : Dev nD) (b : Ref sig .tc) : Buf (Elt Ideal) ((c : Thread nD τ).loc b) := m ((c : Thread nD τ).loc b)

/-- The invariant at core `c`'s arguments. -/
def InvAt (c : Dev nD) (n : ℕ) (f0 : Vec Ideal S512x2048 .bf16) (f1 f2 f3 : Vec Ideal S4x512x512 .bf16) (f4 : Vec Ideal S512x2048 .bf16) : Prop :=
  Inv (arg m c main_arg0) (arg m c main_arg1) (arg m c main_arg2) (arg m c main_arg3) (arg m c main_arg4) n f0 f1 f2 f3 f4
/-- The result array: the mathematics of core `c`'s arguments. -/
def result (c : Dev nD) : Vec Ideal S512x2048 .f32 := fun j =>
  res (arg m c main_arg0) (arg m c main_arg1) (arg m c main_arg2) (arg m c main_arg3) (arg m c main_arg4) (arg m c main_arg5) (j 0) (j 1)

/-- The scratch buffers before point `n`: at contents that satisfy the invariant; and the generator register. -/
def Φat (c : Dev nD) (n : ℕ) : sProp 𝕄 :=
  iprop(∃ f0, ∃ f1, ∃ f2, ∃ f3, ∃ f4, ⌜InvAt m c n f0 f1 f2 f3 f4⌝ ∗ owns (c : Thread nD τ) (Memref.whole cc0_scratch0) fullShare f0
    ∗ owns (c : Thread nD τ) (Memref.whole cc0_scratch1) fullShare f1 ∗ owns (c : Thread nD τ) (Memref.whole cc0_scratch2) fullShare f2
    ∗ owns (c : Thread nD τ) (Memref.whole cc0_scratch3) fullShare f3 ∗ owns (c : Thread nD τ) (Memref.whole cc0_scratch4) fullShare f4
    ∗ ∃ r, prngReg c r)

/-- What the buffers and arrays hold: the inputs their blocks, the output the result's, the scratch by the invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => ((cfg0.win 7).blk t).view.read (Elt Ideal) (result m c)
  Φ t := Φat m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

theorem after_7 (c : Dev nD) (t : Fin cfg0.N) : (dats m 0 c).after 7 t = ((cfg0.win 7).blk t).view.read (Elt Ideal) (result m c) := by dsimp only [dats]

/-- The windows' contents at a point, as the mathematics has them. -/
theorem blocks_at (c : Dev nD) (t : Fin cfg0.N) :
    Blocks (arg m c main_arg0) (arg m c main_arg1) (arg m c main_arg2) (arg m c main_arg3) (arg m c main_arg4) (arg m c main_arg5)
      (grid0.coords t 0).val (iblk m c 0 t) (iblk m c 1 t) (iblk m c 2 t) (iblk m c 3 t) (iblk m c 4 t) (iblk m c 5 t) (iblk m c 6 t) :=
  ⟨blk0 m c t, blk1 m c t, fun h d q => blk2 m c t h d q, fun h d q => blk3 m c t h d q, fun h d q => blk4 m c t h d q,
    fun h h' d q => blk5 m c t h h' d q, fun h h' r q => blk6 m c t h h' r q⟩

/-- What the body is called with at point `t`, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- and what it returns, the output's buffer as `P` says. -/
def bodyPost (c : Dev nD) (t : Fin cfg0.N) (P : sProp 𝕄) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ P)

/-- A whole buffer at some contents. -/
theorem owns_exists (c : Dev nD) (b : Ref sig .tc) :
    (iprop(∃ f : Buf (Elt Ideal) ((c : Thread nD τ).loc b), ((c : Thread nD τ).loc b) ↦{fullShare} f) : sProp 𝕄)
      = iprop(∃ f, owns (c : Thread nD τ) (Memref.whole b) fullShare f) :=
  congrArg BIBase.sExists (Set.ext fun P => ⟨fun ⟨f, h⟩ => ⟨f, (owns_whole (c : Thread nD τ) b fullShare f).trans h⟩, fun ⟨f, h⟩ => ⟨f, (owns_whole (c : Thread nD τ) b fullShare f).symm.trans h⟩⟩)

/-- The scratch buffers at some contents, and the generator register. -/
theorem scratch_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f)
      ∗ (∃ f, owns (c : Thread nD τ) (Memref.whole cc0_scratch4) fullShare f))
      ∗ ∃ r, prngReg c r) := by
  unfold Pipeline.ΦA; rw [scopedRest0_eq]; rw [owns_exists, owns_exists, owns_exists, owns_exists, owns_exists]

set_option maxHeartbeats 1600000 in
/-- The body at a point before the output points: the output's buffer is left alone. -/
theorem sound_early (c : Dev nD) (t : Fin cfg0.N) (ht : t.val < 6) :
    bodyPre m c t ⊢ wp frame (wpE (defs₀ (F := Ideal)) Variants.none c none) Set.univ (bodyAt0 t) (fun _ => bodyPost m c t iprop(∃ d, owns (c : Thread nD τ) (st0_7 t) fullShare ((dats m 0 c).before 7 t d))) := by
  unfold bodyPre bodyPost bodyAt0
  simp only [before_0, after_0, before_1, after_1, before_2, after_2, before_3, after_3, before_4, after_4, before_5, after_5, before_6, after_6]
  rw [show (dats m 0 c).Φ t.succ = Φat m c (t.val + 1) from rfl, show (dats m 0 c).Φ t.castSucc = Φat m c t.val from rfl,
    show (dats m 0 c).owesAt () t.succ = (dats m 0 c).owesAt () t.castSucc from rfl]
  unfold Φat
  iintro ⟨⟨%f0, %f1, %f2, %f3, %f4, %hI, S0, S1, S2, S3, S4, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hI' : InvAt m c (grid0.coords t 0).val f0 f1 f2 f3 f4 := by rw [pt]; exact hI
  have hn := inv_next hI' (blocks_at m c t)
  rw [pt] at hn
  iapply (run_any (F := Ideal) c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) f0 f1 f2 f3 f4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, S1, S2, S3, S4⟩
  isplitl [S0 S1 S2 S3 S4 Hp]
  · iexists _; iexists _; iexists _; iexists _; iexists _
    isplitr [S0 S1 S2 S3 S4 Hp]
    · ipureintro; exact hn
    isplitl [S0]; · iexact S0
    isplitl [S1]; · iexact S1
    isplitl [S2]; · iexact S2
    isplitl [S3]; · iexact S3
    isplitl [S4]; · iexact S4
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7
  rw [show ∀ x6 x7 x13 x8, nx8 (F := Ideal) (grid0.coords t) x6 x7 x13 x8 = x8 from fun _ _ _ _ => if_neg (by rw [pt]; omega)]
  iexact H7

set_option maxHeartbeats 1600000 in
/-- The body at a output point: the output's buffer holds the result's block. -/
theorem sound_late (c : Dev nD) (t : Fin cfg0.N) (ht : 6 ≤ t.val) :
    bodyPre m c t ⊢ wp frame (wpE (defs₀ (F := Ideal)) Variants.none c none) Set.univ (bodyAt0 t) (fun _ => bodyPost m c t iprop(owns (c : Thread nD τ) (st0_7 t) fullShare ((dats m 0 c).after 7 t))) := by
  unfold bodyPre bodyPost bodyAt0
  simp only [before_0, after_0, before_1, after_1, before_2, after_2, before_3, after_3, before_4, after_4, before_5, after_5, before_6, after_6]
  rw [show (dats m 0 c).Φ t.succ = Φat m c (t.val + 1) from rfl, show (dats m 0 c).Φ t.castSucc = Φat m c t.val from rfl,
    show (dats m 0 c).owesAt () t.succ = (dats m 0 c).owesAt () t.castSucc from rfl]
  unfold Φat
  iintro ⟨⟨%f0, %f1, %f2, %f3, %f4, %hI, S0, S1, S2, S3, S4, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hI' : InvAt m c (grid0.coords t 0).val f0 f1 f2 f3 f4 := by rw [pt]; exact hI
  have hn := inv_next hI' (blocks_at m c t)
  rw [pt] at hn
  have ho : nx8 (F := Ideal) (grid0.coords t) (iblk m c 5 t) (iblk m c 6 t) f4 ((dats m 0 c).before 7 t d7) = (dats m 0 c).after 7 t := by
    rw [after_7]
    funext j
    obtain ⟨u, d, rfl⟩ : ∃ (u d : Fin 512), j = ix2 u d := ⟨j 0, j 1, eq_ix2 j⟩
    refine (out_next _ hI' (blocks_at m c t) (by rw [pt]; exact ht) u d).trans ?_
    exact (blk7 t (result m c) (by rw [pt]; exact ht) (hi _) u d).symm
  iapply (run_any (F := Ideal) c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) f0 f1 f2 f3 f4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, S1, S2, S3, S4⟩
  isplitl [S0 S1 S2 S3 S4 Hp]
  · iexists _; iexists _; iexists _; iexists _; iexists _
    isplitr [S0 S1 S2 S3 S4 Hp]
    · ipureintro; exact hn
    isplitl [S0]; · iexact S0
    isplitl [S1]; · iexact S1
    isplitl [S2]; · iexact S2
    isplitl [S3]; · iexact S3
    isplitl [S4]; · iexact S4
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [show nx8 (F := Ideal) (grid0.coords t) (iblk m c 5 t) (iblk m c 6 t) f4 ((dats m 0 c).before 7 t d7) = (dats m 0 c).after 7 t from ho]
  iexact H7

/-- The body table's row at point `t`. -/
theorem row (t : Fin cfg0.N) : defs₀ (F := Ideal) .tc cfg0.body (cfg0.bodyArgs t (cfg0.slots t)) = bodyAt0 t := by
  unfold defs₀; rw [Defs.onTc_tc]

/-- The output is idle before the output points, -/
theorem idle_early (t : Fin cfg0.N) (h : t.val < 6) : cfg0.idle 7 (cfg0.grid.coords t) = true := by
  show (!(k0_cond4 (grid0.coords t) == 1#1)) = true
  rw [Bool.not_eq_true', beq_eq_false_iff_ne]
  intro h'
  have := (cond4_iff _).mp h'
  rw [pt] at this; omega
/-- and stored at them. -/
theorem idle_late (t : Fin cfg0.N) (h : 6 ≤ t.val) : cfg0.idle 7 (cfg0.grid.coords t) = false := by
  show (!(k0_cond4 (grid0.coords t) == 1#1)) = false
  rw [Bool.not_eq_false', beq_iff_eq]
  exact (cond4_iff _).mpr (by rw [pt]; exact h)

/-- The body's obligation at every point. -/
theorem body_obligation (c : Dev nD) : Pipeline.BodyObligationLoose (dats m 0 c) (defs₀ (F := Ideal)) Variants.none () Set.univ := fun t => by
  rw [bigSep_W0, bigSep_W0, row]
  by_cases h : t.val < 6
  · rw [idle_early t h, flush_early t h]
    exact triple_restated (sound_early m c t h) rfl .rfl fun _ => .rfl
  · rw [idle_late t (by omega)]
    exact triple_restated (sound_late m c t (by omega)) rfl .rfl fun _ => .rfl

/-- The launch gives the invariant before the first point, -/
theorem enter (c : Dev nD) : Pipeline.ΦA spec0 c ⊢ (dats m 0 c).Φ 0 := by
  rw [show (dats m 0 c).Φ 0 = Φat m c 0 from rfl, scratch_eq]
  unfold Φat
  iintro ⟨⟨⟨%f0, S0⟩, ⟨%f1, S1⟩, ⟨%f2, S2⟩, ⟨%f3, S3⟩, ⟨%f4, S4⟩⟩, Hp⟩
  iexists f0; iexists f1; iexists f2; iexists f3; iexists f4
  isplitr [S0 S1 S2 S3 S4 Hp]
  · ipureintro; exact inv_zero
  isplitl [S0]; · iexact S0
  isplitl [S1]; · iexact S1
  isplitl [S2]; · iexact S2
  isplitl [S3]; · iexact S3
  isplitl [S4]; · iexact S4
  iexact Hp
/-- and takes back the scratch after the last. -/
theorem leave (c : Dev nD) : (dats m 0 c).Φ (Fin.last cfg0.N) ⊢ Pipeline.ΦA spec0 c := by
  rw [show (dats m 0 c).Φ (Fin.last cfg0.N) = Φat m c cfg0.N from rfl, scratch_eq]
  unfold Φat
  iintro ⟨%f0, %f1, %f2, %f3, %f4, %hI, S0, S1, S2, S3, S4, Hp⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  · iexact Hp

set_option backward.isDefEq.respectTransparency.types false in
/-- The run: every array as the write-backs leave it, every counter at zero. -/
theorem run_value : θ_run defs (onTc (τ := τ) (main (F := Ideal))) (s₀ m ρ)
    (fun r => Pipeline.FramePost cfgs (dats m) 0 (V m) r ∧ r.2.sem = fun _ => 0) :=
  Pipeline.θ_run_frame_track_shared (Q' := fun r => Pipeline.FramePost cfgs (dats m) 0 (V m) r ∧ r.2.sem = fun _ => 0) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := enter m) (hout := leave m)

/-- The output array ends as the result. -/
theorem final (c : Dev nD) : (dats m 0 c).arrAt 7 cfg0.N = result m c :=
  (dats m 0 c).arrAt_eq_of_cover 7 (result m c) (fun t _ => by
    show (cfg0.win 7).cut (grid0.coords t) ((dats m 0 c).after 7 t) = _
    rw [after_7]) covered

/-- The whole run: the result, the arguments as launched, every counter at zero. -/
theorem computes : θ_run defs (onTc (τ := τ) (main (F := Ideal))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).1 7).trans (final m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c)))⟩, h.2⟩) (run_value m ρ)

end Cert.C3Ideal.Math

end
-- ==== Proof.HeadWidth.lean ====
/-
  The head's width as the reference's constant denotes it.
-/
module

public import Idealize.ShloMosaic.PureOps.Ideal

@[expose] public section

set_option maxRecDepth 16384

noncomputable section

namespace Cert.C3Ideal.Math

open Idealize.ShloMosaic

/-- The constant whose root the reference takes is the number 128. -/
theorem width_eq : Ideal.ofBits .f32 0x43000000#32 = ((128 : ℝ) : EReal) := by
  unfold Ideal.ofBits Ideal.ieee
  simp [-EReal.coe_mul]
  norm_num

end Cert.C3Ideal.Math

end
-- ==== Proof.R3Value.lean ====
/-
  The attention reference's result, operation by operation, read at an element: it is the kernel's mathematics.
-/
module

public import proofs.«01_k».proof.Proof.C3IdealMath
public import proofs.«01_k».proof.Proof.HeadWidth
public import proofs.«01_k».proof.Proof.Gen.R3Ideal
public import proofs.«01_k».proof.Proof.Gen.R3Ideal.Run

@[expose] public section

set_option maxRecDepth 16384

noncomputable section

namespace Cert.R3Ideal.Math

open Cert.R3Ideal Cert.R3Ideal.Gen
open Idealize.ShloMosaic Idealize.ShloMosaic.StableHlo
open Cert.C3Ideal.Math (normed scale score top expo attend proj atth res later_eq width_eq)

variable (x : FVec Ideal S512x2048 .f32) (ln : FVec Ideal S1x2048 .f32) (Wq Wk Wv Wo : FVec Ideal S2048x2048 .f32)

/-- The rows by batch. -/
def batches : FVec Ideal S2x256x2048 .f32 := (shapeCast _ x shapeCasts_S512x2048_S2x256x2048)
/-- The normalised rows by batch. -/
def rows (x3 : FVec Ideal S2x256x2048 .f32) : FVec Ideal S2x256x2048 .f32 := (mulf (mulf x3 (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf x3 x3) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 (shapeCast _ ln shapeCasts_S1x2048_S2048))))
/-- The rows times a weight, by batch and head. -/
def byHead (h : FVec Ideal S2x256x2048 .f32) (Wq : FVec Ideal S2048x2048 .f32) : FVec Ideal S2x16x256x128 .f32 := (transpose S2x16x256x128 [0, 2, 1, 3] (shapeCast _ (Host.dotGeneral dot_S2x256x2048_S2048x2048_S2x256x2048_2_0_01_1_n_n none h Wq) shapeCasts_S2x256x2048_S2x256x16x128) transposes_S2x256x16x128_S2x16x256x128_0_2_1_3)
/-- The mask. -/
def mask : IVec S256x256 1 := (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1)))
/-- The masked scores. -/
def scores (msk : IVec S256x256 1) (q k : FVec Ideal S2x16x256x128 .f32) : FVec Ideal S2x16x256x256 .f32 := (select (broadcastInDim S2x16x256x256 ![2, 3] bcast_S256x256_S2x16x256x256_2_3 msk) (Host.divf (Host.dotGeneral dot_S2x16x256x128_S2x16x128x256_S2x16x256x256_3_2_2_3_01_01 none q (transpose S2x16x128x256 [0, 1, 3, 2] k transposes_S2x16x256x128_S2x16x128x256_0_1_3_2)) (broadcastInDim S2x16x256x256 ![] bcast_S_S2x16x256x256 (Host.sqrt (constant S_ .f32 0x43000000#32)))) (broadcastInDim S2x16x256x256 ![] bcast_S_S2x16x256x256 (constant S_ .f32 0xCE6E6B28#32)))
/-- The exponentials of the scores less their largest. -/
def expos (s : FVec Ideal S2x16x256x256 .f32) : FVec Ideal S2x16x256x256 .f32 := (Host.exp (subf s (broadcastInDim S2x16x256x256 ![0, 1, 2, 3] bcast_S2x16x256x1_S2x16x256x256_0_1_2_3 (broadcastInDim S2x16x256x1 ![0, 1, 2] bcast_S2x16x256_S2x16x256x1_0_1_2 (maximumf (broadcastInDim S2x16x256 ![] bcast_S_S2x16x256 (constant S_ .f32 0xFF800000#32)) (Host.reduce FloatOps.maximumf s (constant S_ .f32 0xFF800000#32) reducesTo_S2x16x256x256_S2x16x256_d3 h_S_))))))
/-- The exponentials over their sums. -/
def weights (e : FVec Ideal S2x16x256x256 .f32) : FVec Ideal S2x16x256x256 .f32 := (Host.divf e (broadcastInDim S2x16x256x256 ![0, 1, 2, 3] bcast_S2x16x256x1_S2x16x256x256_0_1_2_3 (broadcastInDim S2x16x256x1 ![0, 1, 2] bcast_S2x16x256_S2x16x256x1_0_1_2 (Host.reduceAdd e (constant S_ .f32 0x00000000#32) reducesTo_S2x16x256x256_S2x16x256_d3 h_S_))))
/-- The weighted values, by row. -/
def mixed (p : FVec Ideal S2x16x256x256 .f32) (v : FVec Ideal S2x16x256x128 .f32) : FVec Ideal S2x256x2048 .f32 := (shapeCast _ (transpose S2x256x16x128 [0, 2, 1, 3] (Host.dotGeneral dot_S2x16x256x256_S2x16x256x128_S2x16x256x128_3_2_2_3_01_01 none p v) transposes_S2x16x256x128_S2x256x16x128_0_2_1_3) shapeCasts_S2x256x16x128_S2x256x2048)
/-- The output projection and the residual. -/
def output (x3 a : FVec Ideal S2x256x2048 .f32) : FVec Ideal S512x2048 .f32 := shapeCast _ (addf x3 (Host.dotGeneral dot_S2x256x2048_S2048x2048_S2x256x2048_2_0_01_1_n_n none a Wo)) shapeCasts_S2x256x2048_S512x2048
/-- The reference's whole term. -/
def whole : FVec Ideal S512x2048 .f32 :=
  let x3 := batches x
  let h := rows ln x3
  output Wo x3 (mixed (weights (expos (scores mask (byHead h Wq) (byHead h Wk)))) (byHead h Wv))

/-- The rows by batch at an element. -/
theorem batches_at (b : Fin 2) (t : Fin 256) (d : Fin 2048) : batches x (ix3 b t d) = x (ix2 ⟨b.val * 256 + t.val, by omega⟩ d) := by
  pointwise [batches]
/-- The normalised rows at an element. -/
theorem rows_at (b : Fin 2) (t : Fin 256) (d : Fin 2048) :
    rows ln (batches x) (ix3 b t d) = normed x ln ⟨b.val * 256 + t.val, by omega⟩ d := by
  pointwise [rows]
  simp only [batches_at]
  rfl
/-- The rows times a weight at an element. -/
theorem byHead_at (h : FVec Ideal S2x256x2048 .f32) (W : FVec Ideal S2048x2048 .f32) (b : Fin 2) (n : Fin 16) (t : Fin 256) (e : Fin 128) :
    byHead h W (ix4 b n t e) = ∑ d : Fin 2048, h (ix3 b t d) * W (ix2 d ⟨n.val * 128 + e.val, by omega⟩) := by
  pointwise [byHead]
/-- The mask at an element. -/
theorem mask_at (t s : Fin 256) : mask (ix2 t s) = if s.val ≤ t.val then 1#1 else 0#1 := by
  pointwise [mask]
  rw [show IntOp.addi (BitVec.ofNat 32 t.val) 0#32 = BitVec.ofNat 32 t.val from BitVec.add_zero _, later_eq]
  by_cases h : s.val ≤ t.val
  · rw [if_pos h]; rfl
  · rw [if_neg h]; rfl
/-- Division by the root of the head's width is multiplication by the scale. -/
theorem div_root (y : EReal) : Ideal.div y (Ideal.sqrt (Ideal.ofBits .f32 0x43000000#32)) = y * scale := by
  have p : Real.sqrt 128 ≠ 0 := (Real.sqrt_pos.mpr (by norm_num)).ne'
  rw [width_eq, Ideal.sqrt_coe, if_neg (by norm_num), Ideal.div_coe p]
  unfold scale
  rw [one_div]
/-- The masked scores at an element. -/
theorem scores_at (q k : FVec Ideal S2x16x256x128 .f32) (b : Fin 2) (n : Fin 16) (t s : Fin 256) :
    scores mask q k (ix4 b n t s) = score (fun t e => q (ix4 b n t e)) (fun t e => k (ix4 b n t e)) t s := by
  pointwise [scores]
  rw [mask_at, div_root]
  unfold score
  by_cases h : s.val ≤ t.val
  · rw [if_pos h, if_pos h]; rfl
  · rw [if_neg h, if_neg h]; rfl
/-- The exponentials at an element. -/
theorem expos_at (s : FVec Ideal S2x16x256x256 .f32) (b : Fin 2) (n : Fin 16) (t u : Fin 256) :
    expos s (ix4 b n t u) = Ideal.exp (s (ix4 b n t u) - Finset.fold max (Ideal.ofBits .f32 0xFF800000#32) (fun u => s (ix4 b n t u)) Finset.univ) := by
  pointwise [expos]
  rw [max_eq_right ((Finset.le_fold_max _).mpr (.inl le_rfl))]
/-- The weights at an element. -/
theorem weights_at (e : FVec Ideal S2x16x256x256 .f32) (b : Fin 2) (n : Fin 16) (t u : Fin 256) :
    weights e (ix4 b n t u) = Ideal.div (e (ix4 b n t u)) (∑ u, e (ix4 b n t u)) := by
  pointwise [weights]
/-- The weighted values at an element. -/
theorem mixed_at (p : FVec Ideal S2x16x256x256 .f32) (v : FVec Ideal S2x16x256x128 .f32) (b : Fin 2) (t : Fin 256) (c : Fin 2048) :
    mixed p v (ix3 b t c) = ∑ s : Fin 256, p (ix4 b ⟨c.val / 128, by omega⟩ t s) * v (ix4 b ⟨c.val / 128, by omega⟩ s ⟨c.val % 128, by omega⟩) := by
  pointwise [mixed]
/-- The output at an element. -/
theorem output_at (x3 a : FVec Ideal S2x256x2048 .f32) (r : Fin 512) (c : Fin 2048) :
    output Wo x3 a (ix2 r c) = (x3 (ix3 ⟨r.val / 256, by omega⟩ ⟨r.val % 256, by omega⟩ c) : EReal)
      + ∑ d : Fin 2048, a (ix3 ⟨r.val / 256, by omega⟩ ⟨r.val % 256, by omega⟩ d) * Wo (ix2 d c) := by
  pointwise [output]

/-- The reference's whole term is the kernel's mathematics. -/
theorem whole_at (r : Fin 512) (c : Fin 2048) : whole x ln Wq Wk Wv Wo (ix2 r c) = res x ln Wq Wk Wv Wo r c := by
  have er : (⟨r.val / 256 * 256 + r.val % 256, by omega⟩ : Fin 512) = r := Fin.ext (by show r.val / 256 * 256 + r.val % 256 = r.val; omega)
  unfold whole res
  simp only [output_at, batches_at, mixed_at, weights_at, expos_at, scores_at, byHead_at, rows_at]
  rw [er]
  rfl

end Cert.R3Ideal.Math

end
-- ==== Proof.Claims3.lean ====
/-
  The attention call's five claims.
-/
module

public import proofs.«01_k».proof.Defs
public import proofs.«01_k».proof.Proof.C3Frame
public import proofs.«01_k».proof.Proof.C3IdealValue
public import proofs.«01_k».proof.Proof.R3Value

@[expose] public section

set_option maxRecDepth 16384

noncomputable section

namespace Cert.Proof

open Idealize.ShloMosaic Idealize.ShloMosaic.TcCoe Idealize.SL.Sem

/-- The compiled attention kernel runs and leaves its arguments and counters as launched. -/
theorem frame_C3 : Cert.quiescent_C3 := fun m ρ _ => Cert.C3.Run.unchanged m ρ

/-- So does its reading over the extended reals. -/
theorem frame_C3Ideal : Cert.quiescent_C3Ideal := fun m ρ _ =>
  (θ_run Cert.C3Ideal.defs _ _).mono (fun r h => ⟨fun c => (h.1 c).2, h.2⟩) (Cert.C3Ideal.Math.computes m ρ)

/-- So does the reference, which declares no semaphore. -/
theorem frame_R3Ideal : Cert.quiescent_R3Ideal := fun m ρ _ =>
  (θ_run Cert.R3Ideal.defs _ _).mono (fun r h => ⟨fun c => (h c).2, Idealize.ShloMosaic.sem_eq_zero_of_no_sems (by decide) r.2⟩)
    (Cert.R3Ideal.Value.run (F := Ideal) m ρ)

/-- The reference's term of the kernel's arguments is the kernel's result. -/
theorem attention_eq (m : (ℓ : Loc Cert.C3Ideal.nD Cert.C3Ideal.τ Cert.C3Ideal.sig) → Buf (Elt Ideal) ℓ) (c : Dev Cert.C3Ideal.nD) :
    Cert.R3Ideal.Math.whole (Cert.C3Ideal.Math.arg m c Cert.C3Ideal.main_arg0) (Cert.C3Ideal.Math.arg m c Cert.C3Ideal.main_arg1) (Cert.C3Ideal.Math.arg m c Cert.C3Ideal.main_arg2) (Cert.C3Ideal.Math.arg m c Cert.C3Ideal.main_arg3) (Cert.C3Ideal.Math.arg m c Cert.C3Ideal.main_arg4) (Cert.C3Ideal.Math.arg m c Cert.C3Ideal.main_arg5) = Cert.C3Ideal.Math.result m c := by
  funext j
  obtain ⟨r, d, rfl⟩ : ∃ (r : Fin 512) (d : Fin 2048), j = ix2 r d := ⟨j 0, j 1, eq_ix2 j⟩
  rw [Cert.R3Ideal.Math.whole_at]
  rfl

/-- The rounded constant the kernel multiplies the scores by stands for one over the root of 128. -/
theorem preserves3 : Cert.preserves_C3_C3Ideal :=
  IdealRules.named_const.statement Cert.C3Ideal.κ "scale" .f32 0x3DB504F3#32 _ rfl

/-- The attention kernel and the reference compute the same values over the extended reals. -/
theorem algebraic3 : Cert.algebraic_C3Ideal_R3Ideal := by
  intro m ρ m' ρ' _ hag
  refine ⟨fun c => Cert.C3Ideal.Math.result m c,
    (θ_run Cert.C3Ideal.defs _ _).mono (fun r h => h.1) (Cert.C3Ideal.Math.computes m ρ), ?_⟩
  refine (θ_run Cert.R3Ideal.defs _ _).mono (fun r h c => ?_) (Cert.R3Ideal.Value.run (F := Ideal) m' ρ')
  obtain ⟨e0, e1, e2, e3, e4, e5⟩ := hag c
  refine ⟨(h c).1.trans (Eq.trans ?_ (attention_eq m c)), (h c).2⟩
  unfold Cert.R3Ideal.Value.res_main_v48
  rw [e0, e1, e2, e3, e4, e5]
  rfl

end Cert.Proof

end
-- ==== Proof.C1IdealValue.lean ====
/-
  The router kernel's run over the extended reals: the router's logits, the predictor's logits and the token copy, each
  the mathematics of the arguments, row tile by row tile.
-/
module

public import proofs.«01_k».proof.Proof.Gen.C1Ideal.Value
public import Idealize.ShloMosaic.Lib.Pipeline.Value
public import Idealize.ShloMosaic.Lib.Pointwise

@[expose] public section

set_option maxRecDepth 16384

noncomputable section

namespace Cert.C1Ideal.Math

open Cert.C1Ideal Cert.C1Ideal.Gen
open Idealize.ShloMosaic Idealize.ShloMosaic.TcCoe Idealize.SL.Sem
open Idealize.ShloMosaic.Pipeline (Dat Cfg Window)

/-- The Gaussian error linear unit. -/
def gelu (a : EReal) : EReal := Ideal.ofBits .f32 0x3F000000#32 * a * (1 + Ideal.erf (a * Ideal.ofBits .f32 0x3F3504F3#32))

section
variable {n : ℕ} (x : (⟨2, ![n, 2048]⟩ : Shape).Idx → EReal)
/-- A row's router logit. -/
def logit (w : FVec Ideal S2048x1 .f32) (r : Fin n) : EReal := ∑ d : Fin 2048, x (ix2 r d) * w (ix2 d 0)
/-- A row's predictor logit: two layers with a Gaussian error linear unit between. -/
def pred (c1 : FVec Ideal S2048x512 .f32) (b1 : FVec Ideal S1x512 .f32) (c2 : FVec Ideal S512x1 .f32) (b2 : FVec Ideal S1x1 .f32)
    (r : Fin n) : EReal :=
  (∑ k : Fin 512, gelu ((∑ d : Fin 2048, x (ix2 r d) * c1 (ix2 d k)) + b1 (ix2 0 k)) * c2 (ix2 k 0)) + b2 (ix2 0 0)
end

/-! ## The payloads at an element -/

/-- The copy. -/
theorem pay1_at (x : Vec Ideal S512x2048 .f32) (r : Fin 512) (d : Fin 2048) : k0_pay1 (F := Ideal) x (ix2 r d) = x (ix2 r d) := by
  pointwise [k0_pay1]

/-- The router's logits. -/
theorem pay2_at (x : Vec Ideal S512x2048 .f32) (w : Vec Ideal S2048x1 .f32) (r : Fin 512) :
    k0_pay2 (F := Ideal) x w (ix2 r 0) = logit x w r := by
  pointwise [k0_pay2, logit]

/-- The predictor's logits. -/
theorem pay3_at (x : Vec Ideal S512x2048 .f32) (c1 : Vec Ideal S2048x512 .f32) (b1 : Vec Ideal S1x512 .f32) (c2 : Vec Ideal S512x1 .f32)
    (b2 : Vec Ideal S1x1 .f32) (r : Fin 512) :
    k0_pay3 (F := Ideal) x c1 b1 c2 b2 (ix2 r 0) = pred x c1 b1 c2 b2 r := by
  pointwise [k0_pay3, pred, gelu]
  refine congrArg (· + b2 (ix2 0 0)) (Finset.sum_congr rfl fun k _ => ?_)
  rw [mul_comm _ (Ideal.ofBits .f32 0x3F000000#32)]
  rfl

/-! ## The windows -/

theorem zero2 : (![0, 0] : Fin 2 → Nat) = fun _ => 0 := by funext a; fin_cases a <;> rfl

theorem ix0' : ∀ i : grid0.Coords, cc0_transform_0 i = ![(i 0).val, 0] := by decide +kernel
theorem ix1' : ∀ i : grid0.Coords, cc0_transform_1 i = ![0, 0] := by decide +kernel
theorem ix2' : ∀ i : grid0.Coords, cc0_transform_2 i = ![0, 0] := by decide +kernel
theorem ix3' : ∀ i : grid0.Coords, cc0_transform_3 i = ![0, 0] := by decide +kernel
theorem ix4' : ∀ i : grid0.Coords, cc0_transform_4 i = ![0, 0] := by decide +kernel
theorem ix5' : ∀ i : grid0.Coords, cc0_transform_5 i = ![0, 0] := by decide +kernel
theorem ix6' : ∀ i : grid0.Coords, cc0_transform_6 i = ![(i 0).val, 0] := by decide +kernel
theorem ix7' : ∀ i : grid0.Coords, cc0_transform_7 i = ![(i 0).val, 0] := by decide +kernel
theorem ix8' : ∀ i : grid0.Coords, cc0_transform_8 i = ![(i 0).val, 0] := by decide +kernel

/-- A point's one coordinate is below the grid's extent. -/
theorem lt8 (t : Fin cfg0.N) : (grid0.coords t 0).val < 8 := (grid0.coords t 0).isLt

variable (m : (ℓ : Loc nD τ sig) → Buf (Elt Ideal) ℓ) (ρ : Dev nD → PrngReg) (c : Dev nD) (t : Fin cfg0.N)

theorem blk0 (r : Fin 512) (d : Fin 2048) :
    iblk m c 0 t (ix2 r d) = m ((c : Thread nD τ).loc main_arg0) (ix2 ⟨(grid0.coords t 0).val * 512 + r.val, by have := lt8 t; omega⟩ d) := by
  refine congrArg (m ((c : Thread nD τ).loc main_arg0)) (funext fun a => Fin.ext ?_)
  show cc0_transform_0 (grid0.coords t) a * S512x2048.size a + 1 * ((ix2 r d : S512x2048.Idx) a).val = _
  rw [ix0']
  fin_cases a
  · show (grid0.coords t 0).val * 512 + 1 * r.val = (grid0.coords t 0).val * 512 + r.val; omega
  · show 0 * 2048 + 1 * d.val = d.val; omega

theorem blk1 : iblk m c 1 t = m ((c : Thread nD τ).loc main_arg1) := by
  funext j
  refine congrArg (m ((c : Thread nD τ).loc main_arg1)) (funext fun a => Fin.ext ?_)
  show cc0_transform_1 (grid0.coords t) a * S2048x1.size a + 1 * (j a).val = (j a).val
  rw [ix1']
  fin_cases a <;> simp

theorem blk2 : iblk m c 2 t = m ((c : Thread nD τ).loc main_arg2) := by
  funext j
  refine congrArg (m ((c : Thread nD τ).loc main_arg2)) (funext fun a => Fin.ext ?_)
  show cc0_transform_2 (grid0.coords t) a * S2048x512.size a + 1 * (j a).val = (j a).val
  rw [ix2']
  fin_cases a <;> simp

theorem blk3 : iblk m c 3 t = m ((c : Thread nD τ).loc main_arg3) := by
  funext j
  refine congrArg (m ((c : Thread nD τ).loc main_arg3)) (funext fun a => Fin.ext ?_)
  show cc0_transform_3 (grid0.coords t) a * S1x512.size a + 1 * (j a).val = (j a).val
  rw [ix3']
  fin_cases a <;> simp

theorem blk4 : iblk m c 4 t = m ((c : Thread nD τ).loc main_arg4) := by
  funext j
  refine congrArg (m ((c : Thread nD τ).loc main_arg4)) (funext fun a => Fin.ext ?_)
  show cc0_transform_4 (grid0.coords t) a * S512x1.size a + 1 * (j a).val = (j a).val
  rw [ix4']
  fin_cases a <;> simp

theorem blk5 : iblk m c 5 t = m ((c : Thread nD τ).loc main_arg5) := by
  funext j
  refine congrArg (m ((c : Thread nD τ).loc main_arg5)) (funext fun a => Fin.ext ?_)
  show cc0_transform_5 (grid0.coords t) a * S1x1.size a + 1 * (j a).val = (j a).val
  rw [ix5']
  fin_cases a <;> simp

theorem blk6 (G : Vec Ideal S4096x1 .f32) (r : Fin 512) (q : Fin 1) :
    ((cfg0.win 6).blk t).view.read (Elt Ideal) G (ix2 r q) = G (ix2 ⟨(grid0.coords t 0).val * 512 + r.val, by have := lt8 t; omega⟩ q) := by
  refine congrArg G (funext fun a => Fin.ext ?_)
  show cc0_transform_6 (grid0.coords t) a * S512x1.size a + 1 * ((ix2 r q : S512x1.Idx) a).val = _
  rw [ix6']
  fin_cases a
  · show (grid0.coords t 0).val * 512 + 1 * r.val = (grid0.coords t 0).val * 512 + r.val; omega
  · show 0 * 1 + 1 * q.val = q.val; omega

/-- Every element of the array lies in a block written back. -/
theorem covered6 (j : S4096x1.Idx) : ∃ t : Fin cfg0.N, (cfg0.win 6).flush t = true ∧ j ∈ ((cfg0.win 6).blk t).view.set := by
  obtain ⟨r, q, rfl⟩ : ∃ (r : Fin 4096) (q : Fin 1), j = ix2 r q := ⟨j 0, j 1, eq_ix2 j⟩
  have hN : grid0.N = 8 := N_0
  refine ⟨⟨r.val / 512, by show _ < grid0.N; omega⟩, flush0_6 _, ?_⟩
  generalize ht : (⟨r.val / 512, by show _ < grid0.N; omega⟩ : Fin cfg0.N) = t
  have hv : t.val = r.val / 512 := by rw [← ht]
  have e := grid0.coords_val t 0 (S := 1) (B := 8) (by decide) (by decide)
  show ix2 r q ∈ (win0_6.blk t).view.set
  rw [View.set_slice_whole, Rect.mem_set_unit]
  intro a
  show cc0_transform_6 (grid0.coords t) a * S512x1.size a ≤ _ ∧ _ < cc0_transform_6 (grid0.coords t) a * S512x1.size a + S512x1.size a
  rw [ix6']
  fin_cases a
  · show (grid0.coords t 0).val * 512 ≤ r.val ∧ r.val < (grid0.coords t 0).val * 512 + 512; rw [e]; omega
  · show 0 * 1 ≤ q.val ∧ q.val < 0 * 1 + 1; omega

theorem blk7 (G : Vec Ideal S4096x1 .f32) (r : Fin 512) (q : Fin 1) :
    ((cfg0.win 7).blk t).view.read (Elt Ideal) G (ix2 r q) = G (ix2 ⟨(grid0.coords t 0).val * 512 + r.val, by have := lt8 t; omega⟩ q) := by
  refine congrArg G (funext fun a => Fin.ext ?_)
  show cc0_transform_7 (grid0.coords t) a * S512x1.size a + 1 * ((ix2 r q : S512x1.Idx) a).val = _
  rw [ix7']
  fin_cases a
  · show (grid0.coords t 0).val * 512 + 1 * r.val = (grid0.coords t 0).val * 512 + r.val; omega
  · show 0 * 1 + 1 * q.val = q.val; omega

/-- Every element of the array lies in a block written back. -/
theorem covered7 (j : S4096x1.Idx) : ∃ t : Fin cfg0.N, (cfg0.win 7).flush t = true ∧ j ∈ ((cfg0.win 7).blk t).view.set := by
  obtain ⟨r, q, rfl⟩ : ∃ (r : Fin 4096) (q : Fin 1), j = ix2 r q := ⟨j 0, j 1, eq_ix2 j⟩
  have hN : grid0.N = 8 := N_0
  refine ⟨⟨r.val / 512, by show _ < grid0.N; omega⟩, flush0_7 _, ?_⟩
  generalize ht : (⟨r.val / 512, by show _ < grid0.N; omega⟩ : Fin cfg0.N) = t
  have hv : t.val = r.val / 512 := by rw [← ht]
  have e := grid0.coords_val t 0 (S := 1) (B := 8) (by decide) (by decide)
  show ix2 r q ∈ (win0_7.blk t).view.set
  rw [View.set_slice_whole, Rect.mem_set_unit]
  intro a
  show cc0_transform_7 (grid0.coords t) a * S512x1.size a ≤ _ ∧ _ < cc0_transform_7 (grid0.coords t) a * S512x1.size a + S512x1.size a
  rw [ix7']
  fin_cases a
  · show (grid0.coords t 0).val * 512 ≤ r.val ∧ r.val < (grid0.coords t 0).val * 512 + 512; rw [e]; omega
  · show 0 * 1 ≤ q.val ∧ q.val < 0 * 1 + 1; omega

theorem blk8 (G : Vec Ideal S4096x2048 .bf16) (r : Fin 512) (q : Fin 2048) :
    ((cfg0.win 8).blk t).view.read (Elt Ideal) G (ix2 r q) = G (ix2 ⟨(grid0.coords t 0).val * 512 + r.val, by have := lt8 t; omega⟩ q) := by
  refine congrArg G (funext fun a => Fin.ext ?_)
  show cc0_transform_8 (grid0.coords t) a * S512x2048.size a + 1 * ((ix2 r q : S512x2048.Idx) a).val = _
  rw [ix8']
  fin_cases a
  · show (grid0.coords t 0).val * 512 + 1 * r.val = (grid0.coords t 0).val * 512 + r.val; omega
  · show 0 * 2048 + 1 * q.val = q.val; omega

/-- Every element of the array lies in a block written back. -/
theorem covered8 (j : S4096x2048.Idx) : ∃ t : Fin cfg0.N, (cfg0.win 8).flush t = true ∧ j ∈ ((cfg0.win 8).blk t).view.set := by
  obtain ⟨r, q, rfl⟩ : ∃ (r : Fin 4096) (q : Fin 2048), j = ix2 r q := ⟨j 0, j 1, eq_ix2 j⟩
  have hN : grid0.N = 8 := N_0
  refine ⟨⟨r.val / 512, by show _ < grid0.N; omega⟩, flush0_8 _, ?_⟩
  generalize ht : (⟨r.val / 512, by show _ < grid0.N; omega⟩ : Fin cfg0.N) = t
  have hv : t.val = r.val / 512 := by rw [← ht]
  have e := grid0.coords_val t 0 (S := 1) (B := 8) (by decide) (by decide)
  show ix2 r q ∈ (win0_8.blk t).view.set
  rw [View.set_slice_whole, Rect.mem_set_unit]
  intro a
  show cc0_transform_8 (grid0.coords t) a * S512x2048.size a ≤ _ ∧ _ < cc0_transform_8 (grid0.coords t) a * S512x2048.size a + S512x2048.size a
  rw [ix8']
  fin_cases a
  · show (grid0.coords t 0).val * 512 ≤ r.val ∧ r.val < (grid0.coords t 0).val * 512 + 512; rw [e]; omega
  · show 0 * 2048 ≤ q.val ∧ q.val < 0 * 2048 + 2048; omega

/-! ## The results -/

/-- Argument array `b` as launched. -/
abbrev arg (b : Ref sig .tc) : Buf (Elt Ideal) ((c.tc : Thread nD τ).loc b) := m ((c.tc : Thread nD τ).loc b)

/-- The router's logits of all rows. -/
def logits : Vec Ideal S4096x1 .f32 := fun j => logit (n := 4096) (arg m c main_arg0) (arg m c main_arg1) (j 0)
/-- The predictor's logits of all rows. -/
def preds : Vec Ideal S4096x1 .f32 := fun j =>
  pred (n := 4096) (arg m c main_arg0) (arg m c main_arg2) (arg m c main_arg3) (arg m c main_arg4) (arg m c main_arg5) (j 0)
/-- The tokens' copy. -/
def copied : Vec Ideal S4096x2048 .bf16 := arg m c main_arg0

theorem final6 : (dats m 0 c).arrAt 6 cfg0.N = logits m c :=
  (dats m 0 c).arrAt_eq_of_cover 6 (logits m c) (fun t _ => by
    rw [Cert.C1Ideal.Value.flushed6]
    funext j
    obtain ⟨r, q, rfl⟩ : ∃ (r : Fin 512) (q : Fin 1), j = ix2 r q := ⟨j 0, j 1, eq_ix2 j⟩
    obtain rfl : q = 0 := Fin.eq_zero q
    rw [blk6]
    show out0_6 _ _ _ _ _ _ (ix2 r 0) = _
    unfold out0_6
    rw [View.canon_unit_zero zero2, View.ld_unit_zero zero2, View.ld_unit_zero zero2, pay2_at, blk1]
    simp only [logit, blk0, logits]
    rfl) covered6

theorem final7 : (dats m 0 c).arrAt 7 cfg0.N = preds m c :=
  (dats m 0 c).arrAt_eq_of_cover 7 (preds m c) (fun t _ => by
    rw [Cert.C1Ideal.Value.flushed7]
    funext j
    obtain ⟨r, q, rfl⟩ : ∃ (r : Fin 512) (q : Fin 1), j = ix2 r q := ⟨j 0, j 1, eq_ix2 j⟩
    obtain rfl : q = 0 := Fin.eq_zero q
    rw [blk7]
    show out0_7 _ _ _ _ _ _ (ix2 r 0) = _
    unfold out0_7
    rw [View.canon_unit_zero zero2, View.ld_unit_zero zero2, View.ld_unit_zero zero2, View.ld_unit_zero zero2, View.ld_unit_zero zero2,
      View.ld_unit_zero zero2, pay3_at, blk2, blk3, blk4, blk5]
    simp only [pred, blk0, preds]
    rfl) covered7

theorem final8 : (dats m 0 c).arrAt 8 cfg0.N = copied m c :=
  (dats m 0 c).arrAt_eq_of_cover 8 (copied m c) (fun t _ => by
    rw [Cert.C1Ideal.Value.flushed8]
    funext j
    obtain ⟨r, q, rfl⟩ : ∃ (r : Fin 512) (q : Fin 2048), j = ix2 r q := ⟨j 0, j 1, eq_ix2 j⟩
    rw [blk8]
    show out0_8 _ _ _ _ _ _ (ix2 r q) = _
    unfold out0_8
    rw [View.canon_unit_zero zero2, View.ld_unit_zero zero2, pay1_at, blk0]
    rfl) covered8

end Cert.C1Ideal.Math

end
-- ==== Proof.R1Value.lean ====
/-
  The router reference's results, operation by operation, read at an element.
-/
module

public import proofs.«01_k».proof.Proof.C1IdealValue
public import proofs.«01_k».proof.Proof.Gen.R1Ideal
public import proofs.«01_k».proof.Proof.Gen.R1Ideal.Run

@[expose] public section

set_option maxRecDepth 16384

noncomputable section

namespace Cert.R1Ideal.Math

open Cert.R1Ideal Cert.R1Ideal.Gen
open Idealize.ShloMosaic Idealize.ShloMosaic.StableHlo
open Cert.C1Ideal.Math (gelu logit pred)

variable (x : FVec Ideal S4096x2048 .f32) (w : FVec Ideal S2048x1 .f32) (c1 : FVec Ideal S2048x512 .f32) (b1 : FVec Ideal S1x512 .f32)
  (c2 : FVec Ideal S512x1 .f32) (b2 : FVec Ideal S1x1 .f32)

/-- The router's logits. -/
def logits : FVec Ideal S4096x1 .f32 := Host.dotGeneral dot_S4096x2048_S2048x1_S4096x1_1_0_0_1_n_n none x w
/-- The predictor's logits. -/
def preds : FVec Ideal S4096x1 .f32 := addf (Host.dotGeneral dot_S4096x512_S512x1_S4096x1_1_0_0_1_n_n none (mulf (mulf (broadcastInDim S4096x512 ![] bcast_S_S4096x512 (constant S_ .f32 0x3F000000#32)) (addf (Host.dotGeneral dot_S4096x2048_S2048x512_S4096x512_1_0_0_1_n_n none x c1) (broadcastInDim S4096x512 ![0, 1] bcast_S1x512_S4096x512_0_1 b1))) (addf (broadcastInDim S4096x512 ![] bcast_S_S4096x512 (constant S_ .f32 0x3F800000#32)) (Host.erf (mulf (addf (Host.dotGeneral dot_S4096x2048_S2048x512_S4096x512_1_0_0_1_n_n none x c1) (broadcastInDim S4096x512 ![0, 1] bcast_S1x512_S4096x512_0_1 b1)) (broadcastInDim S4096x512 ![] bcast_S_S4096x512 (constant S_ .f32 0x3F3504F3#32)))))) c2) (broadcastInDim S4096x1 ![0, 1] bcast_S1x1_S4096x1_0_1 b2)

theorem logits_at (r : Fin 4096) : logits x w (ix2 r 0) = logit x w r := by
  pointwise [logits, logit]

theorem preds_at (r : Fin 4096) : preds x c1 b1 c2 b2 (ix2 r 0) = pred x c1 b1 c2 b2 r := by
  pointwise [preds, pred, gelu]

end Cert.R1Ideal.Math

end
-- ==== Proof.Claims1.lean ====
/-
  The router call's five claims.
-/
module

public import proofs.«01_k».proof.Defs
public import proofs.«01_k».proof.Proof.Gen.C1
public import proofs.«01_k».proof.Proof.Gen.C1.Frame
public import proofs.«01_k».proof.Proof.C1IdealValue
public import proofs.«01_k».proof.Proof.R1Value

@[expose] public section

set_option maxRecDepth 16384

noncomputable section

namespace Cert.Proof

open Idealize.ShloMosaic Idealize.ShloMosaic.TcCoe Idealize.SL.Sem

/-- The compiled router kernel runs and leaves its arguments and counters as launched. -/
theorem frame_C1 : Cert.quiescent_C1 := fun m ρ _ => Cert.C1.Gen.frame m ρ

/-- So does its reading over the extended reals. -/
theorem frame_C1Ideal : Cert.quiescent_C1Ideal := fun m ρ _ => Cert.C1Ideal.Gen.frame m ρ

/-- So does the reference, which declares no semaphore. -/
theorem frame_R1Ideal : Cert.quiescent_R1Ideal := fun m ρ _ =>
  (θ_run Cert.R1Ideal.defs _ _).mono (fun r h => ⟨fun c => (h c).2.2.2, Idealize.ShloMosaic.sem_eq_zero_of_no_sems (by decide) r.2⟩)
    (Cert.R1Ideal.Value.run (F := Ideal) m ρ)

section
variable (m : (ℓ : Loc Cert.C1Ideal.nD Cert.C1Ideal.τ Cert.C1Ideal.sig) → Buf (Elt Ideal) ℓ) (c : Dev Cert.C1Ideal.nD)

/-- The reference's router logits of the kernel's arguments are the kernel's. -/
theorem logits_eq : Cert.R1Ideal.Math.logits (Cert.C1Ideal.Math.arg m c Cert.C1Ideal.main_arg0) (Cert.C1Ideal.Math.arg m c Cert.C1Ideal.main_arg1) = Cert.C1Ideal.Math.logits m c := by
  funext j
  obtain ⟨r, q, rfl⟩ : ∃ (r : Fin 4096) (q : Fin 1), j = ix2 r q := ⟨j 0, j 1, eq_ix2 j⟩
  obtain rfl : q = 0 := Fin.eq_zero q
  rw [Cert.R1Ideal.Math.logits_at]
  rfl

/-- The reference's predictor logits of the kernel's arguments are the kernel's. -/
theorem preds_eq : Cert.R1Ideal.Math.preds (Cert.C1Ideal.Math.arg m c Cert.C1Ideal.main_arg0) (Cert.C1Ideal.Math.arg m c Cert.C1Ideal.main_arg2) (Cert.C1Ideal.Math.arg m c Cert.C1Ideal.main_arg3) (Cert.C1Ideal.Math.arg m c Cert.C1Ideal.main_arg4) (Cert.C1Ideal.Math.arg m c Cert.C1Ideal.main_arg5) = Cert.C1Ideal.Math.preds m c := by
  funext j
  obtain ⟨r, q, rfl⟩ : ∃ (r : Fin 4096) (q : Fin 1), j = ix2 r q := ⟨j 0, j 1, eq_ix2 j⟩
  obtain rfl : q = 0 := Fin.eq_zero q
  rw [Cert.R1Ideal.Math.preds_at]
  rfl
end

/-- The router kernel and the reference compute the same values over the extended reals. -/
theorem algebraic1 : Cert.algebraic_C1Ideal_R1Ideal := by
  intro m ρ m' ρ' _ hag
  refine ⟨fun c => Cert.C1Ideal.Math.logits m c, fun c => Cert.C1Ideal.Math.preds m c, fun c => Cert.C1Ideal.Math.copied m c,
    (θ_run Cert.C1Ideal.defs _ _).mono (fun r h c => ⟨(h c).1.trans (Cert.C1Ideal.Math.final6 m c),
      (h c).2.1.trans (Cert.C1Ideal.Math.final7 m c), (h c).2.2.1.trans (Cert.C1Ideal.Math.final8 m c), (h c).2.2.2⟩)
      (Cert.C1Ideal.Value.run_blocks m ρ), ?_⟩
  refine (θ_run Cert.R1Ideal.defs _ _).mono (fun r h c => ?_) (Cert.R1Ideal.Value.run (F := Ideal) m' ρ')
  obtain ⟨e0, e1, e2, e3, e4, e5⟩ := hag c
  refine ⟨(h c).1.trans (Eq.trans ?_ (logits_eq m c)), (h c).2.1.trans (Eq.trans ?_ (preds_eq m c)), (h c).2.2.1.trans ?_, (h c).2.2.2⟩
  · rw [e0, e1]
    rfl
  · rw [e0, e2, e3, e4, e5]
    rfl
  · rw [e0]
    rfl

end Cert.Proof

end
-- ==== Proof.C2Frame.lean ====
/-
  The kernel leaves its arguments unchanged: every execution ends, with every argument array as launched and every
  semaphore counter at zero. Nothing is said here of the results' contents.
-/
module

public import proofs.«01_k».proof.Proof.C2Step
public import Idealize.ShloMosaic.Lib.Claim

@[expose] public section

set_option maxRecDepth 16384

noncomputable section

namespace Cert.C2.Run

open Cert.C2 Cert.C2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' contents are not followed. -/
def fgt : Fin 10 → Bool := fun w => decide (3 ≤ w.val)

/-- What the buffers and arrays hold: the inputs their blocks, the outputs not followed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d

/-- What the body is called with at point `t`, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))
/-- and what it returns. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, after_0, before_1, after_1, before_2, after_2]
  rw [show (dats m 0 c).Φ t.succ = (dats m 0 c).Φ t.castSucc from rfl,
    show (dats m 0 c).owesAt () t.succ = (dats m 0 c).owesAt () t.castSucc from rfl]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_any (F := F) c (grid0.coords t) _ _ _ _ _ _ _ _ _ _ _ _ _ _ _ _ _ _ _ _ (iblk m c 0 t) (iblk m c 1 t) (iblk m c 2 t) d3 d4 d5 d6 d7 d8 d9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [Hp]; · iexact Hp
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The body table's row at point `t`. -/
theorem row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : Pipeline.BodyObligationLoose (dats (F := F) m 0 c) (defs₀ (F := F)) Variants.none () Set.univ fgt := fun t => by
  rw [bigSep_W0, bigSep_W0, row]
  exact triple_restated (sound_body m c t) rfl .rfl fun _ => .rfl

set_option backward.isDefEq.respectTransparency.types false in
/-- The launch: every input array as found, every counter at zero. -/
theorem run_quiescent : θ_run defs (onTc (τ := τ) (main (F := F))) (s₀ m ρ)
    (fun r => (Pipeline.RDat.FramePost (cfgs 0) (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => body_obligation m c) (hshare := fun _ _ => ite_self _)
    (howed := fun _ _ => rfl) (V := V m) (hmain := hmain m Variants.none) (hA := A_eq m) (hΦ := fun _ _ => rfl)

/-- The arguments end as launched. -/
theorem unchanged : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c))⟩, h.2⟩) (run_quiescent m ρ)

end Cert.C2.Run

end
-- ==== Proof.C2IdealBody.lean ====
/-
  One run of the kernel's body at each of its two kinds of grid point (generic in the float values): what each store
  leaves, the rest unchanged. The grid has 5 points: point 0 routes (selection, gates and losses), points 1..4 gather the
  selected rows, a batch and a column tile each.
-/
module

public import proofs.«01_k».proof.Proof.Gen.C2Ideal.Frame
public import proofs.«01_k».proof.Proof.Gen.C2Ideal.Skeleton
public import Idealize.ShloMosaic.Lib.WritesUnit
public import Idealize.ShloMosaic.Lib.VecWindow
public import Idealize.ShloMosaic.Lib.Tactic.Stretches

@[expose] public section

set_option maxRecDepth 16384

noncomputable section

namespace Cert.C2Ideal.Run

open Cert.C2Ideal Cert.C2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions and the offset in closed form -/

theorem cond1_iff : ∀ i : grid0.Coords, k0_cond1 i = 1#1 ↔ (i 0).val = 0 := by decide +kernel
theorem cond2_iff : ∀ i : grid0.Coords, k0_cond2 i = 1#1 ↔ (i 0).val ≠ 0 := by decide +kernel
theorem hi (i : grid0.Coords) : (i 0).val < 5 := (i 0).isLt
/-- The gathered batch. -/
theorem batch_eq : ∀ i : grid0.Coords, k0_cond2 i = 1#1 → k0_off1 i = ![((i 0).val - 1) / 2, 0, 0] := by decide +kernel
theorem batch_lt (i : grid0.Coords) : ((i 0).val - 1) / 2 < 2 := by have := hi i; omega

/-- A load at a unit-stride rectangle reads a window of what the view reads. -/
theorem rd {sp : Space} {s : Shape} {e : EltTy} (v : View sig .tc sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl
/-- A window at equal offsets. -/
theorem window_congr {α : Type} {s : Shape} (x : s.Idx → α) {off off' size : Fin s.rank → ℕ} (h : off = off')
    (inb : ∀ a, off a + size a ≤ s.size a) (inb' : ∀ a, off' a + size a ≤ s.size a) :
    VecWindow.window x off size inb = VecWindow.window x off' size inb' := by subst h; rfl

/-! ## The routing, of the words `w` -/

/-- The 31 bit steps' result: the threshold key of each row. -/
def base (w : Vec F S2x2048 .i32) : IVec S2x1 32 := Scf.fold (fun k acc => k0_pay6 w k acc) (k0_pay5 w)
/-- The selection mask. -/
def mask (w : Vec F S2x2048 .i32) : FVec F S2x2048 .f32 :=
  k0_pay12 (k0_pay7 w (base w)) (k0_pay8 w (base w)) (k0_pay9 w (base w)) (k0_pay10 w (base w)) (k0_pay11 w (base w))
/-- The place of each selected position. -/
def place (w : Vec F S2x2048 .i32) : IVec S2x2048 32 :=
  k0_pay17 (k0_pay13 (k0_pay7 w (base w)) (k0_pay8 w (base w)) (k0_pay9 w (base w)) (k0_pay10 w (base w)) (k0_pay11 w (base w)))
    k0_pay14 (k0_pay15 (k0_pay7 w (base w)) (k0_pay8 w (base w)) (k0_pay9 w (base w)) (k0_pay10 w (base w)) (k0_pay11 w (base w)))
/-- The selection matrices of both batches. -/
def sel (w : Vec F S2x2048 .i32) (x : Vec F S2x256x2048 .bf16) : Vec F S2x256x2048 .bf16 :=
  VecWindow.put (VecWindow.put x ![0, 0, 0] S1x256x2048.size (k0_pay19 (mask w) (place w)))
    ![1, 0, 0] S1x256x2048.size (k0_pay23 (k0_pay22 (mask w) (place w)))
/-- The gates of both batches. -/
def gates (w : Vec F S2x2048 .i32) (x : Vec F S2x256 .f32) : Vec F S2x256 .f32 :=
  VecWindow.put (VecWindow.put x ![0, 0] S1x256.size (k0_pay20 (mask w) (k0_pay16 (k0_pay3 w)) (place w)))
    ![1, 0] S1x256.size (k0_pay24 (k0_pay16 (k0_pay3 w)) (k0_pay21 (mask w) (place w)))
/-- One batch's selection matrix. -/
def selAt (p : Vec F S2x256x2048 .bf16) (b : ℕ) (hb : b < 2) : Vec F S1x256x2048 .bf16 :=
  VecWindow.window p ![b, 0, 0] S1x256x2048.size (by
    intro a; fin_cases a
    · show b + 1 ≤ 2; omega
    · show 0 + 256 ≤ 256; omega
    · show 0 + 2048 ≤ 2048; omega)
/-- The gathered rows' tile at equal operands. -/
theorem pay2_congr {a a' : Vec F S1x256x2048 .bf16} {b b' : Vec F S1x2048x1024 .bf16} (ha : a = a') (hb : b = b') :
    k0_pay2 a b = k0_pay2 a' b' := by rw [ha, hb]

end Cert.C2Ideal.Run

end
-- ==== Proof.C2IdealChoice.lean ====
/-
  Choosing the 256 greatest of 2048 keys, equal keys in order of position: the bisection that finds the 256th greatest
  key, the choice it makes, and running counts by doubling.
-/
module

public import proofs.«01_k».proof.Proof.C2IdealBody
public import Idealize.ShloMosaic.Lib.IndicatorCount
public import Mathlib.Tactic.Ring
public import Mathlib.Tactic.Positivity

@[expose] public section

noncomputable section

namespace Cert.C2Ideal.Choice

open scoped Classical

/-- How many keys are at least `x`. -/
def above (κ : Fin 2048 → ℤ) (x : ℤ) : ℕ := (Finset.univ.filter fun t => x ≤ κ t).card
/-- Position `s` comes before position `t`: by a greater key, or by an equal key and an earlier position. -/
def Beats (κ : Fin 2048 → ℤ) (t s : Fin 2048) : Prop := κ t < κ s ∨ κ s = κ t ∧ s.val < t.val
/-- Position `t` is among the first 256. -/
def Chosen (κ : Fin 2048 → ℤ) (t : Fin 2048) : Prop := (Finset.univ.filter (Beats κ t)).card < 256

/-! ## The choice by the 256th greatest key -/

variable {κ : Fin 2048 → ℤ} {B : ℤ} {t : Fin 2048}

/-- A position whose key is above the 256th greatest is chosen, -/
theorem chosen_of_gt (hB : above κ (B + 1) < 256) (h : B < κ t) : Chosen κ t := by
  refine lt_of_le_of_lt (Finset.card_le_card fun s hs => ?_) hB
  have := (Finset.mem_filter.mp hs).2
  refine Finset.mem_filter.mpr ⟨Finset.mem_univ _, ?_⟩
  unfold Beats at this; omega

/-- one whose key is below it is not, -/
theorem not_chosen_of_lt (hB : 256 ≤ above κ B) (h : κ t < B) : ¬ Chosen κ t := by
  refine not_lt.mpr (hB.trans (Finset.card_le_card fun s hs => ?_))
  have := (Finset.mem_filter.mp hs).2
  exact Finset.mem_filter.mpr ⟨Finset.mem_univ _, .inl (by omega)⟩

/-- and one whose key is it is chosen while places are left. -/
theorem chosen_of_eq (h : κ t = B) :
    Chosen κ t ↔ (Finset.univ.filter fun s : Fin 2048 => s.val ≤ t.val ∧ κ s = B).card + above κ (B + 1) ≤ 256 := by
  have e : (Finset.univ.filter fun s : Fin 2048 => s.val ≤ t.val ∧ κ s = B)
      = insert t (Finset.univ.filter fun s : Fin 2048 => s.val < t.val ∧ κ s = B) := by
    ext s
    simp only [Finset.mem_filter, Finset.mem_univ, true_and, Finset.mem_insert, Fin.ext_iff]
    constructor
    · rintro ⟨h1, h2⟩
      by_cases h3 : s.val = t.val
      · exact .inl h3
      · exact .inr ⟨by omega, h2⟩
    · rintro (h1 | ⟨h1, h2⟩)
      · exact ⟨by omega, by rw [Fin.ext h1]; exact h⟩
      · exact ⟨by omega, h2⟩
  have d : (Finset.univ.filter (Beats κ t)) = (Finset.univ.filter fun s : Fin 2048 => s.val < t.val ∧ κ s = B)
      ∪ (Finset.univ.filter fun s => B + 1 ≤ κ s) := by
    ext s
    simp only [Finset.mem_filter, Finset.mem_univ, true_and, Finset.mem_union, Beats, h]
    omega
  rw [Chosen, d, Finset.card_union_of_disjoint, e, Finset.card_insert_of_notMem (by simp), above]
  · omega
  · refine Finset.disjoint_left.mpr fun s h1 h2 => ?_
    have := (Finset.mem_filter.mp h1).2
    have := (Finset.mem_filter.mp h2).2
    omega

/-! ## The bisection -/

/-- The state of the bisection after `j` bits: a word whose low bits are clear, at least 256 keys from it on, fewer from
    the end of its range on. -/
def Inv (κ : Fin 2048 → ℤ) (j : ℕ) (a : BitVec 32) : Prop :=
  (∃ q, a.toNat = 2 ^ (31 - j) * q) ∧ 256 ≤ above κ a.toInt ∧ above κ (a.toInt + 2 ^ (31 - j)) < 256

/-- The first state: the sign bit. -/
theorem inv_zero (hκ : ∀ t, -2 ^ 31 ≤ κ t ∧ κ t < 2 ^ 31) : Inv κ 0 (if 256 ≤ above κ 0 then 0#32 else 2147483648#32) := by
  split_ifs with h
  · refine ⟨⟨0, rfl⟩, h, ?_⟩
    have : above κ ((0#32).toInt + 2 ^ (31 - 0)) = 0 := by
      refine Finset.card_eq_zero.mpr (Finset.filter_eq_empty_iff.mpr fun t _ h' => ?_)
      have := (hκ t).2
      rw [show (0#32).toInt = 0 from rfl] at h'
      omega
    omega
  · refine ⟨⟨1, rfl⟩, ?_, ?_⟩
    · have : above κ (2147483648#32).toInt = 2048 := by
        rw [above, Finset.filter_true_of_mem, Finset.card_univ, Fintype.card_fin]
        intro t _
        have := (hκ t).1
        rw [show (2147483648#32).toInt = -2147483648 from rfl]; omega
      omega
    · rw [show (2147483648#32).toInt + 2 ^ (31 - 0) = 0 from rfl]; omega

/-- Setting the next bit of a state's word adds that bit's weight. -/
theorem set_bit {j : ℕ} {a : BitVec 32} (hj : j < 31) (hq : ∃ q, a.toNat = 2 ^ (31 - j) * q) :
    (a ||| (1#32 <<< (30 - j))).toNat = a.toNat + 2 ^ (30 - j) ∧ (a ||| (1#32 <<< (30 - j))).toInt = a.toInt + 2 ^ (30 - j) := by
  obtain ⟨q, hq⟩ := hq
  have ha := a.isLt
  have hp : (2 : ℕ) ^ (31 - j) = 2 * 2 ^ (30 - j) := by rw [show 31 - j = (30 - j) + 1 by omega, pow_succ]; ring
  have hr : (2 : ℕ) ^ 31 = 2 ^ (31 - j) * 2 ^ j := by rw [← pow_add]; congr 1; omega
  have hpos : 0 < (2 : ℕ) ^ (30 - j) := by positivity
  have hle : (2 : ℕ) ^ (30 - j) ≤ 2 ^ 30 := Nat.pow_le_pow_right (by norm_num) (by omega)
  have hb : (1#32 <<< (30 - j)).toNat = 2 ^ (30 - j) := by
    rw [BitVec.toNat_shiftLeft, Nat.shiftLeft_eq]
    rw [show (1#32).toNat = 1 from rfl, one_mul]
    exact Nat.mod_eq_of_lt (by omega)
  have hn : (a ||| (1#32 <<< (30 - j))).toNat = a.toNat + 2 ^ (30 - j) := by
    rw [BitVec.toNat_or, hb, hq, Nat.two_pow_add_eq_or_of_lt (by omega)]
  refine ⟨hn, ?_⟩
  have hc : a.toNat < 2 ^ 31 → a.toNat + 2 ^ (30 - j) < 2 ^ 31 := by
    intro h
    rw [hq, hr] at h
    have h1 : q + 1 ≤ 2 ^ j := Nat.lt_of_mul_lt_mul_left h
    have h2 := Nat.mul_le_mul_left (2 ^ (31 - j)) h1
    rw [← hr, mul_add, mul_one, ← hq] at h2
    omega
  have hd : a.toNat + 2 ^ (30 - j) < 2 ^ 32 := by rw [← hn]; exact (a ||| (1#32 <<< (30 - j))).isLt
  rw [BitVec.toInt_eq_toNat_cond, BitVec.toInt_eq_toNat_cond, hn]
  have hz : ((2 : ℤ) ^ (30 - j)) = ((2 ^ (30 - j) : ℕ) : ℤ) := by push_cast; rfl
  rw [hz]
  generalize (2 : ℕ) ^ (30 - j) = P at *
  by_cases h : a.toNat < 2 ^ 31
  · have := hc h
    rw [if_pos (by omega), if_pos (by omega)]; push_cast; ring
  · rw [if_neg (by omega), if_neg (by omega)]; push_cast; ring

/-- One bit more. -/
theorem inv_step {j : ℕ} {a : BitVec 32} (hj : j < 31) (h : Inv κ j a) :
    Inv κ (j + 1) (if 256 ≤ above κ (a ||| (1#32 <<< (30 - j))).toInt then a ||| (1#32 <<< (30 - j)) else a) := by
  obtain ⟨hq, h1, h2⟩ := h
  obtain ⟨en, ei⟩ := set_bit hj hq
  obtain ⟨q, hq⟩ := hq
  have hp : (2 : ℕ) ^ (31 - j) = 2 * 2 ^ (30 - j) := by rw [show 31 - j = (30 - j) + 1 by omega, pow_succ]; ring
  have hpz : (2 : ℤ) ^ (31 - j) = 2 ^ (30 - j) + 2 ^ (30 - j) := by rw [show 31 - j = (30 - j) + 1 by omega, pow_succ]; ring
  have ej : 31 - (j + 1) = 30 - j := by omega
  split_ifs with h3
  · refine ⟨⟨2 * q + 1, ?_⟩, h3, ?_⟩
    · rw [en, ej, hq, hp]; ring
    · rw [ei, ej, add_assoc, ← hpz]; exact h2
  · refine ⟨⟨2 * q, ?_⟩, h1, ?_⟩
    · rw [ej, hq, hp]; ring
    · rw [ej, ← ei]; omega

/-- After every bit the word is the 256th greatest key. -/
theorem inv_last {a : BitVec 32} (h : Inv κ 31 a) : 256 ≤ above κ a.toInt ∧ above κ (a.toInt + 1) < 256 := h.2

/-! ## Running counts -/

/-- How many of the `d` positions ending at `t` satisfy `p`. -/
def run (p : Fin 2048 → Prop) (d : ℕ) (t : Fin 2048) : ℕ :=
  (Finset.univ.filter fun s : Fin 2048 => s.val ≤ t.val ∧ t.val < s.val + d ∧ p s).card

/-- Of one position. -/
theorem run_one (p : Fin 2048 → Prop) (t : Fin 2048) : run p 1 t = if p t then 1 else 0 := by
  rw [run, show (Finset.univ.filter fun s : Fin 2048 => s.val ≤ t.val ∧ t.val < s.val + 1 ∧ p s)
    = Finset.univ.filter fun s => s = t ∧ p t from Finset.filter_congr fun s _ =>
      ⟨fun ⟨h1, h2, h3⟩ => by have e : s = t := Fin.ext (by omega); exact ⟨e, e ▸ h3⟩, fun ⟨h1, h2⟩ => by subst h1; exact ⟨le_rfl, by omega, h2⟩⟩]
  split_ifs with h
  · exact Finset.card_eq_one.mpr ⟨t, by ext s; simp [h]⟩
  · simp [h]

/-- Doubling: `d` positions and the `d` before them. -/
theorem run_step (p : Fin 2048 → Prop) (d : ℕ) (t : Fin 2048) :
    run p (2 * d) t = run p d t + if h : t.val < d then 0 else run p d ⟨t.val - d, by omega⟩ := by
  have e : (Finset.univ.filter fun s : Fin 2048 => s.val ≤ t.val ∧ t.val < s.val + 2 * d ∧ p s)
      = (Finset.univ.filter fun s : Fin 2048 => s.val ≤ t.val ∧ t.val < s.val + d ∧ p s)
        ∪ (Finset.univ.filter fun s : Fin 2048 => s.val + d ≤ t.val ∧ t.val < s.val + 2 * d ∧ p s) := by
    ext s
    simp only [Finset.mem_filter, Finset.mem_univ, true_and, Finset.mem_union]
    constructor
    · rintro ⟨h1, h2, h3⟩
      by_cases h4 : t.val < s.val + d
      · exact .inl ⟨h1, h4, h3⟩
      · exact .inr ⟨by omega, h2, h3⟩
    · rintro (⟨h1, h2, h3⟩ | ⟨h1, h2, h3⟩)
      · exact ⟨h1, by omega, h3⟩
      · exact ⟨by omega, h2, h3⟩
  rw [run, e, Finset.card_union_of_disjoint]
  · congr 1
    split_ifs with h
    · exact Finset.card_eq_zero.mpr (Finset.filter_eq_empty_iff.mpr fun s _ h' => by omega)
    · refine congrArg Finset.card (Finset.filter_congr fun s _ => ?_)
      show _ ↔ s.val ≤ t.val - d ∧ t.val - d < s.val + d ∧ p s
      constructor
      · rintro ⟨h1, h2, h3⟩; exact ⟨by omega, by omega, h3⟩
      · rintro ⟨h1, h2, h3⟩; exact ⟨by omega, by omega, h3⟩
  · refine Finset.disjoint_left.mpr fun s h1 h2 => ?_
    have := (Finset.mem_filter.mp h1).2
    have := (Finset.mem_filter.mp h2).2
    omega

/-- All positions up to `t`. -/
theorem run_all (p : Fin 2048 → Prop) (t : Fin 2048) :
    run p 2048 t = (Finset.univ.filter fun s : Fin 2048 => s.val ≤ t.val ∧ p s).card :=
  congrArg Finset.card (Finset.filter_congr fun s _ => ⟨fun h => ⟨h.1, h.2.2⟩, fun h => ⟨h.1, by omega, h.2⟩⟩)

/-- A satisfying position's running count: itself and those before it. -/
theorem run_of {p : Fin 2048 → Prop} (h : p t) :
    run p 2048 t = (Finset.univ.filter fun s : Fin 2048 => s.val < t.val ∧ p s).card + 1 := by
  rw [run_all, show (Finset.univ.filter fun s : Fin 2048 => s.val ≤ t.val ∧ p s)
      = insert t (Finset.univ.filter fun s : Fin 2048 => s.val < t.val ∧ p s) from ?_, Finset.card_insert_of_notMem (by simp)]
  ext s
  simp only [Finset.mem_filter, Finset.mem_univ, true_and, Finset.mem_insert, Fin.ext_iff]
  constructor
  · rintro ⟨h1, h2⟩
    by_cases h3 : s.val = t.val
    · exact .inl h3
    · exact .inr ⟨by omega, h2⟩
  · rintro (h1 | ⟨h1, h2⟩)
    · exact ⟨by omega, by rw [Fin.ext h1]; exact h⟩
    · exact ⟨by omega, h2⟩

end Cert.C2Ideal.Choice

end
-- ==== Proof.C2IdealCount.lean ====
/-
  The routing kernel's choice over the extended reals: the 256th greatest key, found bit by bit, and running counts.
-/
module

public import proofs.«01_k».proof.Proof.C2IdealChoice
public import Idealize.ShloMosaic.Lib.Pointwise
public import Idealize.ShloMosaic.Lib.Pointwise.IndexVar
public import Idealize.ShloMosaic.PureOps.Ideal

@[expose] public section

set_option maxRecDepth 16384

noncomputable section

namespace Cert.C2Ideal.Math

open Cert.C2Ideal Cert.C2Ideal.Gen Cert.C2Ideal.Run Cert.C2Ideal.Choice
open Idealize.ShloMosaic
open scoped Classical

/-! ## Words, flags and counts -/

/-- A position's key: the logit's word, its lower bits flipped when the sign bit is set. -/
def key (w : Vec Ideal S2x2048 .i32) (b : Fin 2) (t : Fin 2048) : BitVec 32 :=
  if 0 ≤ (w (ix2 b t)).toInt then w (ix2 b t) else w (ix2 b t) ^^^ 2147483647#32
/-- The keys of one batch as integers. -/
def keys (w : Vec Ideal S2x2048 .i32) (b : Fin 2) (t : Fin 2048) : ℤ := (key w b t).toInt
/-- A flag's value. -/
def flag (p : Prop) : EReal := if p then 1 else 0

theorem keys_range (w : Vec Ideal S2x2048 .i32) (b : Fin 2) (t : Fin 2048) : -2 ^ 31 ≤ keys w b t ∧ keys w b t < 2 ^ 31 :=
  ⟨BitVec.le_toInt _, BitVec.toInt_lt⟩

theorem bit_if (p : Prop) [Decidable p] : BitVec.ofBool (decide p) = if p then 1#1 else 0#1 := by by_cases h : p <;> simp [h]
/-- A choice by a flag. -/
theorem select_if {α : Type} (p : Prop) [Decidable p] (x y : α) : Scalar.select (BitVec.ofBool (decide p)) x y = if p then x else y := by
  by_cases h : p <;> simp [h, Scalar.select]
theorem cmpi_sge (x y : BitVec 32) : IntOp.cmpi CmpIPredicate.sge x y = BitVec.ofBool (decide (y.toInt ≤ x.toInt)) := rfl
theorem cmpi_sgt (x y : BitVec 32) : IntOp.cmpi CmpIPredicate.sgt x y = BitVec.ofBool (decide (y.toInt < x.toInt)) := rfl
theorem cmpi_slt (x y : BitVec 32) : IntOp.cmpi CmpIPredicate.slt x y = BitVec.ofBool (decide (x.toInt < y.toInt)) := rfl
theorem cmpi_eq (x y : BitVec 32) : IntOp.cmpi CmpIPredicate.eq x y = BitVec.ofBool (decide (x.toInt = y.toInt)) := by
  show BitVec.ofBool (x == y) = _
  rw [show (x == y) = decide (x.toInt = y.toInt) from by
    rw [Bool.eq_iff_iff, beq_iff_eq, decide_eq_true_iff]; exact BitVec.toInt_inj.symm]
/-- A flag as a float. -/
theorem flag_si (p : Prop) [Decidable p] : (FloatOps.sitofp (F := Ideal) FTy.f32 (BitVec.setWidth 32 (BitVec.ofBool (decide p))) : EReal) = flag p := by
  unfold flag
  by_cases h : p
  · rw [show decide p = true from decide_eq_true h, if_pos h]
    show (((BitVec.setWidth 32 (BitVec.ofBool true)).toInt : ℝ) : EReal) = 1
    rw [show (BitVec.setWidth 32 (BitVec.ofBool true)).toInt = 1 from rfl]; norm_num
  · rw [show decide p = false from decide_eq_false h, if_neg h]
    show (((BitVec.setWidth 32 (BitVec.ofBool false)).toInt : ℝ) : EReal) = 0
    rw [show (BitVec.setWidth 32 (BitVec.ofBool false)).toInt = 0 from rfl]; norm_num
/-- A sum of flags is a count. -/
theorem count_fold (p : Fin 2048 → Prop) [DecidablePred p] :
    Finset.fold IntOp.addi (0#32) (fun x => BitVec.setWidth 32 (BitVec.ofBool (decide (p x)))) Finset.univ
      = BitVec.ofNat 32 (Finset.univ.filter p).card := by
  rw [IndicatorCount.fold_addi_setWidth_eq_card]
  congr 2
  exact Finset.filter_congr fun x _ => by by_cases h : p x <;> simp [h]
theorem card_le (p : Fin 2048 → Prop) [DecidablePred p] : (Finset.univ.filter p).card ≤ 2048 :=
  (Finset.card_filter_le _ _).trans (by simp)
/-- A small count's word. -/
theorem toInt_small {n : ℕ} (h : n ≤ 2048) : (BitVec.ofNat 32 n).toInt = n := by
  rw [BitVec.toInt_eq_toNat_cond, BitVec.toNat_ofNat, Nat.mod_eq_of_lt (by omega), if_pos (by omega)]
/-- A sum of flags' values is their count. -/
theorem sum_flag {ι : Type} (p : ι → Prop) (S : Finset ι) : ∑ x ∈ S, flag (p x) = (((S.filter p).card : ℝ) : EReal) := by
  induction S using Finset.induction_on with
  | empty => simp
  | insert a S ha ih =>
    rw [Finset.sum_insert ha, ih, Finset.filter_insert]
    unfold flag
    split_ifs with h
    · rw [Finset.card_insert_of_notMem fun hm => ha (Finset.mem_filter.mp hm).1, add_comm]; push_cast; rfl
    · rw [zero_add]

/-! ## The 256th greatest key -/

theorem pay4_at (w : Vec Ideal S2x2048 .i32) (b : Fin 2) (t : Fin 2048) : k0_pay4 (F := Ideal) w (ix2 b t) = key w b t := by
  pointwise [k0_pay4]
  rw [cmpi_sge, select_if]
  rfl

theorem pay5_at (w : Vec Ideal S2x2048 .i32) (b : Fin 2) :
    k0_pay5 (F := Ideal) w (ix2 b 0) = if 256 ≤ above (keys w b) 0 then 0#32 else 2147483648#32 := by
  pointwise [k0_pay5]
  simp only [pay4_at, cmpi_sge, count_fold, toInt_small (card_le _), select_if]
  rw [show (256#32).toInt = ((256 : ℕ) : ℤ) from rfl]
  simp only [Nat.cast_le]
  rfl

/-- The trip's bit. -/
theorem trip_bit : ∀ k : Fin 31, Scalar.shli (1#32) (Scalar.subi (30#32) (Scf.iv 0#32 1#32 k.val)) = 1#32 <<< (30 - k.val) := by decide +kernel

theorem pay6_at (w : Vec Ideal S2x2048 .i32) (k : Fin k0_t1_loop.trips) (a : IVec S2x1 32) (b : Fin 2) :
    k0_pay6 (F := Ideal) w k a (ix2 b 0)
      = if 256 ≤ above (keys w b) (a (ix2 b 0) ||| (1#32 <<< (30 - k.val))).toInt then a (ix2 b 0) ||| (1#32 <<< (30 - k.val)) else a (ix2 b 0) := by
  pointwise [k0_pay6]
  rw [trip_bit k]
  simp only [pay4_at, cmpi_sge, count_fold, toInt_small (card_le _), select_if]
  rw [show (256#32).toInt = ((256 : ℕ) : ℤ) from rfl]
  simp only [Nat.cast_le]
  rfl

/-- A property of every step of a fold over the first numbers. -/
theorem fold_ind {α : Type} : ∀ {n : ℕ} (g : α → Fin n → α) (P : ℕ → α → Prop) (a : α), P 0 a →
    (∀ (k : Fin n) (a : α), P k.val a → P (k.val + 1) (g a k)) → P n ((List.finRange n).foldl g a)
  | 0, _, _, _, h, _ => h
  | n + 1, g, P, a, h, hs => by
    rw [List.finRange_succ, List.foldl_cons, List.foldl_map]
    exact fold_ind (fun a k => g a k.succ) (fun k => P (k + 1)) (g a 0) (hs 0 a h) fun k a h => hs k.succ a h

/-- The bisection ends at the 256th greatest key. -/
theorem base_at (w : Vec Ideal S2x2048 .i32) (b : Fin 2) :
    256 ≤ above (keys w b) (base (F := Ideal) w (ix2 b 0)).toInt ∧ above (keys w b) ((base (F := Ideal) w (ix2 b 0)).toInt + 1) < 256 := by
  unfold base
  rw [Scf.fold_eq]
  refine inv_last (fold_ind (n := 31) (fun acc k => k0_pay6 (F := Ideal) w k acc) (fun j a => Inv (keys w b) j (a (ix2 b 0))) _ ?_ fun k a h => ?_)
  · rw [pay5_at]; exact inv_zero (keys_range w b)
  · exact (congrArg (Inv (keys w b) (k.val + 1)) (pay6_at w k a b)).mpr (inv_step k.isLt h)

/-! ## Running counts -/

/-- An array and the array moved `d` places to the right, added. -/
def doubled (d n : ℕ) (hs : S2x2048.Slices ![0, 0] ⟨2, ![2, n]⟩) (hc : Shape.Concatenates [⟨2, ![2, d]⟩, ⟨2, ![2, n]⟩] S2x2048 1)
    (v : FVec Ideal S2x2048 .f32) : FVec Ideal S2x2048 .f32 :=
  addf v (concatenate S2x2048 1 [⟨⟨2, ![2, d]⟩, broadcast ⟨2, ![2, d]⟩ (Scalar.ofBits (F := Ideal) .f32 0x00000000#32)⟩,
    ⟨⟨2, ![2, n]⟩, extractStridedSlice ⟨2, ![2, n]⟩ ![0, 0] v hs⟩] hc)
/-- The running sum by eleven such steps. -/
def summed (v : FVec Ideal S2x2048 .f32) : FVec Ideal S2x2048 .f32 :=
  doubled 1024 1024 slices_S2x2048_o0_0_S2x1024 concatenates_S2x1024_S2x1024_S2x2048_d1 <|
  doubled 512 1536 slices_S2x2048_o0_0_S2x1536 concatenates_S2x512_S2x1536_S2x2048_d1 <|
  doubled 256 1792 slices_S2x2048_o0_0_S2x1792 concatenates_S2x256_S2x1792_S2x2048_d1 <|
  doubled 128 1920 slices_S2x2048_o0_0_S2x1920 concatenates_S2x128_S2x1920_S2x2048_d1 <|
  doubled 64 1984 slices_S2x2048_o0_0_S2x1984 concatenates_S2x64_S2x1984_S2x2048_d1 <|
  doubled 32 2016 slices_S2x2048_o0_0_S2x2016 concatenates_S2x32_S2x2016_S2x2048_d1 <|
  doubled 16 2032 slices_S2x2048_o0_0_S2x2032 concatenates_S2x16_S2x2032_S2x2048_d1 <|
  doubled 8 2040 slices_S2x2048_o0_0_S2x2040 concatenates_S2x8_S2x2040_S2x2048_d1 <|
  doubled 4 2044 slices_S2x2048_o0_0_S2x2044 concatenates_S2x4_S2x2044_S2x2048_d1 <|
  doubled 2 2046 slices_S2x2048_o0_0_S2x2046 concatenates_S2x2_S2x2046_S2x2048_d1 <|
  doubled 1 2047 slices_S2x2048_o0_0_S2x2047 concatenates_S2x1_S2x2047_S2x2048_d1 v

/-- An array of running counts over `d` positions. -/
def Counts (p : Fin 2 → Fin 2048 → Prop) (d : ℕ) (v : FVec Ideal S2x2048 .f32) : Prop :=
  ∀ b t, v (ix2 b t) = (((run (p b) d t : ℕ) : ℝ) : EReal)

/-- A step doubles the counts' reach. -/
theorem counts_doubled {p : Fin 2 → Fin 2048 → Prop} {d n : ℕ} {hs hc} {v : FVec Ideal S2x2048 .f32} (hn : d + n = 2048)
    (h : Counts p d v) : Counts p (2 * d) (doubled d n hs hc v) := by
  intro b t
  have e : doubled d n hs hc v (ix2 b t) = v (ix2 b t) + if h : t.val < d then 0 else v (ix2 b ⟨t.val - d, by omega⟩) := by
    pointwise [doubled]
  rw [e, run_step, h]
  split_ifs with g
  · simp
  · rw [h]; push_cast; rfl

/-- Eleven steps count every position up to each. -/
theorem counts_summed {p : Fin 2 → Fin 2048 → Prop} {v : FVec Ideal S2x2048 .f32} (h : ∀ b t, v (ix2 b t) = flag (p b t)) :
    Counts p 2048 (summed v) := by
  have h1 : Counts p 1 v := fun b t => by
    rw [h, run_one, flag]; split_ifs <;> simp
  exact counts_doubled rfl (counts_doubled rfl (counts_doubled rfl (counts_doubled rfl (counts_doubled rfl (counts_doubled rfl
    (counts_doubled rfl (counts_doubled rfl (counts_doubled rfl (counts_doubled rfl (counts_doubled rfl h1))))))))))

end Cert.C2Ideal.Math

end
-- ==== Proof.C2IdealRoute.lean ====
/-
  What the routing point computes over the extended reals: the mask of the chosen positions, their places, the selection
  matrices, the gates and the losses.
-/
module

public import proofs.«01_k».proof.Proof.C2IdealCount

@[expose] public section

set_option maxRecDepth 16384

noncomputable section

namespace Cert.C2Ideal.Math

open Cert.C2Ideal Cert.C2Ideal.Gen Cert.C2Ideal.Run Cert.C2Ideal.Choice
open Idealize.ShloMosaic
open scoped Classical

/-! ## The numbers that the words of the constants are -/

theorem one_eq : Ideal.ofBits .f32 0x3F800000#32 = 1 := by
  unfold Ideal.ofBits Ideal.ieee
  simp [-EReal.coe_mul]
  norm_num
theorem half_eq : Ideal.ofBits .f32 0x3F000000#32 = ((1 / 2 : ℝ) : EReal) := by
  unfold Ideal.ofBits Ideal.ieee
  simp [-EReal.coe_mul]
  norm_num
theorem places_eq : Ideal.ofBits .f32 0x43800000#32 = ((256 : ℝ) : EReal) := by
  unfold Ideal.ofBits Ideal.ieee
  simp [-EReal.coe_mul]
  norm_num

/-! ## The selection mask -/

/-- How many positions before `t` are chosen. -/
def rank (w : Vec Ideal S2x2048 .i32) (b : Fin 2) (t : Fin 2048) : ℕ :=
  (Finset.univ.filter fun s : Fin 2048 => s.val < t.val ∧ Chosen (keys w b) s).card
/-- Position `t` is the `k`-th chosen one. -/
def Picked (w : Vec Ideal S2x2048 .i32) (b : Fin 2) (k : ℕ) (t : Fin 2048) : Prop := Chosen (keys w b) t ∧ rank w b t = k

theorem rank_le (w : Vec Ideal S2x2048 .i32) (b : Fin 2) (t : Fin 2048) : rank w b t ≤ 2048 := card_le _

variable (w : Vec Ideal S2x2048 .i32) (b : Fin 2) (t : Fin 2048)

theorem pay7_at (a : IVec S2x1 32) : k0_pay7 (F := Ideal) w a (ix2 b t) = flag ((a (ix2 b 0)).toInt < keys w b t) := by
  pointwise [k0_pay7]
  rw [pay4_at, cmpi_sgt, flag_si]
  rfl
theorem pay8_at (a : IVec S2x1 32) : k0_pay8 (F := Ideal) w a (ix2 b t) = flag (keys w b t = (a (ix2 b 0)).toInt) := by
  pointwise [k0_pay8]
  rw [pay4_at, cmpi_eq, flag_si]
  rfl
theorem pay9_at (a : IVec S2x1 32) :
    k0_pay9 (F := Ideal) w a (ix2 b 0) = ((256 - (above (keys w b) ((a (ix2 b 0)).toInt + 1) : ℝ) : ℝ) : EReal) := by
  pointwise [k0_pay9]
  simp only [pay7_at]
  rw [places_eq, sum_flag, ← EReal.coe_sub]
  refine congrArg (fun n : ℕ => ((256 - (n : ℝ) : ℝ) : EReal)) ?_
  unfold above
  congr 1
  ext s
  simp only [Finset.mem_filter, Finset.mem_univ, true_and]
  exact Int.lt_iff_add_one_le

/-- The mask: above the threshold, or at it while places are left. -/
theorem mask_eq : mask (F := Ideal) w = addf (k0_pay7 w (base w)) (mulf (k0_pay8 w (base w))
    (sitofp .f32 (extui 32 (cmpf .ole (summed (k0_pay8 w (base w))) (broadcastTo S2x2048 (k0_pay9 w (base w)) broadcasts_S2x1_S2x2048)) natLt_1_32))) := rfl

theorem mask_at : mask (F := Ideal) w (ix2 b t) = flag (Chosen (keys w b) t) := by
  obtain ⟨h1, h2⟩ := base_at w b
  have e : mask (F := Ideal) w (ix2 b t) = flag ((base (F := Ideal) w (ix2 b 0)).toInt < keys w b t)
      + flag (keys w b t = (base (F := Ideal) w (ix2 b 0)).toInt)
        * flag ((Finset.univ.filter fun s : Fin 2048 => s.val ≤ t.val ∧ keys w b s = (base (F := Ideal) w (ix2 b 0)).toInt).card
          + above (keys w b) ((base (F := Ideal) w (ix2 b 0)).toInt + 1) ≤ 256) := by
    rw [mask_eq]
    pointwise []
    rw [pay7_at, pay8_at, counts_summed (fun b t => pay8_at w b t (base w)), pay9_at, run_all, flag_si]
    congr 2
    refine congrArg flag (propext ?_)
    rw [EReal.coe_le_coe_iff]
    constructor
    · intro h
      have h' := add_le_of_le_sub_right h
      exact_mod_cast h'
    · intro h
      exact le_sub_right_of_add_le (by exact_mod_cast h)
  rw [e]
  rcases lt_trichotomy (base (F := Ideal) w (ix2 b 0)).toInt (keys w b t) with h | h | h
  · rw [flag, if_pos h, flag, if_neg (ne_of_gt h), zero_mul, add_zero, flag, if_pos (chosen_of_gt h2 h)]
  · rw [flag, if_neg (by omega), flag, if_pos h.symm, one_mul, zero_add, chosen_of_eq h.symm]
  · rw [flag, if_neg (by omega), flag, if_neg (ne_of_lt h), zero_mul, add_zero, flag, if_neg (not_chosen_of_lt h1 h)]

/-! ## The places -/

theorem place_eq : place (F := Ideal) w
    = fptosi 32 (subf (summed (mask (F := Ideal) w)) (broadcast S2x2048 (Scalar.ofBits (F := Ideal) .f32 0x3F800000#32))) := rfl

/-- A chosen position's place is the number of those before it. -/
theorem place_at (h : Chosen (keys w b) t) : place (F := Ideal) w (ix2 b t) = BitVec.ofNat 32 (rank w b t) := by
  have e : place (F := Ideal) w (ix2 b t)
      = Ideal.fptosi 32 ((((run (fun s => Chosen (keys w b) s) 2048 t : ℕ) : ℝ) : EReal) - 1) := by
    rw [place_eq]
    pointwise []
    rw [counts_summed (fun b t => mask_at w b t)]
    rfl
  rw [e, run_of h]
  have hr := rank_le w b t
  rw [show ((((Finset.univ.filter fun s : Fin 2048 => s.val < t.val ∧ Chosen (keys w b) s).card + 1 : ℕ) : ℝ) : EReal) - 1
      = (((rank w b t : ℤ) : ℝ) : EReal) from by
    rw [← EReal.coe_one, ← EReal.coe_sub]; rw [Nat.cast_add, Nat.cast_one, add_sub_cancel_right, Int.cast_natCast]; rfl]
  unfold Ideal.fptosi
  rw [Ideal.toIntClamped_coe, if_pos (by positivity), Int.floor_intCast, min_eq_right (by omega), max_eq_right (by omega), BitVec.ofInt_natCast]

/-! ## The selection matrices and the gates -/

/-- An entry of a selection matrix. -/
theorem pick_bit (u : BitVec 32) (p q : Prop) [Decidable q] (n k : ℕ) (hk : k < 256) (hn : n ≤ 2048) (hu : p → u = BitVec.ofNat 32 n)
    (hq : q ↔ p ∧ n = k) :
    IntOp.andi (IntOp.cmpi .eq u (BitVec.ofNat 32 k)) (BitVec.ofBool (decide (Ideal.ofBits .f32 0x3F000000#32 < flag p)))
      = BitVec.ofBool (decide q) := by
  have hc : Ideal.ofBits .f32 0x3F000000#32 < flag p ↔ p := by
    rw [half_eq]
    by_cases hp : p
    · rw [show flag p = ((1 : ℝ) : EReal) from if_pos hp, EReal.coe_lt_coe_iff]
      exact iff_of_true (by norm_num) hp
    · rw [show flag p = ((0 : ℝ) : EReal) from if_neg hp, EReal.coe_lt_coe_iff]
      exact iff_of_false (by norm_num) hp
  rw [decide_eq_decide.mpr hc, decide_eq_decide.mpr hq, cmpi_eq]
  by_cases hp : p
  · rw [decide_eq_true hp, hu hp, toInt_small hn, toInt_small (by omega)]
    simp only [hp, true_and, Nat.cast_inj]
    by_cases h : n = k <;> simp [h, IntOp.andi]
  · rw [decide_eq_false hp, decide_eq_false fun h : p ∧ n = k => hp h.1]
    exact BitVec.and_zero

theorem pay18_at (k : Fin 256) : k0_pay18 (F := Ideal) (mask w) (place w) (ix2 k t) = BitVec.ofBool (decide (Picked w 0 k.val t)) := by
  pointwise [k0_pay18]
  rw [mask_at]
  exact pick_bit _ _ _ _ _ k.isLt (rank_le w 0 t) (place_at w 0 t) Iff.rfl
theorem pay21_at (k : Fin 256) : k0_pay21 (F := Ideal) (mask w) (place w) (ix2 k t) = BitVec.ofBool (decide (Picked w 1 k.val t)) := by
  pointwise [k0_pay21]
  rw [mask_at]
  exact pick_bit _ _ _ _ _ k.isLt (rank_le w 1 t) (place_at w 1 t) Iff.rfl

theorem pay19_at (k : Fin 256) : k0_pay19 (F := Ideal) (mask w) (place w) (ix3 0 k t) = flag (Picked w 0 k.val t) := by
  pointwise [k0_pay19]
  rw [pay18_at, flag_si]
theorem pay23_at (k : Fin 256) : k0_pay23 (F := Ideal) (k0_pay22 (mask w) (place w)) (ix3 0 k t) = flag (Picked w 1 k.val t) := by
  pointwise [k0_pay23, k0_pay22]
  rw [pay21_at, flag_si]

/-- A store of a leading slice, read in that slice and in the other. -/
theorem put3_same {α : Type} (x : S2x256x2048.Idx → α) (v : S1x256x2048.Idx → α) (n : ℕ) (b : Fin 2) (k : Fin 256) (t : Fin 2048) (h : b.val = n) :
    VecWindow.put (s := S2x256x2048) x ![n, 0, 0] S1x256x2048.size v (ix3 b k t) = v (ix3 0 k t) := by
  unfold VecWindow.put
  have hall : ∀ a : Fin 3, (![n, 0, 0] : Fin 3 → ℕ) a ≤ ((ix3 b k t : S2x256x2048.Idx) a).val
      ∧ ((ix3 b k t : S2x256x2048.Idx) a).val < (![n, 0, 0] : Fin 3 → ℕ) a + S1x256x2048.size a := by
    intro a; fin_cases a
    · show n ≤ b.val ∧ b.val < n + 1; omega
    · show 0 ≤ k.val ∧ k.val < 0 + 256; have := k.isLt; omega
    · show 0 ≤ t.val ∧ t.val < 0 + 2048; have := t.isLt; omega
  rw [dif_pos hall]
  refine congrArg v (funext fun a => Fin.ext ?_)
  fin_cases a
  · show b.val - n = 0; omega
  · show k.val - 0 = k.val; omega
  · show t.val - 0 = t.val; omega
theorem put3_other {α : Type} (x : S2x256x2048.Idx → α) (v : S1x256x2048.Idx → α) (n : ℕ) (b : Fin 2) (k : Fin 256) (t : Fin 2048) (h : b.val ≠ n) :
    VecWindow.put (s := S2x256x2048) x ![n, 0, 0] S1x256x2048.size v (ix3 b k t) = x (ix3 b k t) := by
  unfold VecWindow.put
  rw [dif_neg]
  intro hall
  have h0 : n ≤ b.val ∧ b.val < n + 1 := hall 0
  omega
theorem put2_same {α : Type} (x : S2x256.Idx → α) (v : S1x256.Idx → α) (n : ℕ) (b : Fin 2) (k : Fin 256) (h : b.val = n) :
    VecWindow.put (s := S2x256) x ![n, 0] S1x256.size v (ix2 b k) = v (ix2 0 k) := by
  unfold VecWindow.put
  have hall : ∀ a : Fin 2, (![n, 0] : Fin 2 → ℕ) a ≤ ((ix2 b k : S2x256.Idx) a).val
      ∧ ((ix2 b k : S2x256.Idx) a).val < (![n, 0] : Fin 2 → ℕ) a + S1x256.size a := by
    intro a; fin_cases a
    · show n ≤ b.val ∧ b.val < n + 1; omega
    · show 0 ≤ k.val ∧ k.val < 0 + 256; have := k.isLt; omega
  rw [dif_pos hall]
  refine congrArg v (funext fun a => Fin.ext ?_)
  fin_cases a
  · show b.val - n = 0; omega
  · show k.val - 0 = k.val; omega
theorem put2_other {α : Type} (x : S2x256.Idx → α) (v : S1x256.Idx → α) (n : ℕ) (b : Fin 2) (k : Fin 256) (h : b.val ≠ n) :
    VecWindow.put (s := S2x256) x ![n, 0] S1x256.size v (ix2 b k) = x (ix2 b k) := by
  unfold VecWindow.put
  rw [dif_neg]
  intro hall
  have h0 : n ≤ b.val ∧ b.val < n + 1 := hall 0
  omega

/-- The selection matrices: row `k` of batch `b` picks the batch's `k`-th chosen position. -/
theorem sel_at (x : Vec Ideal S2x256x2048 .bf16) (k : Fin 256) : sel (F := Ideal) w x (ix3 b k t) = flag (Picked w b k.val t) := by
  unfold sel
  by_cases h : b = 1
  · subst h
    exact (put3_same _ _ 1 1 k t rfl).trans (pay23_at w t k)
  · obtain rfl : b = 0 := by omega
    exact (put3_other _ _ 1 0 k t (by decide)).trans ((put3_same _ _ 0 0 k t rfl).trans (pay19_at w t k))

/-- A position's logit: the float of its word. -/
def logit (w : Vec Ideal S2x2048 .i32) (b : Fin 2) (t : Fin 2048) : EReal := bitcastToFloat (F := Ideal) .f32 w (ix2 b t)
/-- A position's gate: the logistic function of its logit. -/
def gate (w : Vec Ideal S2x2048 .i32) (b : Fin 2) (t : Fin 2048) : EReal := Ideal.div 1 (1 + Ideal.exp (-logit w b t))

theorem pay16_at : k0_pay16 (F := Ideal) (k0_pay3 w) (ix2 b t) = gate w b t := by
  pointwise [k0_pay16]
  rw [show k0_pay3 (F := Ideal) w (ix2 b t) = logit w b t from rfl]
  unfold gate
  rw [zero_sub]

theorem flag_mul (p : Prop) [Decidable p] (x : EReal) : (if p then x else 0) = flag p * x := by
  unfold flag
  by_cases h : p <;> simp [h]

/-- The gates of the chosen positions, in their order. -/
theorem gates_at (x : Vec Ideal S2x256 .f32) (k : Fin 256) :
    gates (F := Ideal) w x (ix2 b k) = ∑ t : Fin 2048, flag (Picked w b k.val t) * gate w b t := by
  unfold gates
  by_cases h : b = 1
  · subst h
    refine (put2_same _ _ 1 1 k rfl).trans ?_
    pointwise [k0_pay24]
    refine Finset.sum_congr rfl fun t _ => ?_
    rw [pay21_at, select_if, pay16_at, flag_mul]
  · obtain rfl : b = 0 := by omega
    refine (put2_other _ _ 1 0 k (by decide)).trans ((put2_same _ _ 0 0 k rfl).trans ?_)
    pointwise [k0_pay20]
    refine Finset.sum_congr rfl fun t _ => ?_
    rw [pay18_at, select_if, pay16_at, flag_mul]

/-! ## The losses -/

/-- The mean binary cross entropy of logits `v` against the chosen positions. -/
def bce (v : Fin 2 → Fin 2048 → EReal) (w : Vec Ideal S2x2048 .i32) : EReal :=
  Ideal.div (∑ b : Fin 2, ∑ t : Fin 2048, (max (v b t) 0 - v b t * flag (Chosen (keys w b) t)
    + Ideal.log (1 + Ideal.exp (-FloatOps.absf (F := Ideal) (φ := .f32) (v b t))))) (Ideal.ofBits .f32 0x45800000#32)
/-- The mean squared logit, times its weight. -/
def zloss (w : Vec Ideal S2x2048 .i32) : EReal :=
  Ideal.div (∑ b : Fin 2, ∑ t : Fin 2048, logit w b t * logit w b t) (Ideal.ofBits .f32 0x45800000#32) * Ideal.ofBits .f32 0x38D1B717#32

theorem pay25_at : k0_pay25 (F := Ideal) (k0_pay3 w) (mask w) (ix2 0 0) = bce (logit w) w := by
  pointwise [k0_pay25]
  unfold bce
  simp only [mask_at, zero_sub]
  rfl
theorem pay26_at : k0_pay26 (F := Ideal) (k0_pay3 w) (ix2 0 0) = zloss w := by
  pointwise [k0_pay26]
  rfl
theorem pay1_at (g : Vec Ideal S2x2048 .f32) : k0_pay1 (F := Ideal) (mask w) g (ix2 0 0) = bce (fun b t => g (ix2 b t)) w := by
  pointwise [k0_pay1]
  unfold bce
  simp only [mask_at, zero_sub]

end Cert.C2Ideal.Math

end
-- ==== Proof.C2IdealBodyRoute.lean ====
module

public import proofs.«01_k».proof.Proof.C2IdealBody

@[expose] public section

set_option maxRecDepth 16384

noncomputable section

namespace Cert.C2Ideal.Run

open Cert.C2Ideal Cert.C2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Point 0: the routing. -/
theorem run_route (c : Dev nD) (i : grid0.Coords) (arg1 : Memref sig .tc .vmem S2x2048 .i32) (harg1 : arg1.IsWhole) (arg2 : Memref sig .tc .vmem S2x2048 .f32) (harg2 : arg2.IsWhole) (arg3 : Memref sig .tc .vmem S1x2048x1024 .bf16) (harg3 : arg3.IsWhole) (arg4 : Memref sig .tc .vmem S2x256x2048 .bf16) (harg4 : arg4.IsWhole) (arg5 : Memref sig .tc .vmem S2x2048 .f32) (harg5 : arg5.IsWhole) (arg6 : Memref sig .tc .vmem S2x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x1024 .f32) (harg10 : arg10.IsWhole)
    (h1 : k0_cond1 i = 1#1) (h2 : ¬ k0_cond2 i = 1#1)
    (x1 : Vec F S2x2048 .i32) (x2 : Vec F S2x2048 .f32) (x3 : Vec F S1x2048x1024 .bf16) (x4 : Vec F S2x256x2048 .bf16) (x5 : Vec F S2x2048 .f32) (x6 : Vec F S2x256 .f32) (x7 : Vec F S1x1 .f32) (x8 : Vec F S1x1 .f32) (x9 : Vec F S1x1 .f32) (x10 : Vec F S256x1024 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ (iprop(owns (c : Thread nD τ) arg1 fullShare x1 ∗ owns (c : Thread nD τ) arg2 fullShare x2 ∗ owns (c : Thread nD τ) arg3 fullShare x3 ∗ owns (c : Thread nD τ) arg4 fullShare (sel x1 x4) ∗ owns (c : Thread nD τ) arg5 fullShare (mask x1) ∗ owns (c : Thread nD τ) arg6 fullShare (gates x1 x6) ∗ owns (c : Thread nD τ) arg7 fullShare (k0_pay25 (k0_pay3 x1) (mask x1)) ∗ owns (c : Thread nD τ) arg8 fullShare (k0_pay26 (k0_pay3 x1)) ∗ owns (c : Thread nD τ) arg9 fullShare (k0_pay1 (mask x1) x2) ∗ owns (c : Thread nD τ) arg10 fullShare x10) -∗ K ⟨⟩))
          ⊢ wp frame (wpE (defs₀ (F := F)) Variants.none c none) E (cc0__c2_body i arg1 harg1 arg2 harg2 arg3 harg3 arg4 harg4 arg5 harg5 arg6 harg6 arg7 harg7 arg8 harg8 arg9 harg9 arg10 harg10) K := by
  intro E K
  simp only [cc0__c2_body_eq_skeleton]; unfold cc0__c2_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    sl_open_run
    have e1 : View.readAt (Elt F) arg1.view (Rect.unit (s := S2x2048) ![0, 0] S2x2048.size inb_S2x2048_S2x2048_0_0).toLoadRect (harg1.unread x1) = x1 := (View.readAt_full _ _ _).trans (harg1.read_unread x1)
    rw [View.read_writes_cons_put _ _ _ _ _ rfl, View.read_writes_cons_put _ _ _ _ _ rfl, View.writes_nil, harg4.read_unread, e1]
    rfl
  isplitl [H5]
  · iexists _; isplitr; swap; · iexact H5
    ipureintro
    sl_open_run
    refine (View.read_writes_full _ _ _ _ _).trans ?_
    have e1 : View.readAt (Elt F) arg1.view (Rect.unit (s := S2x2048) ![0, 0] S2x2048.size inb_S2x2048_S2x2048_0_0).toLoadRect (harg1.unread x1) = x1 := (View.readAt_full _ _ _).trans (harg1.read_unread x1)
    rw [e1]
    rfl
  isplitl [H6]
  · iexists _; isplitr; swap; · iexact H6
    ipureintro
    sl_open_run
    have e1 : View.readAt (Elt F) arg1.view (Rect.unit (s := S2x2048) ![0, 0] S2x2048.size inb_S2x2048_S2x2048_0_0).toLoadRect (harg1.unread x1) = x1 := (View.readAt_full _ _ _).trans (harg1.read_unread x1)
    rw [View.read_writes_cons_put _ _ _ _ _ rfl, View.read_writes_cons_put _ _ _ _ _ rfl, View.writes_nil, harg6.read_unread, e1]
    rfl
  isplitl [H7]
  · iexists _; isplitr; swap; · iexact H7
    ipureintro
    sl_open_run
    refine (View.read_writes_full _ _ _ _ _).trans ?_
    have e1 : View.readAt (Elt F) arg1.view (Rect.unit (s := S2x2048) ![0, 0] S2x2048.size inb_S2x2048_S2x2048_0_0).toLoadRect (harg1.unread x1) = x1 := (View.readAt_full _ _ _).trans (harg1.read_unread x1)
    rw [e1]
    rfl
  isplitl [H8]
  · iexists _; isplitr; swap; · iexact H8
    ipureintro
    sl_open_run
    refine (View.read_writes_full _ _ _ _ _).trans ?_
    have e1 : View.readAt (Elt F) arg1.view (Rect.unit (s := S2x2048) ![0, 0] S2x2048.size inb_S2x2048_S2x2048_0_0).toLoadRect (harg1.unread x1) = x1 := (View.readAt_full _ _ _).trans (harg1.read_unread x1)
    rw [e1]
  isplitl [H9]
  · iexists _; isplitr; swap; · iexact H9
    ipureintro
    sl_open_run
    refine (View.read_writes_full _ _ _ _ _).trans ?_
    have e1 : View.readAt (Elt F) arg1.view (Rect.unit (s := S2x2048) ![0, 0] S2x2048.size inb_S2x2048_S2x2048_0_0).toLoadRect (harg1.unread x1) = x1 := (View.readAt_full _ _ _).trans (harg1.read_unread x1)
    have e2 : View.readAt (Elt F) arg2.view (Rect.unit (s := S2x2048) ![0, 0] S2x2048.size inb_S2x2048_S2x2048_0_0).toLoadRect (harg2.unread x2) = x2 := (View.readAt_full _ _ _).trans (harg2.read_unread x2)
    rw [e1, e2]
    rfl
  iexists _; isplitr; · ipureintro; exact harg10.read_unread _
  iexact H10

end Cert.C2Ideal.Run

end
-- ==== Proof.C2IdealBodyGather.lean ====
module

public import proofs.«01_k».proof.Proof.C2IdealBody

@[expose] public section

set_option maxRecDepth 16384

noncomputable section

namespace Cert.C2Ideal.Run

open Cert.C2Ideal Cert.C2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Points 1..4: one batch's selected rows, one column tile. -/
theorem run_gather (c : Dev nD) (i : grid0.Coords) (arg1 : Memref sig .tc .vmem S2x2048 .i32) (harg1 : arg1.IsWhole) (arg2 : Memref sig .tc .vmem S2x2048 .f32) (harg2 : arg2.IsWhole) (arg3 : Memref sig .tc .vmem S1x2048x1024 .bf16) (harg3 : arg3.IsWhole) (arg4 : Memref sig .tc .vmem S2x256x2048 .bf16) (harg4 : arg4.IsWhole) (arg5 : Memref sig .tc .vmem S2x2048 .f32) (harg5 : arg5.IsWhole) (arg6 : Memref sig .tc .vmem S2x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x1024 .f32) (harg10 : arg10.IsWhole)
    (h1 : ¬ k0_cond1 i = 1#1) (h2 : k0_cond2 i = 1#1)
    (x1 : Vec F S2x2048 .i32) (x2 : Vec F S2x2048 .f32) (x3 : Vec F S1x2048x1024 .bf16) (x4 : Vec F S2x256x2048 .bf16) (x5 : Vec F S2x2048 .f32) (x6 : Vec F S2x256 .f32) (x7 : Vec F S1x1 .f32) (x8 : Vec F S1x1 .f32) (x9 : Vec F S1x1 .f32) (x10 : Vec F S256x1024 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay2 (selAt x4 (((i 0).val - 1) / 2) (batch_lt i)) x3)) -∗ K ⟨⟩))
          ⊢ wp frame (wpE (defs₀ (F := F)) Variants.none c none) E (cc0__c2_body i arg1 harg1 arg2 harg2 arg3 harg3 arg4 harg4 arg5 harg5 arg6 harg6 arg7 harg7 arg8 harg8 arg9 harg9 arg10 harg10) K := by
  intro E K
  simp only [cc0__c2_body_eq_skeleton]; unfold cc0__c2_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap; · iexact H10
  ipureintro
  sl_open_run
  exact (View.read_writes_full _ _ _ _ _).trans (pay2_congr (F := F) ((rd _ _ _).trans (by rw [harg4.read_unread]; exact window_congr _ (batch_eq i h2) _ _)) ((View.readAt_full _ _ _).trans (harg3.read_unread _)))

end Cert.C2Ideal.Run

end
-- ==== Proof.C2IdealStep.lean ====
/-
  One run of the kernel's body at any grid point: the output blocks after it, as functions of what the windows' buffers
  held before it.
-/
module

public import proofs.«01_k».proof.Proof.C2IdealBodyRoute
public import proofs.«01_k».proof.Proof.C2IdealBodyGather

@[expose] public section

set_option maxRecDepth 16384

noncomputable section

namespace Cert.C2Ideal.Run

open Cert.C2Ideal Cert.C2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The selection matrices after a point: formed at point 0, kept after it. -/
def nx4 (i : grid0.Coords) (x1 : Vec F S2x2048 .i32) (x4 : Vec F S2x256x2048 .bf16) : Vec F S2x256x2048 .bf16 :=
  if (i 0).val = 0 then sel x1 x4 else x4
/-- The mask after a point: formed at point 0, kept after it. -/
def nx5 (i : grid0.Coords) (x1 : Vec F S2x2048 .i32) (x5 : Vec F S2x2048 .f32) : Vec F S2x2048 .f32 :=
  if (i 0).val = 0 then mask x1 else x5
/-- The gates after a point: formed at point 0, kept after it. -/
def nx6 (i : grid0.Coords) (x1 : Vec F S2x2048 .i32) (x6 : Vec F S2x256 .f32) : Vec F S2x256 .f32 :=
  if (i 0).val = 0 then gates x1 x6 else x6
/-- The router's loss after a point: formed at point 0, kept after it. -/
def nx7 (i : grid0.Coords) (x1 : Vec F S2x2048 .i32) (x7 : Vec F S1x1 .f32) : Vec F S1x1 .f32 :=
  if (i 0).val = 0 then k0_pay25 (k0_pay3 x1) (mask x1) else x7
/-- The logits' square loss after a point: formed at point 0, kept after it. -/
def nx8 (i : grid0.Coords) (x1 : Vec F S2x2048 .i32) (x8 : Vec F S1x1 .f32) : Vec F S1x1 .f32 :=
  if (i 0).val = 0 then k0_pay26 (k0_pay3 x1) else x8
/-- The predictor's loss after a point: formed at point 0, kept after it. -/
def nx9 (i : grid0.Coords) (x1 : Vec F S2x2048 .i32) (x2 : Vec F S2x2048 .f32) (x9 : Vec F S1x1 .f32) : Vec F S1x1 .f32 :=
  if (i 0).val = 0 then k0_pay1 (mask x1) x2 else x9
/-- The gathered rows' tile after a point: written from point 1 on. -/
def nx10 (i : grid0.Coords) (x3 : Vec F S1x2048x1024 .bf16) (x4 : Vec F S2x256x2048 .bf16) (x10 : Vec F S256x1024 .f32) : Vec F S256x1024 .f32 :=
  if (i 0).val = 0 then x10 else k0_pay2 (selAt x4 (((i 0).val - 1) / 2) (batch_lt i)) x3

set_option maxHeartbeats 2000000 in
/-- The body at any grid point. -/
theorem run_any (c : Dev nD) (i : grid0.Coords) (arg1 : Memref sig .tc .vmem S2x2048 .i32) (harg1 : arg1.IsWhole) (arg2 : Memref sig .tc .vmem S2x2048 .f32) (harg2 : arg2.IsWhole) (arg3 : Memref sig .tc .vmem S1x2048x1024 .bf16) (harg3 : arg3.IsWhole) (arg4 : Memref sig .tc .vmem S2x256x2048 .bf16) (harg4 : arg4.IsWhole) (arg5 : Memref sig .tc .vmem S2x2048 .f32) (harg5 : arg5.IsWhole) (arg6 : Memref sig .tc .vmem S2x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x1024 .f32) (harg10 : arg10.IsWhole)
    (x1 : Vec F S2x2048 .i32) (x2 : Vec F S2x2048 .f32) (x3 : Vec F S1x2048x1024 .bf16) (x4 : Vec F S2x256x2048 .bf16) (x5 : Vec F S2x2048 .f32) (x6 : Vec F S2x256 .f32) (x7 : Vec F S1x1 .f32) (x8 : Vec F S1x1 .f32) (x9 : Vec F S1x1 .f32) (x10 : Vec F S256x1024 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ (iprop(owns (c : Thread nD τ) arg1 fullShare x1 ∗ owns (c : Thread nD τ) arg2 fullShare x2 ∗ owns (c : Thread nD τ) arg3 fullShare x3 ∗ owns (c : Thread nD τ) arg4 fullShare (nx4 i x1 x4) ∗ owns (c : Thread nD τ) arg5 fullShare (nx5 i x1 x5) ∗ owns (c : Thread nD τ) arg6 fullShare (nx6 i x1 x6) ∗ owns (c : Thread nD τ) arg7 fullShare (nx7 i x1 x7) ∗ owns (c : Thread nD τ) arg8 fullShare (nx8 i x1 x8) ∗ owns (c : Thread nD τ) arg9 fullShare (nx9 i x1 x2 x9) ∗ owns (c : Thread nD τ) arg10 fullShare (nx10 i x3 x4 x10)) -∗ K ⟨⟩))
          ⊢ wp frame (wpE (defs₀ (F := F)) Variants.none c none) E (cc0__c2_body i arg1 harg1 arg2 harg2 arg3 harg3 arg4 harg4 arg5 harg5 arg6 harg6 arg7 harg7 arg8 harg8 arg9 harg9 arg10 harg10) K := by
  intro E K
  by_cases g : (i 0).val = 0
  · rw [show nx4 i x1 x4 = sel x1 x4 from if_pos g, show nx5 i x1 x5 = mask x1 from if_pos g, show nx6 i x1 x6 = gates x1 x6 from if_pos g, show nx7 i x1 x7 = k0_pay25 (k0_pay3 x1) (mask x1) from if_pos g, show nx8 i x1 x8 = k0_pay26 (k0_pay3 x1) from if_pos g, show nx9 i x1 x2 x9 = k0_pay1 (mask x1) x2 from if_pos g, show nx10 i x3 x4 x10 = x10 from if_pos g]
    exact run_route c i arg1 harg1 arg2 harg2 arg3 harg3 arg4 harg4 arg5 harg5 arg6 harg6 arg7 harg7 arg8 harg8 arg9 harg9 arg10 harg10 ((cond1_iff i).mpr g) (fun h => (cond2_iff i).mp h g) x1 x2 x3 x4 x5 x6 x7 x8 x9 x10 E K
  · rw [show nx4 i x1 x4 = x4 from if_neg g, show nx5 i x1 x5 = x5 from if_neg g, show nx6 i x1 x6 = x6 from if_neg g, show nx7 i x1 x7 = x7 from if_neg g, show nx8 i x1 x8 = x8 from if_neg g, show nx9 i x1 x2 x9 = x9 from if_neg g, show nx10 i x3 x4 x10 = k0_pay2 (selAt x4 (((i 0).val - 1) / 2) (batch_lt i)) x3 from if_neg g]
    exact run_gather c i arg1 harg1 arg2 harg2 arg3 harg3 arg4 harg4 arg5 harg5 arg6 harg6 arg7 harg7 arg8 harg8 arg9 harg9 arg10 harg10 (fun h => g ((cond1_iff i).mp h)) ((cond2_iff i).mpr g) x1 x2 x3 x4 x5 x6 x7 x8 x9 x10 E K

end Cert.C2Ideal.Run

end
-- ==== Proof.C2IdealWin.lean ====
/-
  The router kernel's windows: their index maps in closed form, what a block of each array holds at an element, when the
  outputs' blocks are written back, and the rows a gathering point forms.
-/
module

public import proofs.«01_k».proof.Proof.C2IdealRoute
public import proofs.«01_k».proof.Proof.C2IdealStep
public import Idealize.ShloMosaic.Lib.Pipeline.Value

@[expose] public section

set_option maxRecDepth 16384

noncomputable section

namespace Cert.C2Ideal.Math

open Cert.C2Ideal Cert.C2Ideal.Gen Cert.C2Ideal.Run
open Idealize.ShloMosaic Idealize.ShloMosaic.TcCoe
open Idealize.ShloMosaic.Pipeline (Dat Cfg Window)
open scoped Classical

/-! ## The index maps -/

theorem map0 : ∀ i : grid0.Coords, cc0_transform_0 i = ![0, 0] := by decide +kernel
theorem map1 : ∀ i : grid0.Coords, cc0_transform_1 i = ![0, 0] := by decide +kernel
theorem map2 : ∀ i : grid0.Coords, cc0_transform_2 i = ![((i 0).val - 1) / 2, 0, ((i 0).val - 1) % 2] := by decide +kernel
theorem map3 : ∀ i : grid0.Coords, cc0_transform_3 i = ![0, 0, 0] := by decide +kernel
theorem map4 : ∀ i : grid0.Coords, cc0_transform_4 i = ![0, 0] := by decide +kernel
theorem map5 : ∀ i : grid0.Coords, cc0_transform_5 i = ![0, 0] := by decide +kernel
theorem map6 : ∀ i : grid0.Coords, cc0_transform_6 i = ![0, 0] := by decide +kernel
theorem map7 : ∀ i : grid0.Coords, cc0_transform_7 i = ![0, 0] := by decide +kernel
theorem map8 : ∀ i : grid0.Coords, cc0_transform_8 i = ![0, 0] := by decide +kernel
theorem map9 : ∀ i : grid0.Coords, cc0_transform_9 i = ![((i 0).val - 1) / 2, ((i 0).val - 1) % 2] := by decide +kernel

/-- A point's one coordinate is the point. -/
theorem pt (t : Fin cfg0.N) : (grid0.coords t 0).val = t.val := by
  have h : t.val < 5 := lt_of_lt_of_eq t.isLt N_0
  have e := grid0.coords_val t 0 (S := 1) (B := 5) (by decide) (by decide)
  rw [e]; omega

/-! ## Blocks at an element -/

variable (m : (ℓ : Loc nD τ sig) → Buf (Elt Ideal) ℓ) (c : Dev nD) (t : Fin cfg0.N)

theorem blk0 : iblk m c 0 t = m ((c : Thread nD τ).loc main_arg0) := by
  funext j
  refine congrArg (m ((c : Thread nD τ).loc main_arg0)) (funext fun a => Fin.ext ?_)
  show cc0_transform_0 (grid0.coords t) a * S2x2048.size a + 1 * (j a).val = (j a).val
  rw [map0]
  fin_cases a <;> simp

theorem blk1 : iblk m c 1 t = m ((c : Thread nD τ).loc main_arg1) := by
  funext j
  refine congrArg (m ((c : Thread nD τ).loc main_arg1)) (funext fun a => Fin.ext ?_)
  show cc0_transform_1 (grid0.coords t) a * S2x2048.size a + 1 * (j a).val = (j a).val
  rw [map1]
  fin_cases a <;> simp

/-- The hidden states' block: one batch, half the columns. -/
theorem blk2 (s : Fin 2048) (d : Fin 1024) :
    iblk m c 2 t (ix3 0 s d) = m ((c : Thread nD τ).loc main_arg2)
      (ix3 ⟨((grid0.coords t 0).val - 1) / 2, batch_lt _⟩ s ⟨((grid0.coords t 0).val - 1) % 2 * 1024 + d.val, by omega⟩) := by
  refine congrArg (m ((c : Thread nD τ).loc main_arg2)) (funext fun a => Fin.ext ?_)
  show cc0_transform_2 (grid0.coords t) a * S1x2048x1024.size a + 1 * ((ix3 0 s d : S1x2048x1024.Idx) a).val = _
  rw [map2]
  fin_cases a
  · show ((grid0.coords t 0).val - 1) / 2 * 1 + 1 * 0 = ((grid0.coords t 0).val - 1) / 2; omega
  · show 0 * 2048 + 1 * s.val = s.val; omega
  · show ((grid0.coords t 0).val - 1) % 2 * 1024 + 1 * d.val = ((grid0.coords t 0).val - 1) % 2 * 1024 + d.val; omega

/-! The outputs formed at the first point are one block each. -/

theorem whole3 (G : Vec Ideal S2x256x2048 .bf16) : ((cfg0.win 3).blk t).view.read (Elt Ideal) G = G := by
  funext j
  refine congrArg G (funext fun a => Fin.ext ?_)
  show cc0_transform_3 (grid0.coords t) a * S2x256x2048.size a + 1 * (j a).val = (j a).val
  rw [map3]
  fin_cases a <;> simp
theorem whole4 (G : Vec Ideal S2x2048 .f32) : ((cfg0.win 4).blk t).view.read (Elt Ideal) G = G := by
  funext j
  refine congrArg G (funext fun a => Fin.ext ?_)
  show cc0_transform_4 (grid0.coords t) a * S2x2048.size a + 1 * (j a).val = (j a).val
  rw [map4]
  fin_cases a <;> simp
theorem whole5 (G : Vec Ideal S2x256 .f32) : ((cfg0.win 5).blk t).view.read (Elt Ideal) G = G := by
  funext j
  refine congrArg G (funext fun a => Fin.ext ?_)
  show cc0_transform_5 (grid0.coords t) a * S2x256.size a + 1 * (j a).val = (j a).val
  rw [map5]
  fin_cases a <;> simp
theorem whole6 (G : Vec Ideal S1x1 .f32) : ((cfg0.win 6).blk t).view.read (Elt Ideal) G = G := by
  funext j
  refine congrArg G (funext fun a => Fin.ext ?_)
  show cc0_transform_6 (grid0.coords t) a * S1x1.size a + 1 * (j a).val = (j a).val
  rw [map6]
  fin_cases a <;> simp
theorem whole7 (G : Vec Ideal S1x1 .f32) : ((cfg0.win 7).blk t).view.read (Elt Ideal) G = G := by
  funext j
  refine congrArg G (funext fun a => Fin.ext ?_)
  show cc0_transform_7 (grid0.coords t) a * S1x1.size a + 1 * (j a).val = (j a).val
  rw [map7]
  fin_cases a <;> simp
theorem whole8 (G : Vec Ideal S1x1 .f32) : ((cfg0.win 8).blk t).view.read (Elt Ideal) G = G := by
  funext j
  refine congrArg G (funext fun a => Fin.ext ?_)
  show cc0_transform_8 (grid0.coords t) a * S1x1.size a + 1 * (j a).val = (j a).val
  rw [map8]
  fin_cases a <;> simp

/-- The gathered rows' block at an element. -/
theorem blk9 (G : Vec Ideal S512x2048 .f32) (k : Fin 256) (d : Fin 1024) :
    ((cfg0.win 9).blk t).view.read (Elt Ideal) G (ix2 k d)
      = G (ix2 ⟨((grid0.coords t 0).val - 1) / 2 * 256 + k.val, by have := batch_lt (grid0.coords t); omega⟩
          ⟨((grid0.coords t 0).val - 1) % 2 * 1024 + d.val, by omega⟩) := by
  refine congrArg G (funext fun a => Fin.ext ?_)
  show cc0_transform_9 (grid0.coords t) a * S256x1024.size a + 1 * ((ix2 k d : S256x1024.Idx) a).val = _
  rw [map9]
  fin_cases a
  · show ((grid0.coords t 0).val - 1) / 2 * 256 + 1 * k.val = ((grid0.coords t 0).val - 1) / 2 * 256 + k.val; omega
  · show ((grid0.coords t 0).val - 1) % 2 * 1024 + 1 * d.val = ((grid0.coords t 0).val - 1) % 2 * 1024 + d.val; omega

/-! ## The gathered rows -/

/-- One batch's selection matrix at an element. -/
theorem selAt_at (p : Vec Ideal S2x256x2048 .bf16) (b : ℕ) (hb : b < 2) (k : Fin 256) (s : Fin 2048) :
    selAt (F := Ideal) p b hb (ix3 0 k s) = p (ix3 ⟨b, hb⟩ k s) := by
  refine congrArg p (funext fun a => Fin.ext ?_)
  fin_cases a
  · show b + 1 * 0 = b; omega
  · show 0 + 1 * k.val = k.val; omega
  · show 0 + 1 * s.val = s.val; omega

/-- A tile of the gathered rows: the selection matrix times the states. -/
theorem pay2_at (p : Vec Ideal S1x256x2048 .bf16) (x : Vec Ideal S1x2048x1024 .bf16) (k : Fin 256) (d : Fin 1024) :
    k0_pay2 (F := Ideal) p x (ix2 k d) = ∑ s : Fin 2048, p (ix3 0 k s) * x (ix3 0 s d) := by
  pointwise [k0_pay2]

/-! ## The write-backs -/

theorem flush_first (h : t.val = 0) : (cfg0.win 9).flush t = false := by
  rw [Bool.eq_false_iff]
  intro hf
  have hf' : win0_9.flush t = true := hf
  unfold Pipeline.Window.flush at hf'
  rw [Bool.and_eq_true, Bool.or_eq_true, decide_eq_true_eq, decide_eq_true_eq] at hf'
  have hN : grid0.N = 5 := N_0
  rcases hf'.2 with h0 | ⟨h1, h2⟩
  · omega
  · apply h2
    show cc0_transform_9 (grid0.coords ⟨t.val + 1, h1⟩) = cc0_transform_9 (grid0.coords t)
    rw [map9, map9, pt, pt]
    show ![(t.val + 1 - 1) / 2, (t.val + 1 - 1) % 2] = _
    rw [h]

theorem flush_later (h : 1 ≤ t.val) : (cfg0.win 9).flush t = true := by
  show win0_9.flush t = true
  unfold Pipeline.Window.flush
  rw [Bool.and_eq_true, Bool.or_eq_true, decide_eq_true_eq, decide_eq_true_eq]
  have hN : grid0.N = 5 := N_0
  refine ⟨rfl, ?_⟩
  by_cases h0 : t.val + 1 = grid0.N
  · exact .inl h0
  · have h1 : t.val + 1 < grid0.N := by have : t.val < grid0.N := t.isLt; omega
    refine .inr ⟨h1, fun e => ?_⟩
    have e' : cc0_transform_9 (grid0.coords ⟨t.val + 1, h1⟩) = cc0_transform_9 (grid0.coords t) := e
    rw [map9, map9, pt, pt] at e'
    have e1 : (t.val + 1 - 1) % 2 = (t.val - 1) % 2 := congrFun e' 1
    omega

/-- Every element of the gathered rows lies in a block written back. -/
theorem covered9 (j : S512x2048.Idx) : ∃ t : Fin cfg0.N, (cfg0.win 9).flush t = true ∧ j ∈ ((cfg0.win 9).blk t).view.set := by
  obtain ⟨r, d, rfl⟩ : ∃ (r : Fin 512) (d : Fin 2048), j = ix2 r d := ⟨j 0, j 1, eq_ix2 j⟩
  have hN : grid0.N = 5 := N_0
  have hr := r.isLt
  have hd := d.isLt
  refine ⟨⟨1 + (r.val / 256 * 2 + d.val / 1024), by show _ < grid0.N; omega⟩, flush_later _ (Nat.le_add_right _ _), ?_⟩
  generalize ht : (⟨1 + (r.val / 256 * 2 + d.val / 1024), by show _ < grid0.N; omega⟩ : Fin cfg0.N) = t
  have hv : t.val = 1 + (r.val / 256 * 2 + d.val / 1024) := by rw [← ht]
  show ix2 r d ∈ (win0_9.blk t).view.set
  rw [View.set_slice_whole, Rect.mem_set_unit]
  intro a
  show cc0_transform_9 (grid0.coords t) a * S256x1024.size a ≤ _ ∧ _ < cc0_transform_9 (grid0.coords t) a * S256x1024.size a + S256x1024.size a
  rw [map9, pt]
  fin_cases a
  · show (t.val - 1) / 2 * 256 ≤ r.val ∧ r.val < (t.val - 1) / 2 * 256 + 256; omega
  · show (t.val - 1) % 2 * 1024 ≤ d.val ∧ d.val < (t.val - 1) % 2 * 1024 + 1024; omega

/-- The last point. -/
abbrev last : Fin cfg0.N := ⟨4, by rw [show cfg0.N = 5 from N_0]; decide⟩

theorem covered3 (j : S2x256x2048.Idx) : ∃ t : Fin cfg0.N, (cfg0.win 3).flush t = true ∧ j ∈ ((cfg0.win 3).blk t).view.set := by
  refine ⟨last, (flush0_3 last).mpr rfl, ?_⟩
  show j ∈ (win0_3.blk last).view.set
  rw [View.set_slice_whole, Rect.mem_set_unit]
  intro a
  show cc0_transform_3 (grid0.coords last) a * S2x256x2048.size a ≤ (j a).val ∧ (j a).val < cc0_transform_3 (grid0.coords last) a * S2x256x2048.size a + S2x256x2048.size a
  rw [map3]
  have := (j a).isLt
  fin_cases a <;> exact ⟨by simp, by simpa using this⟩
theorem covered4 (j : S2x2048.Idx) : ∃ t : Fin cfg0.N, (cfg0.win 4).flush t = true ∧ j ∈ ((cfg0.win 4).blk t).view.set := by
  refine ⟨last, (flush0_4 last).mpr rfl, ?_⟩
  show j ∈ (win0_4.blk last).view.set
  rw [View.set_slice_whole, Rect.mem_set_unit]
  intro a
  show cc0_transform_4 (grid0.coords last) a * S2x2048.size a ≤ (j a).val ∧ (j a).val < cc0_transform_4 (grid0.coords last) a * S2x2048.size a + S2x2048.size a
  rw [map4]
  have := (j a).isLt
  fin_cases a <;> exact ⟨by simp, by simpa using this⟩
theorem covered5 (j : S2x256.Idx) : ∃ t : Fin cfg0.N, (cfg0.win 5).flush t = true ∧ j ∈ ((cfg0.win 5).blk t).view.set := by
  refine ⟨last, (flush0_5 last).mpr rfl, ?_⟩
  show j ∈ (win0_5.blk last).view.set
  rw [View.set_slice_whole, Rect.mem_set_unit]
  intro a
  show cc0_transform_5 (grid0.coords last) a * S2x256.size a ≤ (j a).val ∧ (j a).val < cc0_transform_5 (grid0.coords last) a * S2x256.size a + S2x256.size a
  rw [map5]
  have := (j a).isLt
  fin_cases a <;> exact ⟨by simp, by simpa using this⟩
theorem covered6 (j : S1x1.Idx) : ∃ t : Fin cfg0.N, (cfg0.win 6).flush t = true ∧ j ∈ ((cfg0.win 6).blk t).view.set := by
  refine ⟨last, (flush0_6 last).mpr rfl, ?_⟩
  show j ∈ (win0_6.blk last).view.set
  rw [View.set_slice_whole, Rect.mem_set_unit]
  intro a
  show cc0_transform_6 (grid0.coords last) a * S1x1.size a ≤ (j a).val ∧ (j a).val < cc0_transform_6 (grid0.coords last) a * S1x1.size a + S1x1.size a
  rw [map6]
  have := (j a).isLt
  fin_cases a <;> exact ⟨by simp, by simpa using this⟩
theorem covered7 (j : S1x1.Idx) : ∃ t : Fin cfg0.N, (cfg0.win 7).flush t = true ∧ j ∈ ((cfg0.win 7).blk t).view.set := by
  refine ⟨last, (flush0_7 last).mpr rfl, ?_⟩
  show j ∈ (win0_7.blk last).view.set
  rw [View.set_slice_whole, Rect.mem_set_unit]
  intro a
  show cc0_transform_7 (grid0.coords last) a * S1x1.size a ≤ (j a).val ∧ (j a).val < cc0_transform_7 (grid0.coords last) a * S1x1.size a + S1x1.size a
  rw [map7]
  have := (j a).isLt
  fin_cases a <;> exact ⟨by simp, by simpa using this⟩
theorem covered8 (j : S1x1.Idx) : ∃ t : Fin cfg0.N, (cfg0.win 8).flush t = true ∧ j ∈ ((cfg0.win 8).blk t).view.set := by
  refine ⟨last, (flush0_8 last).mpr rfl, ?_⟩
  show j ∈ (win0_8.blk last).view.set
  rw [View.set_slice_whole, Rect.mem_set_unit]
  intro a
  show cc0_transform_8 (grid0.coords last) a * S1x1.size a ≤ (j a).val ∧ (j a).val < cc0_transform_8 (grid0.coords last) a * S1x1.size a + S1x1.size a
  rw [map8]
  have := (j a).isLt
  fin_cases a <;> exact ⟨by simp, by simpa using this⟩

end Cert.C2Ideal.Math

end
-- ==== Proof.C2IdealValue.lean ====
/-
  The router kernel's run over the extended reals: every execution ends, the results are the mathematics of the arguments,
  the arguments and every semaphore counter are as launched.
-/
module

public import proofs.«01_k».proof.Proof.C2IdealWin
public import Idealize.ShloMosaic.Lib.Claim

@[expose] public section

set_option maxRecDepth 16384

noncomputable section

namespace Cert.C2Ideal.Math

open Cert.C2Ideal Cert.C2Ideal.Gen Cert.C2Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Choice
open scoped Classical

local notation "𝕄" => MT nD τ sig Unit (Elt Ideal) ℕ (UR sig nD τ) ℕ

/-! ## The results, of the arguments -/

/-- The selection matrices. -/
def selections (w : Vec Ideal S2x2048 .i32) : Vec Ideal S2x256x2048 .bf16 := fun j => flag (Picked w (j 0) (j 1).val (j 2))
/-- The chosen positions' mask. -/
def maskOf (w : Vec Ideal S2x2048 .i32) : Vec Ideal S2x2048 .f32 := fun j => flag (Chosen (keys w (j 0)) (j 1))
/-- The chosen positions' gates, in order. -/
def gatesOf (w : Vec Ideal S2x2048 .i32) : Vec Ideal S2x256 .f32 := fun j => ∑ t : Fin 2048, flag (Picked w (j 0) (j 1).val t) * gate w (j 0) t
/-- The router's cross entropy. -/
def routerLoss (w : Vec Ideal S2x2048 .i32) : Vec Ideal S1x1 .f32 := fun _ => bce (logit w) w
/-- The logits' square loss. -/
def zLoss (w : Vec Ideal S2x2048 .i32) : Vec Ideal S1x1 .f32 := fun _ => zloss w
/-- The predictor's cross entropy. -/
def predLoss (w : Vec Ideal S2x2048 .i32) (v : Vec Ideal S2x2048 .f32) : Vec Ideal S1x1 .f32 := fun _ => bce (fun b t => v (ix2 b t)) w
/-- The chosen positions' states: batch after batch, each in order. -/
def gathered (w : Vec Ideal S2x2048 .i32) (x : Vec Ideal S2x2048x2048 .bf16) : Vec Ideal S512x2048 .f32 := fun j =>
  ∑ t : Fin 2048, flag (Picked w ⟨(j 0).val / 256, Nat.div_lt_of_lt_mul (j 0).isLt⟩ ((j 0).val % 256) t)
    * x (ix3 ⟨(j 0).val / 256, Nat.div_lt_of_lt_mul (j 0).isLt⟩ t (j 1))

theorem gathered_at (w : Vec Ideal S2x2048 .i32) (x : Vec Ideal S2x2048x2048 .bf16) (b : Fin 2) (k : Fin 256) (d : Fin 2048) :
    gathered w x (ix2 ⟨b.val * 256 + k.val, by omega⟩ d) = ∑ t : Fin 2048, flag (Picked w b k.val t) * x (ix3 b t d) := by
  have hb : (⟨(b.val * 256 + k.val) / 256, by omega⟩ : Fin 2) = b := Fin.ext (by show (b.val * 256 + k.val) / 256 = b.val; omega)
  have hk : (b.val * 256 + k.val) % 256 = k.val := by omega
  show (∑ t : Fin 2048, flag (Picked w ⟨(b.val * 256 + k.val) / 256, _⟩ ((b.val * 256 + k.val) % 256) t) * x (ix3 ⟨(b.val * 256 + k.val) / 256, _⟩ t d)) = _
  rw [hb, hk]

/-! ## What a point leaves in the outputs' buffers -/

/-- A one-element array's index. -/
theorem eq_one (j : S1x1.Idx) : j = ix2 (0 : Fin 1) (0 : Fin 1) := by
  refine (eq_ix2 j).trans ?_
  rw [show j 0 = (0 : Fin 1) from Subsingleton.elim (α := Fin 1) _ _, show j 1 = (0 : Fin 1) from Subsingleton.elim (α := Fin 1) _ _]

section Point

variable (i : grid0.Coords) (h : (i 0).val = 0) (w : Vec Ideal S2x2048 .i32) (v : Vec Ideal S2x2048 .f32)
include h

theorem first3 (x) : nx4 (F := Ideal) i w x = selections w := by
  unfold nx4
  rw [if_pos h]
  funext j
  rw [eq_ix3 j]
  exact sel_at w _ _ _ _
theorem first4 (x) : nx5 (F := Ideal) i w x = maskOf w := by
  unfold nx5
  rw [if_pos h]
  funext j
  rw [eq_ix2 j]
  exact mask_at w _ _
theorem first5 (x) : nx6 (F := Ideal) i w x = gatesOf w := by
  unfold nx6
  rw [if_pos h]
  funext j
  rw [eq_ix2 j]
  exact gates_at w _ _ _
theorem first6 (x) : nx7 (F := Ideal) i w x = routerLoss w := by
  unfold nx7
  rw [if_pos h]
  funext j
  rw [eq_one j]
  exact pay25_at w
theorem first7 (x) : nx8 (F := Ideal) i w x = zLoss w := by
  unfold nx8
  rw [if_pos h]
  funext j
  rw [eq_one j]
  exact pay26_at w
theorem first8 (x) : nx9 (F := Ideal) i w v x = predLoss w v := by
  unfold nx9
  rw [if_pos h]
  funext j
  rw [eq_one j]
  exact pay1_at w v

end Point

variable (m : (ℓ : Loc nD τ sig) → Buf (Elt Ideal) ℓ) (ρ : Dev nD → PrngReg)

/-- Argument arrays as launched. -/
abbrev arg (c : Dev nD) (b : Ref sig .tc) : Buf (Elt Ideal) ((c : Thread nD τ).loc b) := m ((c : Thread nD τ).loc b)

/-- A gathering point's tile is the block of the gathered rows. -/
theorem tile (c : Dev nD) (t : Fin cfg0.N) (h : (grid0.coords t 0).val ≠ 0) (x) :
    nx10 (F := Ideal) (grid0.coords t) (iblk m c 2 t) (selections (arg m c main_arg0)) x
      = ((cfg0.win 9).blk t).view.read (Elt Ideal) (gathered (arg m c main_arg0) (arg m c main_arg2)) := by
  unfold nx10
  rw [if_neg h]
  funext j
  obtain ⟨k, d, rfl⟩ : ∃ (k : Fin 256) (d : Fin 1024), j = ix2 k d := ⟨j 0, j 1, eq_ix2 j⟩
  have hl := pay2_at (selAt (F := Ideal) (selections (arg m c main_arg0)) (((grid0.coords t 0).val - 1) / 2) (batch_lt _)) (iblk m c 2 t) k d
  have hr := (blk9 t (gathered (arg m c main_arg0) (arg m c main_arg2)) k d).trans
    (gathered_at (arg m c main_arg0) (arg m c main_arg2) ⟨((grid0.coords t 0).val - 1) / 2, batch_lt _⟩ k _)
  refine hl.trans (Eq.trans ?_ hr.symm)
  refine Finset.sum_congr rfl fun s _ => ?_
  rw [selAt_at, blk2]
  rfl

/-! ## The run -/

/-- What the buffers and arrays hold: the inputs their blocks, the outputs the results'. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => selections (arg m c main_arg0)
    | ⟨4, _⟩ => maskOf (arg m c main_arg0)
    | ⟨5, _⟩ => gatesOf (arg m c main_arg0)
    | ⟨6, _⟩ => routerLoss (arg m c main_arg0)
    | ⟨7, _⟩ => zLoss (arg m c main_arg0)
    | ⟨8, _⟩ => predLoss (arg m c main_arg0) (arg m c main_arg1)
    | ⟨9, _⟩ => ((cfg0.win 9).blk t).view.read (Elt Ideal) (gathered (arg m c main_arg0) (arg m c main_arg2))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = selections (arg m c main_arg0) := by dsimp only [dats]
theorem after_4 (c : Dev nD) (t : Fin cfg0.N) : (dats m 0 c).after 4 t = maskOf (arg m c main_arg0) := by dsimp only [dats]
theorem after_5 (c : Dev nD) (t : Fin cfg0.N) : (dats m 0 c).after 5 t = gatesOf (arg m c main_arg0) := by dsimp only [dats]
theorem after_6 (c : Dev nD) (t : Fin cfg0.N) : (dats m 0 c).after 6 t = routerLoss (arg m c main_arg0) := by dsimp only [dats]
theorem after_7 (c : Dev nD) (t : Fin cfg0.N) : (dats m 0 c).after 7 t = zLoss (arg m c main_arg0) := by dsimp only [dats]
theorem after_8 (c : Dev nD) (t : Fin cfg0.N) : (dats m 0 c).after 8 t = predLoss (arg m c main_arg0) (arg m c main_arg1) := by dsimp only [dats]
theorem after_9 (c : Dev nD) (t : Fin cfg0.N) : (dats m 0 c).after 9 t
    = ((cfg0.win 9).blk t).view.read (Elt Ideal) (gathered (arg m c main_arg0) (arg m c main_arg2)) := by dsimp only [dats]

/-- The outputs formed at the first point are stored there, -/
theorem stored (t : Fin cfg0.N) (h : t.val = 0) : (!(k0_cond1 (grid0.coords t) == 1#1)) = false := by
  rw [Bool.not_eq_false', beq_iff_eq]
  exact (cond1_iff _).mpr (by rw [pt]; exact h)
/-- and left alone after it. -/
theorem untouched (t : Fin cfg0.N) (h : 1 ≤ t.val) : (!(k0_cond1 (grid0.coords t) == 1#1)) = true := by
  rw [Bool.not_eq_true', beq_eq_false_iff_ne]
  intro h'
  have := (cond1_iff _).mp h'
  rw [pt] at this; omega
theorem idle3_first (t : Fin cfg0.N) (h : t.val = 0) : cfg0.idle 3 (cfg0.grid.coords t) = false := stored t h
theorem idle3_later (t : Fin cfg0.N) (h : 1 ≤ t.val) : cfg0.idle 3 (cfg0.grid.coords t) = true := untouched t h
theorem idle4_first (t : Fin cfg0.N) (h : t.val = 0) : cfg0.idle 4 (cfg0.grid.coords t) = false := stored t h
theorem idle4_later (t : Fin cfg0.N) (h : 1 ≤ t.val) : cfg0.idle 4 (cfg0.grid.coords t) = true := untouched t h
theorem idle5_first (t : Fin cfg0.N) (h : t.val = 0) : cfg0.idle 5 (cfg0.grid.coords t) = false := stored t h
theorem idle5_later (t : Fin cfg0.N) (h : 1 ≤ t.val) : cfg0.idle 5 (cfg0.grid.coords t) = true := untouched t h
theorem idle6_first (t : Fin cfg0.N) (h : t.val = 0) : cfg0.idle 6 (cfg0.grid.coords t) = false := stored t h
theorem idle6_later (t : Fin cfg0.N) (h : 1 ≤ t.val) : cfg0.idle 6 (cfg0.grid.coords t) = true := untouched t h
theorem idle7_first (t : Fin cfg0.N) (h : t.val = 0) : cfg0.idle 7 (cfg0.grid.coords t) = false := stored t h
theorem idle7_later (t : Fin cfg0.N) (h : 1 ≤ t.val) : cfg0.idle 7 (cfg0.grid.coords t) = true := untouched t h
theorem idle8_first (t : Fin cfg0.N) (h : t.val = 0) : cfg0.idle 8 (cfg0.grid.coords t) = false := stored t h
theorem idle8_later (t : Fin cfg0.N) (h : 1 ≤ t.val) : cfg0.idle 8 (cfg0.grid.coords t) = true := untouched t h
/-- The gathered rows' buffer is left alone at the first point, -/
theorem idle9_first (t : Fin cfg0.N) (h : t.val = 0) : cfg0.idle 9 (cfg0.grid.coords t) = true := by
  show (!(k0_cond2 (grid0.coords t) == 1#1)) = true
  rw [Bool.not_eq_true', beq_eq_false_iff_ne]
  intro h'
  exact (cond2_iff _).mp h' (by rw [pt]; exact h)
/-- and stored after it. -/
theorem idle9_later (t : Fin cfg0.N) (h : 1 ≤ t.val) : cfg0.idle 9 (cfg0.grid.coords t) = false := by
  show (!(k0_cond2 (grid0.coords t) == 1#1)) = false
  rw [Bool.not_eq_false', beq_iff_eq]
  exact (cond2_iff _).mpr (by rw [pt]; omega)

/-- An output formed at the first point and written back at the last stays in its buffer between them. -/
theorem kept (c : Dev nD) (w : Fin cfg0.W) (hw : (cfg0.win w).isOut = true)
    (hclip : ∀ (i : cfg0.grid.Coords) a, (cfg0.win w).clip i a = none)
    (hfl : ∀ t : Fin cfg0.N, (cfg0.win w).flush t = true → t.val % 5 = 4)
    (hid : ∀ t : Fin cfg0.N, t.val = 0 → cfg0.idle w (cfg0.grid.coords t) = false)
    (ha : ∀ t t' : Fin cfg0.N, (dats m 0 c).after w t = (dats m 0 c).after w t') :
    ∀ (n : ℕ) (t : Fin cfg0.N), t.val = n + 1 → ∀ d, (dats m 0 c).before w t d = (dats m 0 c).after w t := by
  have hN : cfg0.N = 5 := N_0
  intro n
  induction n with
  | zero =>
    intro t ht d
    have h1 : (cfg0.win w).flush ⟨t.val - 1, Nat.lt_of_le_of_lt (Nat.sub_le _ _) t.isLt⟩ = false :=
      Bool.eq_false_iff.mpr fun h => by
        have h' := hfl _ h
        have h2 : (t.val - 1) % 5 = 4 := h'
        omega
    rw [(dats m 0 c).before_of_pos w t (by omega) ((cfg0.win w).fetch_out hw t), h1, if_neg Bool.false_ne_true]
    unfold Dat.left
    rw [hid ⟨t.val - 1, Nat.lt_of_le_of_lt (Nat.sub_le _ _) t.isLt⟩ (by show t.val - 1 = 0; omega)]
    show (dats m 0 c).kept w _ d = _
    unfold Dat.kept
    rw [Pipeline.fill_of_clip_none w _ (hclip _) d ((dats m 0 c).after w _), Window.fill_cut]
    exact ha _ _
  | succ n ih =>
    intro t ht d
    have h1 : (cfg0.win w).flush ⟨t.val - 1, Nat.lt_of_le_of_lt (Nat.sub_le _ _) t.isLt⟩ = false :=
      Bool.eq_false_iff.mpr fun h => by
        have h' := hfl _ h
        have h2 : (t.val - 1) % 5 = 4 := h'
        have := t.isLt
        omega
    rw [(dats m 0 c).before_of_pos w t (by omega) ((cfg0.win w).fetch_out hw t), h1, if_neg Bool.false_ne_true]
    unfold Dat.left
    cases h : cfg0.idle w (cfg0.grid.coords ⟨t.val - 1, Nat.lt_of_le_of_lt (Nat.sub_le _ _) t.isLt⟩)
    · show (dats m 0 c).kept w _ d = _
      unfold Dat.kept
      rw [Pipeline.fill_of_clip_none w _ (hclip _) d ((dats m 0 c).after w _), Window.fill_cut]
      exact ha _ _
    · exact (ih _ (by show t.val - 1 = n + 1; omega) d).trans (ha _ _)

theorem kept_3 (c : Dev nD) (t : Fin cfg0.N) (h : 1 ≤ t.val) (d) : (dats m 0 c).before 3 t d = selections (arg m c main_arg0) :=
  (kept m c 3 rfl (fun _ _ => rfl) (fun t => (flush0_3 t).mp) idle3_first (fun t t' => (after_3 m c t).trans (after_3 m c t').symm) (t.val - 1) t (by omega) d).trans (after_3 m c t)
theorem kept_4 (c : Dev nD) (t : Fin cfg0.N) (h : 1 ≤ t.val) (d) : (dats m 0 c).before 4 t d = maskOf (arg m c main_arg0) :=
  (kept m c 4 rfl (fun _ _ => rfl) (fun t => (flush0_4 t).mp) idle4_first (fun t t' => (after_4 m c t).trans (after_4 m c t').symm) (t.val - 1) t (by omega) d).trans (after_4 m c t)
theorem kept_5 (c : Dev nD) (t : Fin cfg0.N) (h : 1 ≤ t.val) (d) : (dats m 0 c).before 5 t d = gatesOf (arg m c main_arg0) :=
  (kept m c 5 rfl (fun _ _ => rfl) (fun t => (flush0_5 t).mp) idle5_first (fun t t' => (after_5 m c t).trans (after_5 m c t').symm) (t.val - 1) t (by omega) d).trans (after_5 m c t)
theorem kept_6 (c : Dev nD) (t : Fin cfg0.N) (h : 1 ≤ t.val) (d) : (dats m 0 c).before 6 t d = routerLoss (arg m c main_arg0) :=
  (kept m c 6 rfl (fun _ _ => rfl) (fun t => (flush0_6 t).mp) idle6_first (fun t t' => (after_6 m c t).trans (after_6 m c t').symm) (t.val - 1) t (by omega) d).trans (after_6 m c t)
theorem kept_7 (c : Dev nD) (t : Fin cfg0.N) (h : 1 ≤ t.val) (d) : (dats m 0 c).before 7 t d = zLoss (arg m c main_arg0) :=
  (kept m c 7 rfl (fun _ _ => rfl) (fun t => (flush0_7 t).mp) idle7_first (fun t t' => (after_7 m c t).trans (after_7 m c t').symm) (t.val - 1) t (by omega) d).trans (after_7 m c t)
theorem kept_8 (c : Dev nD) (t : Fin cfg0.N) (h : 1 ≤ t.val) (d) : (dats m 0 c).before 8 t d = predLoss (arg m c main_arg0) (arg m c main_arg1) :=
  (kept m c 8 rfl (fun _ _ => rfl) (fun t => (flush0_8 t).mp) idle8_first (fun t t' => (after_8 m c t).trans (after_8 m c t').symm) (t.val - 1) t (by omega) d).trans (after_8 m c t)

/-- What the body is called with at point `t`, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- and what it returns, the outputs' buffers as the `P`s say. -/
def bodyPost (c : Dev nD) (t : Fin cfg0.N) (P3 P4 P5 P6 P7 P8 P9 : sProp 𝕄) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ P3 ∗ P4 ∗ P5 ∗ P6 ∗ P7 ∗ P8 ∗ P9)

set_option maxHeartbeats 1600000 in
/-- The body at any point, the outputs' buffers after it weakened to the `P`s. -/
theorem sound (c : Dev nD) (t : Fin cfg0.N) (P3 P4 P5 P6 P7 P8 P9 : sProp 𝕄)
    (h3 : ∀ d, (owns (c : Thread nD τ) (st0_3 t) fullShare (nx4 (F := Ideal) (grid0.coords t) (arg m c main_arg0) ((dats m 0 c).before 3 t d)) : sProp 𝕄) ⊢ P3)
    (h4 : ∀ d, (owns (c : Thread nD τ) (st0_4 t) fullShare (nx5 (F := Ideal) (grid0.coords t) (arg m c main_arg0) ((dats m 0 c).before 4 t d)) : sProp 𝕄) ⊢ P4)
    (h5 : ∀ d, (owns (c : Thread nD τ) (st0_5 t) fullShare (nx6 (F := Ideal) (grid0.coords t) (arg m c main_arg0) ((dats m 0 c).before 5 t d)) : sProp 𝕄) ⊢ P5)
    (h6 : ∀ d, (owns (c : Thread nD τ) (st0_6 t) fullShare (nx7 (F := Ideal) (grid0.coords t) (arg m c main_arg0) ((dats m 0 c).before 6 t d)) : sProp 𝕄) ⊢ P6)
    (h7 : ∀ d, (owns (c : Thread nD τ) (st0_7 t) fullShare (nx8 (F := Ideal) (grid0.coords t) (arg m c main_arg0) ((dats m 0 c).before 7 t d)) : sProp 𝕄) ⊢ P7)
    (h8 : ∀ d, (owns (c : Thread nD τ) (st0_8 t) fullShare (nx9 (F := Ideal) (grid0.coords t) (arg m c main_arg0) (arg m c main_arg1) ((dats m 0 c).before 8 t d)) : sProp 𝕄) ⊢ P8)
    (h9 : ∀ d d', (owns (c : Thread nD τ) (st0_9 t) fullShare (nx10 (F := Ideal) (grid0.coords t) (iblk m c 2 t) ((dats m 0 c).before 3 t d) ((dats m 0 c).before 9 t d')) : sProp 𝕄) ⊢ P9) :
    bodyPre m c t ⊢ wp frame (wpE (defs₀ (F := Ideal)) Variants.none c none) Set.univ (bodyAt0 t) (fun _ => bodyPost m c t P3 P4 P5 P6 P7 P8 P9) := by
  unfold bodyPre bodyPost bodyAt0
  simp only [before_0, after_0, before_1, after_1, before_2, after_2]
  rw [show (dats m 0 c).Φ t.succ = (dats m 0 c).Φ t.castSucc from rfl,
    show (dats m 0 c).owesAt () t.succ = (dats m 0 c).owesAt () t.castSucc from rfl]
  rw [blk0, blk1]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_any (F := Ideal) c (grid0.coords t) _ _ _ _ _ _ _ _ _ _ _ _ _ _ _ _ _ _ _ _ (arg m c main_arg0) (arg m c main_arg1) (iblk m c 2 t)
    ((dats m 0 c).before 3 t d3) ((dats m 0 c).before 4 t d4) ((dats m 0 c).before 5 t d5) ((dats m 0 c).before 6 t d6) ((dats m 0 c).before 7 t d7)
    ((dats m 0 c).before 8 t d8) ((dats m 0 c).before 9 t d9) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [Hp]; · iexact Hp
  isplitl [Ho]; · iexact Ho
  isplitl [H0]; · iexact H0
  isplitl [H1]; · iexact H1
  isplitl [H2]; · iexact H2
  isplitl [H3]; · iapply (h3 d3); iexact H3
  isplitl [H4]; · iapply (h4 d4); iexact H4
  isplitl [H5]; · iapply (h5 d5); iexact H5
  isplitl [H6]; · iapply (h6 d6); iexact H6
  isplitl [H7]; · iapply (h7 d7); iexact H7
  isplitl [H8]; · iapply (h8 d8); iexact H8
  iapply (h9 d3 d9); iexact H9

/-- A buffer at equal contents. -/
theorem owns_at {s : Shape} {e : EltTy} (c : Dev nD) (a : Memref sig .tc .vmem s e) {x y : Vec Ideal s e} (h : x = y) :
    (owns (c : Thread nD τ) a fullShare x : sProp 𝕄) ⊢ owns (c : Thread nD τ) a fullShare y := h ▸ .rfl
/-- A buffer at contents of a family. -/
theorem owns_some {s : Shape} {e : EltTy} (c : Dev nD) (a : Memref sig .tc .vmem s e) {α : Type} (f : α → Vec Ideal s e) (d : α) {x : Vec Ideal s e} (h : x = f d) :
    (owns (c : Thread nD τ) a fullShare x : sProp 𝕄) ⊢ iprop(∃ d, owns (c : Thread nD τ) a fullShare (f d)) := by
  subst h
  iintro H
  iexists d
  iexact H

/-- The body at the first point: the outputs it forms. -/
theorem sound_first (c : Dev nD) (t : Fin cfg0.N) (ht : t.val = 0) :
    bodyPre m c t ⊢ wp frame (wpE (defs₀ (F := Ideal)) Variants.none c none) Set.univ (bodyAt0 t) (fun _ => bodyPost m c t
      (owns (c : Thread nD τ) (st0_3 t) fullShare ((dats m 0 c).after 3 t))
      (owns (c : Thread nD τ) (st0_4 t) fullShare ((dats m 0 c).after 4 t))
      (owns (c : Thread nD τ) (st0_5 t) fullShare ((dats m 0 c).after 5 t))
      (owns (c : Thread nD τ) (st0_6 t) fullShare ((dats m 0 c).after 6 t))
      (owns (c : Thread nD τ) (st0_7 t) fullShare ((dats m 0 c).after 7 t))
      (owns (c : Thread nD τ) (st0_8 t) fullShare ((dats m 0 c).after 8 t))
      (iprop(∃ d, owns (c : Thread nD τ) (st0_9 t) fullShare ((dats m 0 c).before 9 t d)))) :=
  have h : (grid0.coords t 0).val = 0 := (pt t).trans ht
  sound m c t _ _ _ _ _ _ _
    (fun d => owns_at c _ ((first3 _ h _ _).trans (after_3 m c t).symm))
    (fun d => owns_at c _ ((first4 _ h _ _).trans (after_4 m c t).symm))
    (fun d => owns_at c _ ((first5 _ h _ _).trans (after_5 m c t).symm))
    (fun d => owns_at c _ ((first6 _ h _ _).trans (after_6 m c t).symm))
    (fun d => owns_at c _ ((first7 _ h _ _).trans (after_7 m c t).symm))
    (fun d => owns_at c _ ((first8 _ h _ _ _).trans (after_8 m c t).symm))
    (fun d d' => owns_some c _ (fun d => (dats m 0 c).before 9 t d) d' (if_pos h))

/-- A gathering point's tile is what the buffer is to hold. -/
theorem tile_at (c : Dev nD) (t : Fin cfg0.N) (ht : 1 ≤ t.val) (d d') :
    nx10 (F := Ideal) (grid0.coords t) (iblk m c 2 t) ((dats m 0 c).before 3 t d) ((dats m 0 c).before 9 t d') = (dats m 0 c).after 9 t := by
  rw [kept_3 m c t ht, after_9]
  exact tile m c t (by rw [pt]; omega) _

/-- The body at a point between the first and the last: a tile of the gathered rows. -/
theorem sound_middle (c : Dev nD) (t : Fin cfg0.N) (ht : 1 ≤ t.val) :
    bodyPre m c t ⊢ wp frame (wpE (defs₀ (F := Ideal)) Variants.none c none) Set.univ (bodyAt0 t) (fun _ => bodyPost m c t
      (iprop(∃ d, owns (c : Thread nD τ) (st0_3 t) fullShare ((dats m 0 c).before 3 t d)))
      (iprop(∃ d, owns (c : Thread nD τ) (st0_4 t) fullShare ((dats m 0 c).before 4 t d)))
      (iprop(∃ d, owns (c : Thread nD τ) (st0_5 t) fullShare ((dats m 0 c).before 5 t d)))
      (iprop(∃ d, owns (c : Thread nD τ) (st0_6 t) fullShare ((dats m 0 c).before 6 t d)))
      (iprop(∃ d, owns (c : Thread nD τ) (st0_7 t) fullShare ((dats m 0 c).before 7 t d)))
      (iprop(∃ d, owns (c : Thread nD τ) (st0_8 t) fullShare ((dats m 0 c).before 8 t d)))
      (owns (c : Thread nD τ) (st0_9 t) fullShare ((dats m 0 c).after 9 t))) :=
  have h : ¬(grid0.coords t 0).val = 0 := by rw [pt]; omega
  sound m c t _ _ _ _ _ _ _
    (fun d => owns_some c _ (fun d => (dats m 0 c).before 3 t d) d (if_neg h))
    (fun d => owns_some c _ (fun d => (dats m 0 c).before 4 t d) d (if_neg h))
    (fun d => owns_some c _ (fun d => (dats m 0 c).before 5 t d) d (if_neg h))
    (fun d => owns_some c _ (fun d => (dats m 0 c).before 6 t d) d (if_neg h))
    (fun d => owns_some c _ (fun d => (dats m 0 c).before 7 t d) d (if_neg h))
    (fun d => owns_some c _ (fun d => (dats m 0 c).before 8 t d) d (if_neg h))
    (fun d d' => owns_at c _ (tile_at m c t ht d d'))

/-- The body at the last point: the last tile, and what the first point formed. -/
theorem sound_last (c : Dev nD) (t : Fin cfg0.N) (ht : 1 ≤ t.val) :
    bodyPre m c t ⊢ wp frame (wpE (defs₀ (F := Ideal)) Variants.none c none) Set.univ (bodyAt0 t) (fun _ => bodyPost m c t
      (owns (c : Thread nD τ) (st0_3 t) fullShare ((dats m 0 c).after 3 t))
      (owns (c : Thread nD τ) (st0_4 t) fullShare ((dats m 0 c).after 4 t))
      (owns (c : Thread nD τ) (st0_5 t) fullShare ((dats m 0 c).after 5 t))
      (owns (c : Thread nD τ) (st0_6 t) fullShare ((dats m 0 c).after 6 t))
      (owns (c : Thread nD τ) (st0_7 t) fullShare ((dats m 0 c).after 7 t))
      (owns (c : Thread nD τ) (st0_8 t) fullShare ((dats m 0 c).after 8 t))
      (owns (c : Thread nD τ) (st0_9 t) fullShare ((dats m 0 c).after 9 t))) :=
  have h : ¬(grid0.coords t 0).val = 0 := by rw [pt]; omega
  sound m c t _ _ _ _ _ _ _
    (fun d => owns_at c _ ((if_neg h).trans ((kept_3 m c t ht d).trans (after_3 m c t).symm)))
    (fun d => owns_at c _ ((if_neg h).trans ((kept_4 m c t ht d).trans (after_4 m c t).symm)))
    (fun d => owns_at c _ ((if_neg h).trans ((kept_5 m c t ht d).trans (after_5 m c t).symm)))
    (fun d => owns_at c _ ((if_neg h).trans ((kept_6 m c t ht d).trans (after_6 m c t).symm)))
    (fun d => owns_at c _ ((if_neg h).trans ((kept_7 m c t ht d).trans (after_7 m c t).symm)))
    (fun d => owns_at c _ ((if_neg h).trans ((kept_8 m c t ht d).trans (after_8 m c t).symm)))
    (fun d d' => owns_at c _ (tile_at m c t ht d d'))

/-- The body table's row at point `t`. -/
theorem row (t : Fin cfg0.N) : defs₀ (F := Ideal) .tc cfg0.body (cfg0.bodyArgs t (cfg0.slots t)) = bodyAt0 t := by
  unfold defs₀; rw [Defs.onTc_tc]

/-- Before the last point nothing the first point formed is written back. -/
theorem not_yet {w : Fin cfg0.W} (hfl : ∀ t : Fin cfg0.N, (cfg0.win w).flush t = true ↔ t.val % 5 = 4) (t : Fin cfg0.N) (h : t.val < 4) :
    (cfg0.win w).flush t = false := Bool.eq_false_iff.mpr fun h' => by have := (hfl t).mp h'; omega

/-- The body's obligation at every point. -/
theorem body_obligation (c : Dev nD) : Pipeline.BodyObligationLoose (dats m 0 c) (defs₀ (F := Ideal)) Variants.none () Set.univ := fun t => by
  have hN : t.val < 5 := lt_of_lt_of_eq t.isLt N_0
  rw [bigSep_W0, bigSep_W0, row]
  by_cases h : t.val = 0
  · rw [idle3_first t h, idle9_first t h, flush_first t h]
    exact triple_restated (sound_first m c t h) rfl .rfl fun _ => .rfl
  · have h1 : 1 ≤ t.val := by omega
    rw [idle3_later t h1, idle9_later t h1]
    by_cases h4 : t.val < 4
    · rw [not_yet flush0_3 t h4, not_yet flush0_4 t h4, not_yet flush0_5 t h4, not_yet flush0_6 t h4, not_yet flush0_7 t h4, not_yet flush0_8 t h4]
      exact triple_restated (sound_middle m c t h1) rfl .rfl fun _ => .rfl
    · rw [(flush0_3 t).mpr (by omega), (flush0_4 t).mpr (by omega), (flush0_5 t).mpr (by omega), (flush0_6 t).mpr (by omega), (flush0_7 t).mpr (by omega), (flush0_8 t).mpr (by omega)]
      exact triple_restated (sound_last m c t h1) rfl .rfl fun _ => .rfl

set_option backward.isDefEq.respectTransparency.types false in
/-- The run: every array as the write-backs leave it, every counter at zero. -/
theorem run_value : θ_run defs (onTc (τ := τ) (main (F := Ideal))) (s₀ m ρ)
    (fun r => Pipeline.FramePost cfgs (dats m) 0 (V m) r ∧ r.2.sem = fun _ => 0) :=
  Pipeline.θ_run_frame_track (Q' := fun r => Pipeline.FramePost cfgs (dats m) 0 (V m) r ∧ r.2.sem = fun _ => 0) cfgs (dats m) (0 : Fin 1) launch0 defs₀ Variants.none m ρ main
    (hbody := fun c => body_obligation m c) (hshare := fun _ _ => ite_self _)
    (howed := fun _ _ => rfl) (V := V m) (hmain := hmain m Variants.none) (hA := A_eq m) (hin := fun _ => .rfl) (hout := fun _ => .rfl)

theorem final3 (c : Dev nD) : (dats m 0 c).arrAt 3 cfg0.N = selections (arg m c main_arg0) :=
  (dats m 0 c).arrAt_eq_of_cover 3 _ (fun t _ => by
    show (cfg0.win 3).cut (grid0.coords t) ((dats m 0 c).after 3 t) = _
    rw [after_3, whole3]
    rfl) covered3
theorem final4 (c : Dev nD) : (dats m 0 c).arrAt 4 cfg0.N = maskOf (arg m c main_arg0) :=
  (dats m 0 c).arrAt_eq_of_cover 4 _ (fun t _ => by
    show (cfg0.win 4).cut (grid0.coords t) ((dats m 0 c).after 4 t) = _
    rw [after_4, whole4]
    rfl) covered4
theorem final5 (c : Dev nD) : (dats m 0 c).arrAt 5 cfg0.N = gatesOf (arg m c main_arg0) :=
  (dats m 0 c).arrAt_eq_of_cover 5 _ (fun t _ => by
    show (cfg0.win 5).cut (grid0.coords t) ((dats m 0 c).after 5 t) = _
    rw [after_5, whole5]
    rfl) covered5
theorem final6 (c : Dev nD) : (dats m 0 c).arrAt 6 cfg0.N = routerLoss (arg m c main_arg0) :=
  (dats m 0 c).arrAt_eq_of_cover 6 _ (fun t _ => by
    show (cfg0.win 6).cut (grid0.coords t) ((dats m 0 c).after 6 t) = _
    rw [after_6, whole6]
    rfl) covered6
theorem final7 (c : Dev nD) : (dats m 0 c).arrAt 7 cfg0.N = zLoss (arg m c main_arg0) :=
  (dats m 0 c).arrAt_eq_of_cover 7 _ (fun t _ => by
    show (cfg0.win 7).cut (grid0.coords t) ((dats m 0 c).after 7 t) = _
    rw [after_7, whole7]
    rfl) covered7
theorem final8 (c : Dev nD) : (dats m 0 c).arrAt 8 cfg0.N = predLoss (arg m c main_arg0) (arg m c main_arg1) :=
  (dats m 0 c).arrAt_eq_of_cover 8 _ (fun t _ => by
    show (cfg0.win 8).cut (grid0.coords t) ((dats m 0 c).after 8 t) = _
    rw [after_8, whole8]
    rfl) covered8
theorem final9 (c : Dev nD) : (dats m 0 c).arrAt 9 cfg0.N = gathered (arg m c main_arg0) (arg m c main_arg2) :=
  (dats m 0 c).arrAt_eq_of_cover 9 _ (fun t _ => by
    show (cfg0.win 9).cut (grid0.coords t) ((dats m 0 c).after 9 t) = _
    rw [after_9]) covered9

/-- The whole run: the results, the arguments as launched, every counter at zero. -/
theorem computes : θ_run defs (onTc (τ := τ) (main (F := Ideal))) ⟨m, fun _ => 0, ρ⟩ (fun r => (∀ c : Dev nD,
      r.2.mem ((c.tc : Thread nD τ).loc main_v0_0) = selections (arg m c main_arg0)
      ∧ r.2.mem ((c.tc : Thread nD τ).loc main_v0_1) = maskOf (arg m c main_arg0)
      ∧ r.2.mem ((c.tc : Thread nD τ).loc main_v0_2) = gatesOf (arg m c main_arg0)
      ∧ r.2.mem ((c.tc : Thread nD τ).loc main_v0_3) = routerLoss (arg m c main_arg0)
      ∧ r.2.mem ((c.tc : Thread nD τ).loc main_v0_4) = zLoss (arg m c main_arg0)
      ∧ r.2.mem ((c.tc : Thread nD τ).loc main_v0_5) = predLoss (arg m c main_arg0) (arg m c main_arg1)
      ∧ r.2.mem ((c.tc : Thread nD τ).loc main_v0_6) = gathered (arg m c main_arg0) (arg m c main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).1 3).trans (final3 m c), ((h.1 c).1 4).trans (final4 m c), ((h.1 c).1 5).trans (final5 m c), ((h.1 c).1 6).trans (final6 m c), ((h.1 c).1 7).trans (final7 m c), ((h.1 c).1 8).trans (final8 m c), ((h.1 c).1 9).trans (final9 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩) (run_value m ρ)

end Cert.C2Ideal.Math

end
-- ==== Proof.R2Value.lean ====
/-
  The routing reference's results, operation by operation, read at an element: they are the kernel's mathematics.
-/
module

public import proofs.«01_k».proof.Proof.C2IdealRoute
public import proofs.«01_k».proof.Proof.Gen.R2Ideal
public import proofs.«01_k».proof.Proof.Gen.R2Ideal.Run

@[expose] public section

set_option maxRecDepth 16384

noncomputable section

namespace Cert.R2Ideal.Math

open Cert.R2Ideal Cert.R2Ideal.Gen
open Idealize.ShloMosaic Idealize.ShloMosaic.StableHlo
open Cert.C2Ideal.Math (key keys flag Picked rank rank_le logit gate bce zloss cmpi_sgt cmpi_slt cmpi_eq select_if count_fold card_le toInt_small one_eq)
open Cert.C2Ideal.Choice (Chosen Beats)
open scoped Classical

variable (w : IVec S2x2048 32) (v l : FVec Ideal S2x2048 .f32) (x : FVec Ideal S2x2048x2048 .bf16)

/-- The keys. -/
def order : IVec S2x2048 32 := (select (cmpi .slt w (broadcastInDim S2x2048 ![] bcast_S_S2x2048 (constantI S_ 32 0#32))) (subi (broadcastInDim S2x2048 ![] bcast_S_S2x2048 (constantI S_ 32 4294967295#32)) (andi w (broadcastInDim S2x2048 ![] bcast_S_S2x2048 (constantI S_ 32 2147483647#32)))) w)
/-- Which of two positions is earlier. -/
def earlier : IVec S2048x2048 1 := (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
/-- How many positions beat each. -/
def beaten (o : IVec S2x2048 32) : IVec S2x2048 32 := (Host.reduce IntOp.addi (extui 32 (ori (cmpi .sgt (broadcastInDim S2x2048x2048 ![0, 1, 2] bcast_S2x1x2048_S2x2048x2048_0_1_2 (broadcastInDim S2x1x2048 ![0, 2] bcast_S2x2048_S2x1x2048_0_2 o)) (broadcastInDim S2x2048x2048 ![0, 1, 2] bcast_S2x2048x1_S2x2048x2048_0_1_2 (broadcastInDim S2x2048x1 ![0, 1] bcast_S2x2048_S2x2048x1_0_1 o))) (andi (cmpi .eq (broadcastInDim S2x2048x2048 ![0, 1, 2] bcast_S2x1x2048_S2x2048x2048_0_1_2 (broadcastInDim S2x1x2048 ![0, 2] bcast_S2x2048_S2x1x2048_0_2 o)) (broadcastInDim S2x2048x2048 ![0, 1, 2] bcast_S2x2048x1_S2x2048x2048_0_1_2 (broadcastInDim S2x2048x1 ![0, 1] bcast_S2x2048_S2x2048x1_0_1 o))) (broadcastInDim S2x2048x2048 ![0, 1, 2] bcast_S1x2048x2048_S2x2048x2048_0_1_2 (broadcastInDim S1x2048x2048 ![1, 2] bcast_S2048x2048_S1x2048x2048_1_2 earlier)))) natLt_1_32) (constantI S_ 32 0#32) reducesTo_S2x2048x2048_S2x2048_d2 h_S_)
/-- The chosen positions. -/
def chosen : IVec S2x2048 1 := (cmpi .slt (beaten (order w)) (broadcastInDim S2x2048 ![] bcast_S_S2x2048 (constantI S_ 32 256#32)))
/-- How many chosen positions are before each. -/
def before : IVec S2x2048 32 := (Host.reduce IntOp.addi (extui 32 (andi (broadcastInDim S2x2048x2048 ![0, 1, 2] bcast_S2x1x2048_S2x2048x2048_0_1_2 (broadcastInDim S2x1x2048 ![0, 2] bcast_S2x2048_S2x1x2048_0_2 (chosen w))) (broadcastInDim S2x2048x2048 ![0, 1, 2] bcast_S1x2048x2048_S2x2048x2048_0_1_2 (broadcastInDim S1x2048x2048 ![1, 2] bcast_S2048x2048_S1x2048x2048_1_2 earlier))) natLt_1_32) (constantI S_ 32 0#32) reducesTo_S2x2048x2048_S2x2048_d2 h_S_)
/-- The selection matrices' flags. -/
def picks : IVec S2x256x2048 1 := (andi (broadcastInDim S2x256x2048 ![0, 1, 2] bcast_S2x1x2048_S2x256x2048_0_1_2 (broadcastInDim S2x1x2048 ![0, 2] bcast_S2x2048_S2x1x2048_0_2 (chosen w))) (cmpi .eq (broadcastInDim S2x256x2048 ![0, 1, 2] bcast_S2x1x2048_S2x256x2048_0_1_2 (broadcastInDim S2x1x2048 ![0, 2] bcast_S2x2048_S2x1x2048_0_2 (before w))) (broadcastInDim S2x256x2048 ![0, 1, 2] bcast_S1x256x1_S2x256x2048_0_1_2 (broadcastInDim S1x256x1 ![1] bcast_S256_S1x256x1_1 (iotaInDim S256 32 0)))))
/-- The mask. -/
def targets : FVec Ideal S2x2048 .f32 := (uitofp .f32 (chosen w))
/-- The selection matrices. -/
def matrices : FVec Ideal S2x256x2048 .f32 := (uitofp .f32 (picks w))
/-- The selection matrices in the narrow format. -/
def narrow : FVec Ideal S2x256x2048 .bf16 := truncf .bf16 (matrices w) bitsLt_bf16_f32
/-- The gates of the chosen positions. -/
def gates : FVec Ideal S2x256 .f32 := Host.dotGeneral dot_S2x256x2048_S2x2048_S2x256_2_1_1_n_0_0 none (matrices w) (Host.divf (broadcastInDim S2x2048 ![] bcast_S_S2x2048 (constant S_ .f32 0x3F800000#32)) (addf (broadcastInDim S2x2048 ![] bcast_S_S2x2048 (constant S_ .f32 0x3F800000#32)) (Host.exp (Host.negf (bitcastToFloat (F := Ideal) .f32 w)))))
/-- The chosen rows. -/
def rows : FVec Ideal S512x2048 .f32 := shapeCast _ (Host.dotGeneral dot_S2x256x2048_S2x2048x2048_S2x256x2048_2_1_1_2_0_0 none (matrices w) (extf .f32 x bitsLt_bf16_f32)) shapeCasts_S2x256x2048_S512x2048
/-- The mean cross entropy of logits against targets. -/
def entropy (g : FVec Ideal S2x2048 .f32) : FVec Ideal S1x1 .f32 := shapeCast _ (Host.divf (Host.reduceAdd (addf (subf (maximumf l (broadcastInDim S2x2048 ![] bcast_S_S2x2048 (constant S_ .f32 0x00000000#32))) (mulf l g)) (Host.log1p (Host.exp (Host.negf (Host.absf l))))) (constant S_ .f32 0x00000000#32) reducesTo_S2x2048_S_d0_1 h_S_) (constant S_ .f32 0x45800000#32)) shapeCasts_S_S1x1
/-- The mean squared logit, times its weight. -/
def squares : FVec Ideal S1x1 .f32 := shapeCast _ (mulf (Host.divf (Host.reduceAdd (mulf l l) (constant S_ .f32 0x00000000#32) reducesTo_S2x2048_S_d0_1 h_S_) (constant S_ .f32 0x45800000#32)) (constant S_ .f32 0x38D1B717#32)) shapeCasts_S_S1x1

variable (b : Fin 2) (t s : Fin 2048)

/-- A negative word's place below zero, by its magnitude: its other bits inverted. -/
theorem below_zero (u : BitVec 32) (h : u.toInt < 0) : IntOp.subi 4294967295#32 (IntOp.andi u 2147483647#32) = u ^^^ 2147483647#32 := by
  have hm : u.msb = true := BitVec.msb_eq_toInt.trans (decide_eq_true h)
  show BitVec.allOnes 32 - (u &&& 2147483647#32) = _
  rw [BitVec.allOnes_sub_eq_not]
  refine BitVec.eq_of_getLsbD_eq fun i hi => ?_
  have hb : (2147483647#32).getLsbD i = decide (i < 31) := by
    have : ∀ k : Fin 32, (2147483647#32).getLsbD k.val = decide (k.val < 31) := by decide
    exact this ⟨i, hi⟩
  rw [BitVec.getLsbD_not, BitVec.getLsbD_and, BitVec.getLsbD_xor, hb, decide_eq_true hi]
  by_cases h31 : i < 31
  · rw [decide_eq_true h31]; simp
  · obtain rfl : i = 31 := by omega
    have : u.getLsbD 31 = true := by rw [← hm, BitVec.msb_eq_getLsbD_last]
    rw [this]; rfl
theorem order_at : order w (ix2 b t) = key w b t := by
  pointwise [order]
  rw [cmpi_slt, select_if]
  unfold key
  by_cases h : 0 ≤ (w (ix2 b t)).toInt
  · rw [if_pos h, if_neg (by show ¬ _ < (0 : ℤ); omega)]
  · rw [if_neg h, if_pos (by show _ < (0 : ℤ); omega)]
    exact below_zero _ (by omega)
theorem earlier_at : earlier (ix2 t s) = BitVec.ofBool (decide (s.val < t.val)) := by
  pointwise [earlier]
  rw [cmpi_slt, toInt_small (by omega), toInt_small (by omega)]
  simp only [Nat.cast_lt]
/-- Two flags' disjunction and conjunction. -/
theorem bit_or (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]
theorem bit_and (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]
theorem beaten_at : beaten (order w) (ix2 b t) = BitVec.ofNat 32 (Finset.univ.filter (Beats (keys w b) t)).card := by
  pointwise [beaten]
  simp only [order_at, earlier_at, cmpi_sgt, cmpi_eq, bit_and, bit_or, count_fold]
  congr 2
  ext s
  simp only [Finset.mem_filter, Finset.mem_univ, true_and]
  rfl
theorem chosen_at : chosen w (ix2 b t) = BitVec.ofBool (decide (Chosen (keys w b) t)) := by
  pointwise [chosen]
  rw [beaten_at, cmpi_slt, toInt_small (card_le _), show (256#32).toInt = ((256 : ℕ) : ℤ) from rfl]
  simp only [Nat.cast_lt]
  exact congrArg BitVec.ofBool (decide_eq_decide.mpr Iff.rfl)
theorem before_at : before w (ix2 b t) = BitVec.ofNat 32 (rank w b t) := by
  pointwise [before]
  simp only [chosen_at, earlier_at, bit_and, count_fold]
  unfold rank
  congr 2
  ext s
  simp only [Finset.mem_filter, Finset.mem_univ, true_and]
  exact and_comm
theorem picks_at (k : Fin 256) : picks w (ix3 b k t) = BitVec.ofBool (decide (Picked w b k.val t)) := by
  pointwise [picks]
  rw [chosen_at, before_at, cmpi_eq, toInt_small (rank_le w b t), toInt_small (by omega), bit_and]
  simp only [Nat.cast_inj]
  exact congrArg BitVec.ofBool (decide_eq_decide.mpr Iff.rfl)
/-- A flag as a float. -/
theorem flag_ui (p : Prop) [Decidable p] : (FloatOps.uitofp (F := Ideal) FTy.f32 (BitVec.ofBool (decide p)) : EReal) = flag p := by
  unfold flag
  by_cases h : p
  · rw [decide_eq_true h, if_pos h]
    show (((BitVec.ofBool true).toNat : ℝ) : EReal) = 1
    rw [show (BitVec.ofBool true).toNat = 1 from rfl]; norm_num
  · rw [decide_eq_false h, if_neg h]
    show (((BitVec.ofBool false).toNat : ℝ) : EReal) = 0
    rw [show (BitVec.ofBool false).toNat = 0 from rfl]; norm_num
theorem targets_at : targets w (ix2 b t) = flag (Chosen (keys w b) t) := by
  pointwise [targets]
  rw [chosen_at, flag_ui]
theorem matrices_at (k : Fin 256) : matrices w (ix3 b k t) = flag (Picked w b k.val t) := by
  pointwise [matrices]
  rw [picks_at, flag_ui]
theorem narrow_at (k : Fin 256) : narrow w (ix3 b k t) = flag (Picked w b k.val t) := by
  pointwise [narrow]
  rw [matrices_at]
theorem gates_at (k : Fin 256) : gates w (ix2 b k) = ∑ t : Fin 2048, flag (Picked w b k.val t) * gate w b t := by
  pointwise [gates]
  simp only [matrices_at]
  rfl
theorem rows_at (k : Fin 256) (d : Fin 2048) :
    rows w x (ix2 ⟨b.val * 256 + k.val, by omega⟩ d) = ∑ t : Fin 2048, flag (Picked w b k.val t) * x (ix3 b t d) := by
  pointwise [rows]
  simp only [matrices_at]
theorem entropy_at : entropy l (targets w) (ix2 0 0) = bce (fun b t => l (ix2 b t)) w := by
  pointwise [entropy]
  simp only [targets_at]
  rfl
theorem squares_at : squares (bitcastToFloat (F := Ideal) .f32 w) (ix2 0 0) = zloss w := by
  pointwise [squares]
  rfl

end Cert.R2Ideal.Math

end
-- ==== Proof.Claims2.lean ====
/-
  The selection call's five claims.
-/
module

public import proofs.«01_k».proof.Defs
public import proofs.«01_k».proof.Proof.C2Frame
public import proofs.«01_k».proof.Proof.C2IdealValue
public import proofs.«01_k».proof.Proof.R2Value

@[expose] public section

set_option maxRecDepth 16384

noncomputable section

namespace Cert.Proof

open Idealize.ShloMosaic Idealize.ShloMosaic.TcCoe Idealize.SL.Sem

/-- The compiled selection kernel runs and leaves its arguments and counters as launched. -/
theorem frame_C2 : Cert.quiescent_C2 := fun m ρ _ => Cert.C2.Run.unchanged m ρ

/-- So does its reading over the extended reals. -/
theorem frame_C2Ideal : Cert.quiescent_C2Ideal := fun m ρ _ =>
  (θ_run Cert.C2Ideal.defs _ _).mono (fun r h => ⟨fun c => (h.1 c).2.2.2.2.2.2.2, h.2⟩) (Cert.C2Ideal.Math.computes m ρ)

/-- So does the reference, which declares no semaphore. -/
theorem frame_R2Ideal : Cert.quiescent_R2Ideal := fun m ρ _ =>
  (θ_run Cert.R2Ideal.defs _ _).mono (fun r h => ⟨fun c => (h c).2.2.2.2.2.2.2, Idealize.ShloMosaic.sem_eq_zero_of_no_sems (by decide) r.2⟩)
    (Cert.R2Ideal.Value.run (F := Ideal) m ρ)

section Terms

variable (w : Vec Ideal Cert.C2Ideal.S2x2048 .i32) (v : Vec Ideal Cert.C2Ideal.S2x2048 .f32) (x : Vec Ideal Cert.C2Ideal.S2x2048x2048 .bf16)

/-! The reference's terms of the kernel's arguments are the kernel's results. -/

theorem selections_eq : Cert.R2Ideal.Math.narrow w = Cert.C2Ideal.Math.selections w := by
  funext j
  obtain ⟨b, k, t, rfl⟩ : ∃ (b : Fin 2) (k : Fin 256) (t : Fin 2048), j = ix3 b k t := ⟨j 0, j 1, j 2, eq_ix3 j⟩
  rw [Cert.R2Ideal.Math.narrow_at]
  rfl
theorem mask_eq : Cert.R2Ideal.Math.targets w = Cert.C2Ideal.Math.maskOf w := by
  funext j
  obtain ⟨b, t, rfl⟩ : ∃ (b : Fin 2) (t : Fin 2048), j = ix2 b t := ⟨j 0, j 1, eq_ix2 j⟩
  rw [Cert.R2Ideal.Math.targets_at]
  rfl
theorem gates_eq : Cert.R2Ideal.Math.gates w = Cert.C2Ideal.Math.gatesOf w := by
  funext j
  obtain ⟨b, k, rfl⟩ : ∃ (b : Fin 2) (k : Fin 256), j = ix2 b k := ⟨j 0, j 1, eq_ix2 j⟩
  rw [Cert.R2Ideal.Math.gates_at]
  rfl
theorem routerLoss_eq : Cert.R2Ideal.Math.entropy (bitcastToFloat (F := Ideal) .f32 w) (Cert.R2Ideal.Math.targets w) = Cert.C2Ideal.Math.routerLoss w := by
  funext j
  rw [Cert.C2Ideal.Math.eq_one j, Cert.R2Ideal.Math.entropy_at]
  rfl
theorem zLoss_eq : Cert.R2Ideal.Math.squares (bitcastToFloat (F := Ideal) .f32 w) = Cert.C2Ideal.Math.zLoss w := by
  funext j
  rw [Cert.C2Ideal.Math.eq_one j, Cert.R2Ideal.Math.squares_at]
  rfl
theorem predLoss_eq : Cert.R2Ideal.Math.entropy v (Cert.R2Ideal.Math.targets w) = Cert.C2Ideal.Math.predLoss w v := by
  funext j
  rw [Cert.C2Ideal.Math.eq_one j, Cert.R2Ideal.Math.entropy_at]
  rfl
theorem gathered_eq : Cert.R2Ideal.Math.rows w x = Cert.C2Ideal.Math.gathered w x := by
  funext j
  obtain ⟨b, k, d, rfl⟩ : ∃ (b : Fin 2) (k : Fin 256) (d : Fin 2048), j = ix2 ⟨b.val * 256 + k.val, by omega⟩ d := by
    have h0 : (j 0).val < 512 := (j 0).isLt
    refine ⟨⟨(j 0).val / 256, by omega⟩, ⟨(j 0).val % 256, by omega⟩, j 1, (eq_ix2 j).trans ?_⟩
    congr 1
    exact Fin.ext (by show (j 0).val = (j 0).val / 256 * 256 + (j 0).val % 256; omega)
  rw [Cert.R2Ideal.Math.rows_at, Cert.C2Ideal.Math.gathered_at]

end Terms

/-- No operation is rewritten. -/
theorem preserves2 : Cert.preserves_C2_C2Ideal := trivial

/-- The selection kernel and the reference compute the same values over the extended reals. -/
theorem algebraic2 : Cert.algebraic_C2Ideal_R2Ideal := by
  intro m ρ m' ρ' _ hag
  refine ⟨fun c => _, fun c => _, fun c => _, fun c => _, fun c => _, fun c => _, fun c => _,
    (θ_run Cert.C2Ideal.defs _ _).mono (fun r h => h.1) (Cert.C2Ideal.Math.computes m ρ), ?_⟩
  refine (θ_run Cert.R2Ideal.defs _ _).mono (fun r h c => ?_) (Cert.R2Ideal.Value.run (F := Ideal) m' ρ')
  obtain ⟨e0, e1, e2⟩ := hag c
  obtain ⟨h0, h1, h2, h3, h4, h5, h6, ha⟩ := h c
  refine ⟨h0.trans (Eq.trans ?_ (selections_eq _)), h1.trans (Eq.trans ?_ (mask_eq _)), h2.trans (Eq.trans ?_ (gates_eq _)),
    h3.trans (Eq.trans ?_ (routerLoss_eq _)), h4.trans (Eq.trans ?_ (zLoss_eq _)), h5.trans (Eq.trans ?_ (predLoss_eq _ _)),
    h6.trans (Eq.trans ?_ (gathered_eq _ _)), ha⟩
  · unfold Cert.R2Ideal.Value.res_main_v85
    rw [e0]
    rfl
  · rw [e0]
    rfl
  · unfold Cert.R2Ideal.Value.res_main_v56
    rw [e0]
    rfl
  · rw [e0]
    rfl
  · rw [e0]
    rfl
  · rw [e0, e1]
    rfl
  · unfold Cert.R2Ideal.Value.res_main_v89
    rw [e0, e2]
    rfl

end Cert.Proof

end
-- ==== Proof.lean ====
/-
  The certificate: every claim of `Cert.Claim`, each from its own module.
-/
module

public import proofs.«01_k».proof.Defs
public import proofs.«01_k».proof.Proof.Claims4
public import proofs.«01_k».proof.Proof.Claims3
public import proofs.«01_k».proof.Proof.Claims1
public import proofs.«01_k».proof.Proof.Claims2
public import Idealize.ShloMosaic.Adequacy
public import Idealize.ShloMosaic.Init

@[expose] public section

noncomputable section

namespace Cert.Proof

open Idealize.ShloMosaic Idealize.SL.Sem

/-- Every claim of the certificate holds. -/
theorem claim : Cert.Claim :=
  ⟨Cert.C4.Gen.facts, Cert.C4Ideal.Gen.facts, Cert.R4Ideal.Gen.facts, Cert.C3.Gen.facts, Cert.C3Ideal.Gen.facts, Cert.R3Ideal.Gen.facts, Cert.C1.Gen.facts, Cert.C1Ideal.Gen.facts, Cert.R1Ideal.Gen.facts, Cert.C2.Gen.facts, Cert.C2Ideal.Gen.facts, Cert.R2Ideal.Gen.facts,
    frame_C4,
    frame_C4Ideal,
    frame_R4Ideal,
    frame_C3,
    frame_C3Ideal,
    frame_R3Ideal,
    frame_C1,
    frame_C1Ideal,
    frame_R1Ideal,
    frame_C2,
    frame_C2Ideal,
    frame_R2Ideal,
    trivial,
    algebraic4,
    preserves3,
    algebraic3,
    trivial,
    algebraic1,
    preserves2,
    algebraic2⟩

end Cert.Proof

end
